-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_KernelQkv (m : (ℓ : Loc Cert.KernelQkv.nD Cert.KernelQkv.τ Cert.KernelQkv.sig) → Buf (Elt Bits) ℓ) : Prop :=
  True

def Pre_KernelQkvIdeal (m : (ℓ : Loc Cert.KernelQkvIdeal.nD Cert.KernelQkvIdeal.τ Cert.KernelQkvIdeal.sig) → Buf (Elt Ideal) ℓ) : Prop :=
  True

def Pre_ReferenceQkvIdeal (m : (ℓ : Loc Cert.ReferenceQkvIdeal.nD Cert.ReferenceQkvIdeal.τ Cert.ReferenceQkvIdeal.sig) → Buf (Elt Ideal) ℓ) : Prop :=
  True

def Pre_KernelGates (m : (ℓ : Loc Cert.KernelGates.nD Cert.KernelGates.τ Cert.KernelGates.sig) → Buf (Elt Bits) ℓ) : Prop :=
  True

def Pre_KernelGatesIdeal (m : (ℓ : Loc Cert.KernelGatesIdeal.nD Cert.KernelGatesIdeal.τ Cert.KernelGatesIdeal.sig) → Buf (Elt Ideal) ℓ) : Prop :=
  True

def Pre_ReferenceGatesIdeal (m : (ℓ : Loc Cert.ReferenceGatesIdeal.nD Cert.ReferenceGatesIdeal.τ Cert.ReferenceGatesIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_KernelQkv [hKernelQkv : Cert.KernelQkv.Facts] : Prop :=
  ∀ (m : (ℓ : Loc Cert.KernelQkv.nD Cert.KernelQkv.τ Cert.KernelQkv.sig) → Buf (Elt Bits) ℓ) (g : Dev Cert.KernelQkv.nD → PrngReg), Pre_KernelQkv m →
    θ_run (Cert.KernelQkv.defs (F := Bits)) (onTc (τ := Cert.KernelQkv.τ) (Cert.KernelQkv.main (F := Bits))) ⟨m, fun _ => 0, g⟩ (fun r => (∀ c : Dev Cert.KernelQkv.nD,
      r.2.mem ((c.tc : Thread Cert.KernelQkv.nD Cert.KernelQkv.τ).loc Cert.KernelQkv.main_arg0) = m ((c.tc : Thread Cert.KernelQkv.nD Cert.KernelQkv.τ).loc Cert.KernelQkv.main_arg0)
      ∧ r.2.mem ((c.tc : Thread Cert.KernelQkv.nD Cert.KernelQkv.τ).loc Cert.KernelQkv.main_arg1) = m ((c.tc : Thread Cert.KernelQkv.nD Cert.KernelQkv.τ).loc Cert.KernelQkv.main_arg1))
      ∧ r.2.sem = fun _ => 0)

def quiescent_KernelQkvIdeal [hKernelQkvIdeal : Cert.KernelQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg), Pre_KernelQkvIdeal m →
    θ_run (Cert.KernelQkvIdeal.defs (F := Ideal)) (onTc (τ := Cert.KernelQkvIdeal.τ) (Cert.KernelQkvIdeal.main (F := Ideal))) ⟨m, fun _ => 0, g⟩ (fun r => (∀ c : Dev Cert.KernelQkvIdeal.nD,
      r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
      ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1))
      ∧ r.2.sem = fun _ => 0)

def quiescent_ReferenceQkvIdeal [hReferenceQkvIdeal : Cert.ReferenceQkvIdeal.Facts] : Prop :=
  ∀ (m : (ℓ : Loc Cert.ReferenceQkvIdeal.nD Cert.ReferenceQkvIdeal.τ Cert.ReferenceQkvIdeal.sig) → Buf (Elt Ideal) ℓ) (g : Dev Cert.ReferenceQkvIdeal.nD → PrngReg), Pre_ReferenceQkvIdeal m →
    θ_run (Cert.ReferenceQkvIdeal.defs (F := Ideal)) (onTc (τ := Cert.ReferenceQkvIdeal.τ) (Cert.ReferenceQkvIdeal.main (F := Ideal))) ⟨m, fun _ => 0, g⟩ (fun r => (∀ c : Dev Cert.ReferenceQkvIdeal.nD,
      r.2.mem ((c.tc : Thread Cert.ReferenceQkvIdeal.nD Cert.ReferenceQkvIdeal.τ).loc Cert.ReferenceQkvIdeal.main_arg0) = m ((c.tc : Thread Cert.ReferenceQkvIdeal.nD Cert.ReferenceQkvIdeal.τ).loc Cert.ReferenceQkvIdeal.main_arg0)
      ∧ r.2.mem ((c.tc : Thread Cert.ReferenceQkvIdeal.nD Cert.ReferenceQkvIdeal.τ).loc Cert.ReferenceQkvIdeal.main_arg1) = m ((c.tc : Thread Cert.ReferenceQkvIdeal.nD Cert.ReferenceQkvIdeal.τ).loc Cert.ReferenceQkvIdeal.main_arg1))
      ∧ r.2.sem = fun _ => 0)

def quiescent_KernelGates [hKernelGates : Cert.KernelGates.Facts] : Prop :=
  ∀ (m : (ℓ : Loc Cert.KernelGates.nD Cert.KernelGates.τ Cert.KernelGates.sig) → Buf (Elt Bits) ℓ) (g : Dev Cert.KernelGates.nD → PrngReg), Pre_KernelGates m →
    θ_run (Cert.KernelGates.defs (F := Bits)) (onTc (τ := Cert.KernelGates.τ) (Cert.KernelGates.main (F := Bits))) ⟨m, fun _ => 0, g⟩ (fun r => (∀ c : Dev Cert.KernelGates.nD,
      r.2.mem ((c.tc : Thread Cert.KernelGates.nD Cert.KernelGates.τ).loc Cert.KernelGates.main_arg0) = m ((c.tc : Thread Cert.KernelGates.nD Cert.KernelGates.τ).loc Cert.KernelGates.main_arg0)
      ∧ r.2.mem ((c.tc : Thread Cert.KernelGates.nD Cert.KernelGates.τ).loc Cert.KernelGates.main_arg1) = m ((c.tc : Thread Cert.KernelGates.nD Cert.KernelGates.τ).loc Cert.KernelGates.main_arg1))
      ∧ r.2.sem = fun _ => 0)

def quiescent_KernelGatesIdeal [hKernelGatesIdeal : Cert.KernelGatesIdeal.Facts] : Prop :=
  ∀ (m : (ℓ : Loc Cert.KernelGatesIdeal.nD Cert.KernelGatesIdeal.τ Cert.KernelGatesIdeal.sig) → Buf (Elt Ideal) ℓ) (g : Dev Cert.KernelGatesIdeal.nD → PrngReg), Pre_KernelGatesIdeal m →
    θ_run (Cert.KernelGatesIdeal.defs (F := Ideal)) (onTc (τ := Cert.KernelGatesIdeal.τ) (Cert.KernelGatesIdeal.main (F := Ideal))) ⟨m, fun _ => 0, g⟩ (fun r => (∀ c : Dev Cert.KernelGatesIdeal.nD,
      r.2.mem ((c.tc : Thread Cert.KernelGatesIdeal.nD Cert.KernelGatesIdeal.τ).loc Cert.KernelGatesIdeal.main_arg0) = m ((c.tc : Thread Cert.KernelGatesIdeal.nD Cert.KernelGatesIdeal.τ).loc Cert.KernelGatesIdeal.main_arg0)
      ∧ r.2.mem ((c.tc : Thread Cert.KernelGatesIdeal.nD Cert.KernelGatesIdeal.τ).loc Cert.KernelGatesIdeal.main_arg1) = m ((c.tc : Thread Cert.KernelGatesIdeal.nD Cert.KernelGatesIdeal.τ).loc Cert.KernelGatesIdeal.main_arg1))
      ∧ r.2.sem = fun _ => 0)

def quiescent_ReferenceGatesIdeal [hReferenceGatesIdeal : Cert.ReferenceGatesIdeal.Facts] : Prop :=
  ∀ (m : (ℓ : Loc Cert.ReferenceGatesIdeal.nD Cert.ReferenceGatesIdeal.τ Cert.ReferenceGatesIdeal.sig) → Buf (Elt Ideal) ℓ) (g : Dev Cert.ReferenceGatesIdeal.nD → PrngReg), Pre_ReferenceGatesIdeal m →
    θ_run (Cert.ReferenceGatesIdeal.defs (F := Ideal)) (onTc (τ := Cert.ReferenceGatesIdeal.τ) (Cert.ReferenceGatesIdeal.main (F := Ideal))) ⟨m, fun _ => 0, g⟩ (fun r => (∀ c : Dev Cert.ReferenceGatesIdeal.nD,
      r.2.mem ((c.tc : Thread Cert.ReferenceGatesIdeal.nD Cert.ReferenceGatesIdeal.τ).loc Cert.ReferenceGatesIdeal.main_arg0) = m ((c.tc : Thread Cert.ReferenceGatesIdeal.nD Cert.ReferenceGatesIdeal.τ).loc Cert.ReferenceGatesIdeal.main_arg0)
      ∧ r.2.mem ((c.tc : Thread Cert.ReferenceGatesIdeal.nD Cert.ReferenceGatesIdeal.τ).loc Cert.ReferenceGatesIdeal.main_arg1) = m ((c.tc : Thread Cert.ReferenceGatesIdeal.nD Cert.ReferenceGatesIdeal.τ).loc Cert.ReferenceGatesIdeal.main_arg1))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v54_0)) (v1 : (c : Dev Cert.KernelIdeal.nD) → Buf (Elt Ideal) ((c.tc : Thread Cert.KernelIdeal.nD Cert.KernelIdeal.τ).loc Cert.KernelIdeal.main_v54_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54_0) = v0 c
          ∧ r.2.mem ((c.tc : Thread Cert.KernelIdeal.nD Cert.KernelIdeal.τ).loc Cert.KernelIdeal.main_v54_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_v154) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_KernelQkv_KernelQkvIdeal : Prop :=
  True

def algebraic_KernelQkvIdeal_ReferenceQkvIdeal [hKernelQkvIdeal : Cert.KernelQkvIdeal.Facts] [hReferenceQkvIdeal : Cert.ReferenceQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg)
    (m' : (ℓ : Loc Cert.ReferenceQkvIdeal.nD Cert.ReferenceQkvIdeal.τ Cert.ReferenceQkvIdeal.sig) → Buf (Elt Ideal) ℓ) (g' : Dev Cert.ReferenceQkvIdeal.nD → PrngReg), Pre_KernelQkvIdeal m →
    (∀ c : Dev Cert.KernelQkvIdeal.nD,
      m' ((c.tc : Thread Cert.ReferenceQkvIdeal.nD Cert.ReferenceQkvIdeal.τ).loc Cert.ReferenceQkvIdeal.main_arg0) = m ((c.tc : Thread Cert.KernelQkvIdeal.nD Cert.KernelQkvIdeal.τ).loc Cert.KernelQkvIdeal.main_arg0)
      ∧ m' ((c.tc : Thread Cert.ReferenceQkvIdeal.nD Cert.ReferenceQkvIdeal.τ).loc Cert.ReferenceQkvIdeal.main_arg1) = m ((c.tc : Thread Cert.KernelQkvIdeal.nD Cert.KernelQkvIdeal.τ).loc Cert.KernelQkvIdeal.main_arg1)) →
    ∃ (v0 : (c : Dev Cert.KernelQkvIdeal.nD) → Buf (Elt Ideal) ((c.tc : Thread Cert.KernelQkvIdeal.nD Cert.KernelQkvIdeal.τ).loc Cert.KernelQkvIdeal.main_v0)),
      θ_run (Cert.KernelQkvIdeal.defs (F := Ideal)) (onTc (τ := Cert.KernelQkvIdeal.τ) (Cert.KernelQkvIdeal.main (F := Ideal))) ⟨m, fun _ => 0, g⟩ (fun r => ∀ c : Dev Cert.KernelQkvIdeal.nD,
          r.2.mem ((c.tc : Thread Cert.KernelQkvIdeal.nD Cert.KernelQkvIdeal.τ).loc Cert.KernelQkvIdeal.main_v0) = v0 c
          ∧ r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
          ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1))
      ∧ θ_run (Cert.ReferenceQkvIdeal.defs (F := Ideal)) (onTc (τ := Cert.ReferenceQkvIdeal.τ) (Cert.ReferenceQkvIdeal.main (F := Ideal))) ⟨m', fun _ => 0, g'⟩ (fun r => ∀ c : Dev Cert.ReferenceQkvIdeal.nD,
          r.2.mem ((c.tc : Thread Cert.ReferenceQkvIdeal.nD Cert.ReferenceQkvIdeal.τ).loc Cert.ReferenceQkvIdeal.main_v4) = v0 c
          ∧ r.2.mem ((c.tc : Thread Cert.ReferenceQkvIdeal.nD Cert.ReferenceQkvIdeal.τ).loc Cert.ReferenceQkvIdeal.main_arg0) = m' ((c.tc : Thread Cert.ReferenceQkvIdeal.nD Cert.ReferenceQkvIdeal.τ).loc Cert.ReferenceQkvIdeal.main_arg0)
          ∧ r.2.mem ((c.tc : Thread Cert.ReferenceQkvIdeal.nD Cert.ReferenceQkvIdeal.τ).loc Cert.ReferenceQkvIdeal.main_arg1) = m' ((c.tc : Thread Cert.ReferenceQkvIdeal.nD Cert.ReferenceQkvIdeal.τ).loc Cert.ReferenceQkvIdeal.main_arg1))

def preserves_KernelGates_KernelGatesIdeal : Prop :=
  True

def algebraic_KernelGatesIdeal_ReferenceGatesIdeal [hKernelGatesIdeal : Cert.KernelGatesIdeal.Facts] [hReferenceGatesIdeal : Cert.ReferenceGatesIdeal.Facts] : Prop :=
  ∀ (m : (ℓ : Loc Cert.KernelGatesIdeal.nD Cert.KernelGatesIdeal.τ Cert.KernelGatesIdeal.sig) → Buf (Elt Ideal) ℓ) (g : Dev Cert.KernelGatesIdeal.nD → PrngReg)
    (m' : (ℓ : Loc Cert.ReferenceGatesIdeal.nD Cert.ReferenceGatesIdeal.τ Cert.ReferenceGatesIdeal.sig) → Buf (Elt Ideal) ℓ) (g' : Dev Cert.ReferenceGatesIdeal.nD → PrngReg), Pre_KernelGatesIdeal m →
    (∀ c : Dev Cert.KernelGatesIdeal.nD,
      m' ((c.tc : Thread Cert.ReferenceGatesIdeal.nD Cert.ReferenceGatesIdeal.τ).loc Cert.ReferenceGatesIdeal.main_arg0) = m ((c.tc : Thread Cert.KernelGatesIdeal.nD Cert.KernelGatesIdeal.τ).loc Cert.KernelGatesIdeal.main_arg0)
      ∧ m' ((c.tc : Thread Cert.ReferenceGatesIdeal.nD Cert.ReferenceGatesIdeal.τ).loc Cert.ReferenceGatesIdeal.main_arg1) = m ((c.tc : Thread Cert.KernelGatesIdeal.nD Cert.KernelGatesIdeal.τ).loc Cert.KernelGatesIdeal.main_arg1)) →
    ∃ (v0 : (c : Dev Cert.KernelGatesIdeal.nD) → Buf (Elt Ideal) ((c.tc : Thread Cert.KernelGatesIdeal.nD Cert.KernelGatesIdeal.τ).loc Cert.KernelGatesIdeal.main_v0)),
      θ_run (Cert.KernelGatesIdeal.defs (F := Ideal)) (onTc (τ := Cert.KernelGatesIdeal.τ) (Cert.KernelGatesIdeal.main (F := Ideal))) ⟨m, fun _ => 0, g⟩ (fun r => ∀ c : Dev Cert.KernelGatesIdeal.nD,
          r.2.mem ((c.tc : Thread Cert.KernelGatesIdeal.nD Cert.KernelGatesIdeal.τ).loc Cert.KernelGatesIdeal.main_v0) = v0 c
          ∧ r.2.mem ((c.tc : Thread Cert.KernelGatesIdeal.nD Cert.KernelGatesIdeal.τ).loc Cert.KernelGatesIdeal.main_arg0) = m ((c.tc : Thread Cert.KernelGatesIdeal.nD Cert.KernelGatesIdeal.τ).loc Cert.KernelGatesIdeal.main_arg0)
          ∧ r.2.mem ((c.tc : Thread Cert.KernelGatesIdeal.nD Cert.KernelGatesIdeal.τ).loc Cert.KernelGatesIdeal.main_arg1) = m ((c.tc : Thread Cert.KernelGatesIdeal.nD Cert.KernelGatesIdeal.τ).loc Cert.KernelGatesIdeal.main_arg1))
      ∧ θ_run (Cert.ReferenceGatesIdeal.defs (F := Ideal)) (onTc (τ := Cert.ReferenceGatesIdeal.τ) (Cert.ReferenceGatesIdeal.main (F := Ideal))) ⟨m', fun _ => 0, g'⟩ (fun r => ∀ c : Dev Cert.ReferenceGatesIdeal.nD,
          r.2.mem ((c.tc : Thread Cert.ReferenceGatesIdeal.nD Cert.ReferenceGatesIdeal.τ).loc Cert.ReferenceGatesIdeal.main_v9) = v0 c
          ∧ r.2.mem ((c.tc : Thread Cert.ReferenceGatesIdeal.nD Cert.ReferenceGatesIdeal.τ).loc Cert.ReferenceGatesIdeal.main_arg0) = m' ((c.tc : Thread Cert.ReferenceGatesIdeal.nD Cert.ReferenceGatesIdeal.τ).loc Cert.ReferenceGatesIdeal.main_arg0)
          ∧ r.2.mem ((c.tc : Thread Cert.ReferenceGatesIdeal.nD Cert.ReferenceGatesIdeal.τ).loc Cert.ReferenceGatesIdeal.main_arg1) = m' ((c.tc : Thread Cert.ReferenceGatesIdeal.nD Cert.ReferenceGatesIdeal.τ).loc Cert.ReferenceGatesIdeal.main_arg1))

def Claim : Prop :=
  ∃ (hKernel : Cert.Kernel.Facts) (hKernelIdeal : Cert.KernelIdeal.Facts) (hReferenceIdeal : Cert.ReferenceIdeal.Facts) (hKernelQkv : Cert.KernelQkv.Facts) (hKernelQkvIdeal : Cert.KernelQkvIdeal.Facts) (hReferenceQkvIdeal : Cert.ReferenceQkvIdeal.Facts) (hKernelGates : Cert.KernelGates.Facts) (hKernelGatesIdeal : Cert.KernelGatesIdeal.Facts) (hReferenceGatesIdeal : Cert.ReferenceGatesIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelQkv (hKernelQkv := hKernelQkv)
    ∧ quiescent_KernelQkvIdeal (hKernelQkvIdeal := hKernelQkvIdeal)
    ∧ quiescent_ReferenceQkvIdeal (hReferenceQkvIdeal := hReferenceQkvIdeal)
    ∧ quiescent_KernelGates (hKernelGates := hKernelGates)
    ∧ quiescent_KernelGatesIdeal (hKernelGatesIdeal := hKernelGatesIdeal)
    ∧ quiescent_ReferenceGatesIdeal (hReferenceGatesIdeal := hReferenceGatesIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelQkv_KernelQkvIdeal
    ∧ algebraic_KernelQkvIdeal_ReferenceQkvIdeal (hKernelQkvIdeal := hKernelQkvIdeal) (hReferenceQkvIdeal := hReferenceQkvIdeal)
    ∧ preserves_KernelGates_KernelGatesIdeal
    ∧ algebraic_KernelGatesIdeal_ReferenceGatesIdeal (hKernelGatesIdeal := hKernelGatesIdeal) (hReferenceGatesIdeal := hReferenceGatesIdeal)
-- ==== Pre_finite.lean ====
abbrev S4x2048x6144 : Shape := ⟨3, ![4, 2048, 6144]⟩
abbrev S1x64 : Shape := ⟨2, ![1, 64]⟩
abbrev S1x128 : Shape := ⟨2, ![1, 128]⟩
abbrev S32x8 : Shape := ⟨2, ![32, 8]⟩
abbrev S_ : Shape := ⟨0, ![]⟩

class Facts : Prop where
  bitsLt_bf16_f32 : FTy.bits .bf16 < FTy.bits .f32
  bcast_S_S4x2048x6144 : S_.BroadcastsInDim S4x2048x6144 (![] : Fin 0 → Fin S4x2048x6144.rank)
  reducesTo_S4x2048x6144_S_d0_1_2 : S4x2048x6144.ReducesTo [0, 1, 2] S_
  h_S_ : 0 < S_.numel
  bcast_S_S1x64 : S_.BroadcastsInDim S1x64 (![] : Fin 0 → Fin S1x64.rank)
  reducesTo_S1x64_S_d0_1 : S1x64.ReducesTo [0, 1] S_
  bcast_S_S32x8 : S_.BroadcastsInDim S32x8 (![] : Fin 0 → Fin S32x8.rank)
  reducesTo_S32x8_S_d0_1 : S32x8.ReducesTo [0, 1] S_

variable [Facts]

def fn_part1 {F : FTy → Type} [FloatOps F] (main_arg4 : FVec F S1x64 .f32) (main_arg6 : FVec F S32x8 .f32) (main_v14 : IVec S_ 1) (main_v15 : FVec F S1x64 .f32) (main_v16 : FVec F S1x64 .f32) : IVec S_ 1 :=
  let main_v17 : IVec S1x64 1 := cmpf .olt main_v15 main_v16
  let main_c_5 : IVec S_ 1 := constantI S_ 1 1#1
  let main_v18 : IVec S_ 1 := (fun x v => Host.reduce IntOp.andi x v reducesTo_S1x64_S_d0_1 h_S_) main_v17 main_c_5
  let main_v19 : IVec S_ 1 := andi main_v14 main_v18
  let main_v20 : FVec F S1x64 .f32 := Host.absf main_arg4
  let main_cst_6 : FVec F S_ .f32 := constant S_ .f32 0x7F800000#32
  let main_v21 : FVec F S1x64 .f32 := broadcastInDim S1x64 ![] bcast_S_S1x64 main_cst_6
  let main_v22 : IVec S1x64 1 := cmpf .olt main_v20 main_v21
  let main_c_7 : IVec S_ 1 := constantI S_ 1 1#1
  let main_v23 : IVec S_ 1 := (fun x v => Host.reduce IntOp.andi x v reducesTo_S1x64_S_d0_1 h_S_) main_v22 main_c_7
  let main_v24 : IVec S_ 1 := andi main_v19 main_v23
  let main_v25 : FVec F S32x8 .f32 := Host.absf main_arg6
  let main_cst_8 : FVec F S_ .f32 := constant S_ .f32 0x7F800000#32
  let main_v26 : FVec F S32x8 .f32 := broadcastInDim S32x8 ![] bcast_S_S32x8 main_cst_8
  let main_v27 : IVec S32x8 1 := cmpf .olt main_v25 main_v26
  let main_c_9 : IVec S_ 1 := constantI S_ 1 1#1
  let main_v28 : IVec S_ 1 := (fun x v => Host.reduce IntOp.andi x v reducesTo_S32x8_S_d0_1 h_S_) main_v27 main_c_9
  let main_v29 : IVec S_ 1 := andi main_v24 main_v28
  main_v29

def fn {F : FTy → Type} [FloatOps F] (main_arg0 : FVec F S4x2048x6144 .bf16) (main_arg1 : FVec F S1x64 .f32) (main_arg2 : FVec F S1x64 .f32) (main_arg3 : FVec F S1x64 .f32) (main_arg4 : FVec F S1x64 .f32) (main_arg5 : FVec F S1x128 .f32) (main_arg6 : FVec F S32x8 .f32) : IVec S_ 1 :=
  let main_v0 : FVec F S4x2048x6144 .f32 := (extf .f32 · bitsLt_bf16_f32) main_arg0
  let main_v1 : FVec F S4x2048x6144 .f32 := Host.absf main_v0
  let main_cst : FVec F S_ .f32 := constant S_ .f32 0x7F800000#32
  let main_v2 : FVec F S4x2048x6144 .f32 := broadcastInDim S4x2048x6144 ![] bcast_S_S4x2048x6144 main_cst
  let main_v3 : IVec S4x2048x6144 1 := cmpf .olt main_v1 main_v2
  let main_c : IVec S_ 1 := constantI S_ 1 1#1
  let main_v4 : IVec S_ 1 := (fun x v => Host.reduce IntOp.andi x v reducesTo_S4x2048x6144_S_d0_1_2 h_S_) main_v3 main_c
  let main_v5 : FVec F S1x64 .f32 := Host.absf main_arg1
  let main_cst_0 : FVec F S_ .f32 := constant S_ .f32 0x7F800000#32
  let main_v6 : FVec F S1x64 .f32 := broadcastInDim S1x64 ![] bcast_S_S1x64 main_cst_0
  let main_v7 : IVec S1x64 1 := cmpf .olt main_v5 main_v6
  let main_c_1 : IVec S_ 1 := constantI S_ 1 1#1
  let main_v8 : IVec S_ 1 := (fun x v => Host.reduce IntOp.andi x v reducesTo_S1x64_S_d0_1 h_S_) main_v7 main_c_1
  let main_v9 : IVec S_ 1 := andi main_v4 main_v8
  let main_v10 : FVec F S1x64 .f32 := Host.absf main_arg2
  let main_cst_2 : FVec F S_ .f32 := constant S_ .f32 0x7F800000#32
  let main_v11 : FVec F S1x64 .f32 := broadcastInDim S1x64 ![] bcast_S_S1x64 main_cst_2
  let main_v12 : IVec S1x64 1 := cmpf .olt main_v10 main_v11
  let main_c_3 : IVec S_ 1 := constantI S_ 1 1#1
  let main_v13 : IVec S_ 1 := (fun x v => Host.reduce IntOp.andi x v reducesTo_S1x64_S_d0_1 h_S_) main_v12 main_c_3
  let main_v14 : IVec S_ 1 := andi main_v9 main_v13
  let main_v15 : FVec F S1x64 .f32 := Host.absf main_arg3
  let main_cst_4 : FVec F S_ .f32 := constant S_ .f32 0x7F800000#32
  let main_v16 : FVec F S1x64 .f32 := broadcastInDim S1x64 ![] bcast_S_S1x64 main_cst_4
  fn_part1 (F := F) main_arg4 main_arg6 main_v14 main_v15 main_v16
-- ==== Kernel.lean ====
abbrev S4x2048x6144 : Shape := ⟨3, ![4, 2048, 6144]⟩
abbrev S1x64 : Shape := ⟨2, ![1, 64]⟩
abbrev S1x128 : Shape := ⟨2, ![1, 128]⟩
abbrev S32x8 : Shape := ⟨2, ![32, 8]⟩
abbrev S64 : Shape := ⟨1, ![64]⟩
abbrev S4x64 : Shape := ⟨2, ![4, 64]⟩
abbrev S1023 : Shape := ⟨1, ![1023]⟩
abbrev S_ : Shape := ⟨0, ![]⟩
abbrev S1023x1 : Shape := ⟨2, ![1023, 1]⟩
abbrev S1023x8 : Shape := ⟨2, ![1023, 8]⟩
abbrev S8x1023 : Shape := ⟨2, ![8, 1023]⟩
abbrev S8x511 : Shape := ⟨2, ![8, 511]⟩
abbrev S8x512 : Shape := ⟨2, ![8, 512]⟩
abbrev S8x1 : Shape := ⟨2, ![8, 1]⟩
abbrev S8x1x512 : Shape := ⟨3, ![8, 1, 512]⟩
abbrev S8x3x512 : Shape := ⟨3, ![8, 3, 512]⟩
abbrev S128 : Shape := ⟨1, ![128]⟩
abbrev S4x2048x1024 : Shape := ⟨3, ![4, 2048, 1024]⟩
abbrev S1x3x512 : Shape := ⟨3, ![1, 3, 512]⟩
abbrev S1x2048x128 : Shape := ⟨3, ![1, 2048, 128]⟩
abbrev S2x256x2048 : Shape := ⟨3, ![2, 256, 2048]⟩
abbrev S3x256x256 : Shape := ⟨3, ![3, 256, 256]⟩
abbrev S1 : Shape := ⟨1, ![1]⟩
abbrev S1x1 : Shape := ⟨2, ![1, 1]⟩
abbrev S256x128 : Shape := ⟨2, ![256, 128]⟩
abbrev S256x256 : Shape := ⟨2, ![256, 256]⟩
abbrev S1x1x512 : Shape := ⟨3, ![1, 1, 512]⟩
abbrev S1x512 : Shape := ⟨2, ![1, 512]⟩
abbrev S256x512 : Shape := ⟨2, ![256, 512]⟩
abbrev S1x256x256 : Shape := ⟨3, ![1, 256, 256]⟩
abbrev S1x1x256 : Shape := ⟨3, ![1, 1, 256]⟩
abbrev S1x256 : Shape := ⟨2, ![1, 256]⟩
abbrev S1x256x128 : Shape := ⟨3, ![1, 256, 128]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩

abbrev nBuf : Space → Nat
  | .hbm => 78
  | .vmem => 24
  | .smem => 0
  | _ => 0

abbrev bufTy : (tb : Table) → Fin (tcTables nBuf tb) → BufTy
  | .hbm, ⟨0, _⟩ => ⟨S4x2048x6144, .bf16⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x128, .f32⟩
  | .hbm, ⟨6, _⟩ => ⟨S32x8, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S1x64, .f32⟩
  | .hbm, ⟨12, _⟩ => ⟨S1x64, .f32⟩
  | .hbm, ⟨13, _⟩ => ⟨S1x64, .f32⟩
  | .hbm, ⟨14, _⟩ => ⟨S1x64, .f32⟩
  | .hbm, ⟨15, _⟩ => ⟨S4x64, .f32⟩
  | .hbm, ⟨16, _⟩ => ⟨S1023, .i32⟩
  | .hbm, ⟨17, _⟩ => ⟨S_, .i32⟩
  | .hbm, ⟨18, _⟩ => ⟨S1023, .i32⟩
  | .hbm, ⟨19, _⟩ => ⟨S1023, .i32⟩
  | .hbm, ⟨20, _⟩ => ⟨S_, .i32⟩
  | .hbm, ⟨21, _⟩ => ⟨S1023, .i32⟩
  | .hbm, ⟨22, _⟩ => ⟨S1023, .i32⟩
  | .hbm, ⟨23, _⟩ => ⟨S_, .i32⟩
  | .hbm, ⟨24, _⟩ => ⟨S1023, .i32⟩
  | .hbm, ⟨25, _⟩ => ⟨S1023, .i32⟩
  | .hbm, ⟨26, _⟩ => ⟨S1023, .f32⟩
  | .hbm, ⟨27, _⟩ => ⟨S_, .f32⟩
  | .hbm, ⟨28, _⟩ => ⟨S1023, .f32⟩
  | .hbm, ⟨29, _⟩ => ⟨S1023, .f32⟩
  | .hbm, ⟨30, _⟩ => ⟨S1023, .f32⟩
  | .hbm, ⟨31, _⟩ => ⟨S_, .f32⟩
  | .hbm, ⟨32, _⟩ => ⟨S1023, .f32⟩
  | .hbm, ⟨33, _⟩ => ⟨S1023, .f32⟩
  | .hbm, ⟨34, _⟩ => ⟨S_, .f32⟩
  | .hbm, ⟨35, _⟩ => ⟨S1023, .f32⟩
  | .hbm, ⟨36, _⟩ => ⟨S1023, .f32⟩
  | .hbm, ⟨37, _⟩ => ⟨S1023, .i32⟩
  | .hbm, ⟨38, _⟩ => ⟨S_, .i32⟩
  | .hbm, ⟨39, _⟩ => ⟨S1023, .i32⟩
  | .hbm, ⟨40, _⟩ => ⟨S1023, .i32⟩
  | .hbm, ⟨41, _⟩ => ⟨S_, .i32⟩
  | .hbm, ⟨42, _⟩ => ⟨S1023, .i32⟩
  | .hbm, ⟨43, _⟩ => ⟨S1023, .i32⟩
  | .hbm, ⟨44, _⟩ => ⟨S_, .i32⟩
  | .hbm, ⟨45, _⟩ => ⟨S1023, .i32⟩
  | .hbm, ⟨46, _⟩ => ⟨S1023, .i1⟩
  | .hbm, ⟨47, _⟩ => ⟨S1023, .i32⟩
  | .hbm, ⟨48, _⟩ => ⟨S_, .i32⟩
  | .hbm, ⟨49, _⟩ => ⟨S1023, .i32⟩
  | .hbm, ⟨50, _⟩ => ⟨S1023, .i1⟩
  | .hbm, ⟨51, _⟩ => ⟨S_, .i32⟩
  | .hbm, ⟨52, _⟩ => ⟨S1023, .i32⟩
  | .hbm, ⟨53, _⟩ => ⟨S1023, .i32⟩
  | .hbm, ⟨54, _⟩ => ⟨S1023, .i32⟩
  | .hbm, ⟨55, _⟩ => ⟨S1023x1, .i32⟩
  | .hbm, ⟨56, _⟩ => ⟨S1023x8, .f32⟩
  | .hbm, ⟨57, _⟩ => ⟨S8x1023, .f32⟩
  | .hbm, ⟨58, _⟩ => ⟨S8x511, .f32⟩
  | .hbm, ⟨59, _⟩ => ⟨S8x511, .f32⟩
  | .hbm, ⟨60, _⟩ => ⟨S_, .i32⟩
  | .hbm, ⟨61, _⟩ => ⟨S_, .f32⟩
  | .hbm, ⟨62, _⟩ => ⟨S8x512, .f32⟩
  | .hbm, ⟨63, _⟩ => ⟨S8x511, .f32⟩
  | .hbm, ⟨64, _⟩ => ⟨S8x511, .f32⟩
  | .hbm, ⟨65, _⟩ => ⟨S_, .i32⟩
  | .hbm, ⟨66, _⟩ => ⟨S_, .f32⟩
  | .hbm, ⟨67, _⟩ => ⟨S8x512, .f32⟩
  | .hbm, ⟨68, _⟩ => ⟨S8x1, .f32⟩
  | .hbm, ⟨69, _⟩ => ⟨S8x512, .f32⟩
  | .hbm, ⟨70, _⟩ => ⟨S8x1x512, .f32⟩
  | .hbm, ⟨71, _⟩ => ⟨S8x1x512, .f32⟩
  | .hbm, ⟨72, _⟩ => ⟨S8x1x512, .f32⟩
  | .hbm, ⟨73, _⟩ => ⟨S8x3x512, .f32⟩
  | .hbm, ⟨74, _⟩ => ⟨S128, .f32⟩
  | .hbm, ⟨75, _⟩ => ⟨S1x128, .f32⟩
  | .hbm, ⟨76, _⟩ => ⟨S4x2048x1024, .bf16⟩
  | .hbm, ⟨77, _⟩ => ⟨S4x2048x1024, .bf16⟩
  | .local _ .vmem, ⟨0, _⟩ => ⟨S4x64, .f32⟩
  | .local _ .vmem, ⟨1, _⟩ => ⟨S1x128, .f32⟩
  | .local _ .vmem, ⟨2, _⟩ => ⟨S1x3x512, .f32⟩
  | .local _ .vmem, ⟨3, _⟩ => ⟨S1x3x512, .f32⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x2048x128, .bf16⟩
  | .local _ .vmem, ⟨13, _⟩ => ⟨S1x2048x128, .bf16⟩
  | .local _ .vmem, ⟨14, _⟩ => ⟨S1x2048x128, .bf16⟩
  | .local _ .vmem, ⟨15, _⟩ => ⟨S1x2048x128, .bf16⟩
  | .local _ .vmem, ⟨16, _⟩ => ⟨S1x2048x128, .bf16⟩
  | .local _ .vmem, ⟨17, _⟩ => ⟨S1x2048x128, .bf16⟩
  | .local _ .vmem, ⟨18, _⟩ => ⟨S1x2048x128, .bf16⟩
  | .local _ .vmem, ⟨19, _⟩ => ⟨S1x2048x128, .bf16⟩
  | .local _ .vmem, ⟨20, _⟩ => ⟨S2x256x2048, .f32⟩
  | .local _ .vmem, ⟨21, _⟩ => ⟨S2x256x2048, .f32⟩
  | .local _ .vmem, ⟨22, _⟩ => ⟨S3x256x256, .f32⟩
  | .local _ .vmem, ⟨23, _⟩ => ⟨S2x256x2048, .f32⟩
  | _, _ => ⟨S4x2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_7 : Ref sig .tc := ⟨.hbm, 48, rfl⟩
abbrev main_v32 : Ref sig .tc := ⟨.hbm, 49, rfl⟩
abbrev main_v33 : Ref sig .tc := ⟨.hbm, 50, rfl⟩
abbrev main_c_8 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_9 : Ref sig .tc := ⟨.hbm, 60, rfl⟩
abbrev main_call1_v0 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_10 : Ref sig .tc := ⟨.hbm, 65, rfl⟩
abbrev main_call2_v0 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54_0 : Ref sig .tc := ⟨.hbm, 76, rfl⟩
abbrev main_v54_1 : Ref sig .tc := ⟨.hbm, 77, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c40_i32 : BitVec 32 := 40#32
  let v0 : BitVec 32 := Scalar.addi c40_i32 arg1
  let c0_i32 : BitVec 32 := 0#32
  let c0_i32_0 : BitVec 32 := 0#32
  ![arg0.toNat, c0_i32.toNat, v0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x3x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== KernelIdeal.lean ====
variable {F : FTy → Type} [FloatOps F] [Named F]
def κ : String → Option EReal := fun
  | "neg_log2e" => some ((-((Real.log 2)⁻¹) : ℝ) : EReal)
  | _ => none
-- ==== ReferenceIdeal.lean ====
abbrev S4x2048x6144 : Shape := ⟨3, ![4, 2048, 6144]⟩
abbrev S1x64 : Shape := ⟨2, ![1, 64]⟩
abbrev S1x128 : Shape := ⟨2, ![1, 128]⟩
abbrev S32x8 : Shape := ⟨2, ![32, 8]⟩
abbrev S4x2048x1024 : Shape := ⟨3, ![4, 2048, 1024]⟩
abbrev S4x2048x8x128 : Shape := ⟨4, ![4, 2048, 8, 128]⟩
abbrev S4x8x2048x128 : Shape := ⟨4, ![4, 8, 2048, 128]⟩
abbrev S64 : Shape := ⟨1, ![64]⟩
abbrev S_ : Shape := ⟨0, ![]⟩
abbrev S4x8x2048x64 : Shape := ⟨4, ![4, 8, 2048, 64]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2048x2048x1 : Shape := ⟨3, ![2048, 2048, 1]⟩
abbrev S2048x2048x8 : Shape := ⟨3, ![2048, 2048, 8]⟩
abbrev S8x2048x2048 : Shape := ⟨3, ![8, 2048, 2048]⟩
abbrev S4x8x2048x2048 : Shape := ⟨4, ![4, 8, 2048, 2048]⟩
abbrev S1x8x2048x2048 : Shape := ⟨4, ![1, 8, 2048, 2048]⟩
abbrev S4x8x2048 : Shape := ⟨3, ![4, 8, 2048]⟩
abbrev S4x8x2048x1 : Shape := ⟨4, ![4, 8, 2048, 1]⟩
abbrev S128 : Shape := ⟨1, ![128]⟩
abbrev S1x1x1x128 : Shape := ⟨4, ![1, 1, 1, 128]⟩

abbrev nBuf : Space → Nat
  | .hbm => 236
  | .vmem => 0
  | .smem => 0
  | _ => 0

abbrev hbmTy0_0 (i : Nat) : BufTy := match i % 128 with
  | 0 => ⟨S4x2048x6144, .bf16⟩
  | 1 => ⟨S1x64, .f32⟩
  | 2 => ⟨S1x64, .f32⟩
  | 3 => ⟨S1x64, .f32⟩
  | 4 => ⟨S1x64, .f32⟩
  | 5 => ⟨S1x128, .f32⟩
  | 6 => ⟨S32x8, .f32⟩
  | 7 => ⟨S4x2048x6144, .f32⟩
  | 8 => ⟨S4x2048x1024, .f32⟩
  | 9 => ⟨S4x2048x1024, .f32⟩
  | 10 => ⟨S4x2048x1024, .f32⟩
  | 11 => ⟨S4x2048x1024, .f32⟩
  | 12 => ⟨S4x2048x1024, .f32⟩
  | 13 => ⟨S4x2048x1024, .f32⟩
  | 14 => ⟨S4x2048x8x128, .f32⟩
  | 15 => ⟨S4x8x2048x128, .f32⟩
  | 16 => ⟨S4x2048x8x128, .f32⟩
  | 17 => ⟨S4x8x2048x128, .f32⟩
  | 18 => ⟨S4x2048x8x128, .f32⟩
  | 19 => ⟨S4x8x2048x128, .f32⟩
  | 20 => ⟨S4x2048x8x128, .f32⟩
  | 21 => ⟨S4x8x2048x128, .f32⟩
  | 22 => ⟨S4x2048x8x128, .f32⟩
  | 23 => ⟨S4x8x2048x128, .f32⟩
  | 24 => ⟨S4x2048x8x128, .f32⟩
  | 25 => ⟨S4x8x2048x128, .f32⟩
  | 26 => ⟨S64, .f32⟩
  | 27 => ⟨S64, .f32⟩
  | 28 => ⟨S64, .f32⟩
  | 29 => ⟨S_, .f32⟩
  | 30 => ⟨S_, .f32⟩
  | 31 => ⟨S_, .f32⟩
  | 32 => ⟨S64, .f32⟩
  | 33 => ⟨S64, .f32⟩
  | 34 => ⟨S64, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S4x8x2048x64, .f32⟩
  | 42 => ⟨S4x8x2048x64, .f32⟩
  | 43 => ⟨S4x8x2048x64, .f32⟩
  | 44 => ⟨S4x8x2048x64, .f32⟩
  | 45 => ⟨S2048, .i32⟩
  | 46 => ⟨S2048x1, .i32⟩
  | 47 => ⟨S1x2048, .i32⟩
  | 48 => ⟨S2048x2048, .i32⟩
  | 49 => ⟨S2048x2048, .i32⟩
  | 50 => ⟨S2048x2048, .i32⟩
  | 51 => ⟨S_, .i32⟩
  | 52 => ⟨S2048x2048, .i32⟩
  | 53 => ⟨S2048x2048, .i32⟩
  | 54 => ⟨S_, .i32⟩
  | 55 => ⟨S2048x2048, .i32⟩
  | 56 => ⟨S2048x2048, .i32⟩
  | 57 => ⟨S2048x2048, .f32⟩
  | 58 => ⟨S_, .f32⟩
  | 59 => ⟨S2048x2048, .f32⟩
  | 60 => ⟨S2048x2048, .f32⟩
  | 61 => ⟨S2048x2048, .f32⟩
  | 62 => ⟨S_, .f32⟩
  | 63 => ⟨S2048x2048, .f32⟩
  | 64 => ⟨S2048x2048, .f32⟩
  | 65 => ⟨S_, .f32⟩
  | 66 => ⟨S2048x2048, .f32⟩
  | 67 => ⟨S2048x2048, .f32⟩
  | 68 => ⟨S2048x2048, .i32⟩
  | 69 => ⟨S_, .i32⟩
  | 70 => ⟨S2048x2048, .i32⟩
  | 71 => ⟨S2048x2048, .i32⟩
  | 72 => ⟨S_, .i32⟩
  | 73 => ⟨S2048x2048, .i32⟩
  | 74 => ⟨S2048x2048, .i32⟩
  | 75 => ⟨S_, .i32⟩
  | 76 => ⟨S2048x2048, .i32⟩
  | 77 => ⟨S2048x2048, .i1⟩
  | 78 => ⟨S2048x2048, .i32⟩
  | 79 => ⟨S_, .i32⟩
  | 80 => ⟨S2048x2048, .i32⟩
  | 81 => ⟨S2048x2048, .i1⟩
  | 82 => ⟨S_, .i32⟩
  | 83 => ⟨S2048x2048, .i32⟩
  | 84 => ⟨S2048x2048, .i32⟩
  | 85 => ⟨S2048x2048, .i32⟩
  | 86 => ⟨S2048x2048x1, .i32⟩
  | 87 => ⟨S2048x2048x8, .f32⟩
  | 88 => ⟨S8x2048x2048, .f32⟩
  | 89 => ⟨S1x2048, .i32⟩
  | 90 => ⟨S2048x1, .i32⟩
  | 91 => ⟨S2048x2048, .i32⟩
  | 92 => ⟨S2048x2048, .i32⟩
  | 93 => ⟨S2048x2048, .i1⟩
  | 94 => ⟨S4x8x2048x2048, .f32⟩
  | 95 => ⟨S_, .f32⟩
  | 96 => ⟨S4x8x2048x2048, .f32⟩
  | 97 => ⟨S4x8x2048x2048, .f32⟩
  | 98 => ⟨S1x8x2048x2048, .f32⟩
  | 99 => ⟨S4x8x2048x2048, .f32⟩
  | 100 => ⟨S4x8x2048x2048, .f32⟩
  | 101 => ⟨S_, .f32⟩
  | 102 => ⟨S_, .f32⟩
  | 103 => ⟨S4x8x2048x2048, .i1⟩
  | 104 => ⟨S4x8x2048x2048, .f32⟩
  | 105 => ⟨S4x8x2048x2048, .f32⟩
  | 106 => ⟨S_, .f32⟩
  | 107 => ⟨S4x8x2048, .f32⟩
  | 108 => ⟨S_, .f32⟩
  | 109 => ⟨S4x8x2048, .f32⟩
  | 110 => ⟨S4x8x2048, .f32⟩
  | 111 => ⟨S4x8x2048x1, .f32⟩
  | 112 => ⟨S4x8x2048x2048, .f32⟩
  | 113 => ⟨S4x8x2048x2048, .f32⟩
  | 114 => ⟨S4x8x2048x2048, .f32⟩
  | 115 => ⟨S_, .f32⟩
  | 116 => ⟨S4x8x2048, .f32⟩
  | 117 => ⟨S4x8x2048x1, .f32⟩
  | 118 => ⟨S4x8x2048x2048, .f32⟩
  | 119 => ⟨S4x8x2048x2048, .f32⟩
  | 120 => ⟨S4x8x2048x2048, .f32⟩
  | 121 => ⟨S_, .f32⟩
  | 122 => ⟨S4x8x2048x2048, .f32⟩
  | 123 => ⟨S4x8x2048x2048, .f32⟩
  | 124 => ⟨S1x8x2048x2048, .f32⟩
  | 125 => ⟨S4x8x2048x2048, .f32⟩
  | 126 => ⟨S4x8x2048x2048, .f32⟩
  | 127 => ⟨S_, .f32⟩
  | _ => ⟨S4x2048x6144, .bf16⟩

abbrev hbmTy0_1 (i : Nat) : BufTy := match i % 128 with
  | 0 => ⟨S_, .f32⟩
  | 1 => ⟨S4x8x2048x2048, .i1⟩
  | 2 => ⟨S4x8x2048x2048, .f32⟩
  | 3 => ⟨S4x8x2048x2048, .f32⟩
  | 4 => ⟨S_, .f32⟩
  | 5 => ⟨S4x8x2048, .f32⟩
  | 6 => ⟨S_, .f32⟩
  | 7 => ⟨S4x8x2048, .f32⟩
  | 8 => ⟨S4x8x2048, .f32⟩
  | 9 => ⟨S4x8x2048x1, .f32⟩
  | 10 => ⟨S4x8x2048x2048, .f32⟩
  | 11 => ⟨S4x8x2048x2048, .f32⟩
  | 12 => ⟨S4x8x2048x2048, .f32⟩
  | 13 => ⟨S_, .f32⟩
  | 14 => ⟨S4x8x2048, .f32⟩
  | 15 => ⟨S4x8x2048x1, .f32⟩
  | 16 => ⟨S4x8x2048x2048, .f32⟩
  | 17 => ⟨S4x8x2048x2048, .f32⟩
  | 18 => ⟨S4x8x2048x2048, .f32⟩
  | 19 => ⟨S4x8x2048x2048, .f32⟩
  | 20 => ⟨S4x8x2048x2048, .f32⟩
  | 21 => ⟨S4x8x2048x128, .f32⟩
  | 22 => ⟨S128, .f32⟩
  | 23 => ⟨S4x8x2048x128, .f32⟩
  | 24 => ⟨S_, .f32⟩
  | 25 => ⟨S4x8x2048, .f32⟩
  | 26 => ⟨S4x8x2048x1, .f32⟩
  | 27 => ⟨S_, .f32⟩
  | 28 => ⟨S4x8x2048x1, .f32⟩
  | 29 => ⟨S4x8x2048x1, .f32⟩
  | 30 => ⟨S_, .f32⟩
  | 31 => ⟨S4x8x2048x1, .f32⟩
  | 32 => ⟨S4x8x2048x1, .f32⟩
  | 33 => ⟨S4x8x2048x1, .f32⟩
  | 34 => ⟨S4x8x2048x128, .f32⟩
  | 35 => ⟨S4x8x2048x128, .f32⟩
  | 36 => ⟨S1x1x1x128, .f32⟩
  | 37 => ⟨S4x8x2048x128, .f32⟩
  | 38 => ⟨S4x8x2048x128, .f32⟩
  | 39 => ⟨S_, .f32⟩
  | 40 => ⟨S4x8x2048x128, .f32⟩
  | 41 => ⟨S4x8x2048x128, .f32⟩
  | 42 => ⟨S4x2048x8x128, .f32⟩
  | 43 => ⟨S4x2048x1024, .f32⟩
  | 44 => ⟨S2048, .i32⟩
  | 45 => ⟨S1x2048, .i32⟩
  | 46 => ⟨S2048x1, .i32⟩
  | 47 => ⟨S2048x2048, .i32⟩
  | 48 => ⟨S2048x2048, .i32⟩
  | 49 => ⟨S2048x2048, .i1⟩
  | 50 => ⟨S4x8x2048x2048, .f32⟩
  | 51 => ⟨S_, .f32⟩
  | 52 => ⟨S4x8x2048x2048, .f32⟩
  | 53 => ⟨S4x8x2048x2048, .f32⟩
  | 54 => ⟨S4x8x2048x2048, .f32⟩
  | 55 => ⟨S_, .f32⟩
  | 56 => ⟨S4x8x2048x2048, .f32⟩
  | 57 => ⟨S4x8x2048x2048, .f32⟩
  | 58 => ⟨S4x8x2048x2048, .f32⟩
  | 59 => ⟨S4x8x2048x2048, .f32⟩
  | 60 => ⟨S4x8x2048x2048, .i1⟩
  | 61 => ⟨S4x8x2048x2048, .f32⟩
  | 62 => ⟨S4x8x2048x2048, .f32⟩
  | 63 => ⟨S4x8x2048x2048, .f32⟩
  | 64 => ⟨S4x8x2048x2048, .f32⟩
  | 65 => ⟨S4x8x2048x2048, .f32⟩
  | 66 => ⟨S4x8x2048x2048, .f32⟩
  | 67 => ⟨S4x8x2048x2048, .f32⟩
  | 68 => ⟨S4x8x2048x2048, .f32⟩
  | 69 => ⟨S4x8x2048x2048, .f32⟩
  | 70 => ⟨S4x8x2048x2048, .f32⟩
  | 71 => ⟨S4x8x2048x2048, .f32⟩
  | 72 => ⟨S_, .f32⟩
  | 73 => ⟨S4x8x2048x2048, .f32⟩
  | 74 => ⟨S4x8x2048x2048, .f32⟩
  | 75 => ⟨S4x8x2048x2048, .f32⟩
  | 76 => ⟨S4x8x2048x2048, .f32⟩
  | 77 => ⟨S4x8x2048x2048, .i1⟩
  | 78 => ⟨S4x8x2048x2048, .f32⟩
  | 79 => ⟨S4x8x2048x2048, .f32⟩
  | 80 => ⟨S4x8x2048x2048, .f32⟩
  | 81 => ⟨S4x8x2048x2048, .f32⟩
  | 82 => ⟨S4x8x2048x2048, .f32⟩
  | 83 => ⟨S4x8x2048x2048, .f32⟩
  | 84 => ⟨S4x8x2048x2048, .f32⟩
  | 85 => ⟨S4x8x2048x2048, .f32⟩
  | 86 => ⟨S4x8x2048x2048, .f32⟩
  | 87 => ⟨S_, .f32⟩
  | 88 => ⟨S_, .f32⟩
  | 89 => ⟨S4x8x2048x2048, .i1⟩
  | 90 => ⟨S4x8x2048x2048, .f32⟩
  | 91 => ⟨S4x8x2048x2048, .f32⟩
  | 92 => ⟨S_, .f32⟩
  | 93 => ⟨S_, .f32⟩
  | 94 => ⟨S4x8x2048x2048, .f32⟩
  | 95 => ⟨S4x8x2048x2048, .f32⟩
  | 96 => ⟨S4x8x2048x2048, .f32⟩
  | 97 => ⟨S4x8x2048x2048, .f32⟩
  | 98 => ⟨S_, .f32⟩
  | 99 => ⟨S_, .f32⟩
  | 100 => ⟨S4x8x2048x2048, .i1⟩
  | 101 => ⟨S4x8x2048x2048, .f32⟩
  | 102 => ⟨S4x8x2048x2048, .f32⟩
  | 103 => ⟨S4x8x2048x128, .f32⟩
  | 104 => ⟨S4x2048x8x128, .f32⟩
  | 105 => ⟨S4x2048x1024, .f32⟩
  | 106 => ⟨S4x2048x1024, .bf16⟩
  | 107 => ⟨S4x2048x1024, .bf16⟩
  | _ => ⟨S4x2048x6144, .bf16⟩

abbrev hbmTy (i : Nat) : BufTy := match i / 128 with
  | 0 => hbmTy0_0 i
  | 1 => hbmTy0_1 i
  | _ => ⟨S4x2048x6144, .bf16⟩

abbrev bufTy : (tb : Table) → Fin (tcTables nBuf tb) → BufTy
  | .hbm, ⟨i, _⟩ => hbmTy i
  | _, _ => ⟨S4x2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_0 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_1 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_c : Ref sig .tc := ⟨.hbm, 51, rfl⟩
abbrev main_v41 : Ref sig .tc := ⟨.hbm, 52, rfl⟩
abbrev main_v42 : Ref sig .tc := ⟨.hbm, 53, rfl⟩
abbrev main_c_2 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_3 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_4 : Ref sig .tc := ⟨.hbm, 62, rfl⟩
abbrev main_v49 : Ref sig .tc := ⟨.hbm, 63, rfl⟩
abbrev main_v50 : Ref sig .tc := ⟨.hbm, 64, rfl⟩
abbrev main_cst_5 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_c_6 : Ref sig .tc := ⟨.hbm, 69, rfl⟩
abbrev main_v54 : Ref sig .tc := ⟨.hbm, 70, rfl⟩
abbrev main_v55 : Ref sig .tc := ⟨.hbm, 71, rfl⟩
abbrev main_c_7 : Ref sig .tc := ⟨.hbm, 72, rfl⟩
abbrev main_v56 : Ref sig .tc := ⟨.hbm, 73, rfl⟩
abbrev main_v57 : Ref sig .tc := ⟨.hbm, 74, rfl⟩
abbrev main_c_8 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_c_9 : Ref sig .tc := ⟨.hbm, 79, rfl⟩
abbrev main_v61 : Ref sig .tc := ⟨.hbm, 80, rfl⟩
abbrev main_v62 : Ref sig .tc := ⟨.hbm, 81, rfl⟩
abbrev main_c_10 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_11 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_cst_12 : Ref sig .tc := ⟨.hbm, 101, rfl⟩
abbrev main_call1_v0 : Ref sig .tc := ⟨.hbm, 102, rfl⟩
abbrev main_call1_v1 : Ref sig .tc := ⟨.hbm, 103, rfl⟩
abbrev main_call1_v2 : Ref sig .tc := ⟨.hbm, 104, rfl⟩
abbrev main_v80 : Ref sig .tc := ⟨.hbm, 105, rfl⟩
abbrev main_cst_13 : Ref sig .tc := ⟨.hbm, 106, rfl⟩
abbrev main_v81 : Ref sig .tc := ⟨.hbm, 107, rfl⟩
abbrev main_cst_14 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_cst_15 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_cst_16 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_cst_17 : Ref sig .tc := ⟨.hbm, 127, rfl⟩
abbrev main_call2_v0 : Ref sig .tc := ⟨.hbm, 128, rfl⟩
abbrev main_call2_v1 : Ref sig .tc := ⟨.hbm, 129, rfl⟩
abbrev main_call2_v2 : Ref sig .tc := ⟨.hbm, 130, rfl⟩
abbrev main_v98 : Ref sig .tc := ⟨.hbm, 131, rfl⟩
abbrev main_cst_18 : Ref sig .tc := ⟨.hbm, 132, rfl⟩
abbrev main_v99 : Ref sig .tc := ⟨.hbm, 133, rfl⟩
abbrev main_cst_19 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_cst_20 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_cst_21 : Ref sig .tc := ⟨.hbm, 152, rfl⟩
abbrev main_v116 : Ref sig .tc := ⟨.hbm, 153, rfl⟩
abbrev main_v117 : Ref sig .tc := ⟨.hbm, 154, rfl⟩
abbrev main_cst_22 : Ref sig .tc := ⟨.hbm, 155, rfl⟩
abbrev main_v118 : Ref sig .tc := ⟨.hbm, 156, rfl⟩
abbrev main_v119 : Ref sig .tc := ⟨.hbm, 157, rfl⟩
abbrev main_cst_23 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_cst_24 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_cst_25 : Ref sig .tc := ⟨.hbm, 179, rfl⟩
abbrev main_v139 : Ref sig .tc := ⟨.hbm, 180, rfl⟩
abbrev main_v140 : Ref sig .tc := ⟨.hbm, 181, rfl⟩
abbrev main_call3_v0 : Ref sig .tc := ⟨.hbm, 182, rfl⟩
abbrev main_call3_call0_cst : Ref sig .tc := ⟨.hbm, 183, rfl⟩
abbrev main_call3_call0_v0 : Ref sig .tc := ⟨.hbm, 184, rfl⟩
abbrev main_call3_call0_v1 : Ref sig .tc := ⟨.hbm, 185, rfl⟩
abbrev main_call3_call0_v2 : Ref sig .tc := ⟨.hbm, 186, rfl⟩
abbrev main_call3_call0_v3 : Ref sig .tc := ⟨.hbm, 187, rfl⟩
abbrev main_call3_call0_v4 : Ref sig .tc := ⟨.hbm, 188, rfl⟩
abbrev main_call3_call0_v5 : Ref sig .tc := ⟨.hbm, 189, rfl⟩
abbrev main_call3_call0_v6 : Ref sig .tc := ⟨.hbm, 190, rfl⟩
abbrev main_call3_call0_v7 : Ref sig .tc := ⟨.hbm, 191, rfl⟩
abbrev main_call3_call0_v8 : Ref sig .tc := ⟨.hbm, 192, rfl⟩
abbrev main_call3_call0_v9 : Ref sig .tc := ⟨.hbm, 193, rfl⟩
abbrev main_call3_call0_v10 : Ref sig .tc := ⟨.hbm, 194, rfl⟩
abbrev main_call3_call0_v11 : Ref sig .tc := ⟨.hbm, 195, rfl⟩
abbrev main_call3_v1 : Ref sig .tc := ⟨.hbm, 196, rfl⟩
abbrev main_v141 : Ref sig .tc := ⟨.hbm, 197, rfl⟩
abbrev main_v142 : Ref sig .tc := ⟨.hbm, 198, rfl⟩
abbrev main_call4_v0 : Ref sig .tc := ⟨.hbm, 199, rfl⟩
abbrev main_call4_call0_cst : Ref sig .tc := ⟨.hbm, 200, rfl⟩
abbrev main_call4_call0_v0 : Ref sig .tc := ⟨.hbm, 201, rfl⟩
abbrev main_call4_call0_v1 : Ref sig .tc := ⟨.hbm, 202, rfl⟩
abbrev main_call4_call0_v2 : Ref sig .tc := ⟨.hbm, 203, rfl⟩
abbrev main_call4_call0_v3 : Ref sig .tc := ⟨.hbm, 204, rfl⟩
abbrev main_call4_call0_v4 : Ref sig .tc := ⟨.hbm, 205, rfl⟩
abbrev main_call4_call0_v5 : Ref sig .tc := ⟨.hbm, 206, rfl⟩
abbrev main_call4_call0_v6 : Ref sig .tc := ⟨.hbm, 207, rfl⟩
abbrev main_call4_call0_v7 : Ref sig .tc := ⟨.hbm, 208, rfl⟩
abbrev main_call4_call0_v8 : Ref sig .tc := ⟨.hbm, 209, rfl⟩
abbrev main_call4_call0_v9 : Ref sig .tc := ⟨.hbm, 210, rfl⟩
abbrev main_call4_call0_v10 : Ref sig .tc := ⟨.hbm, 211, rfl⟩
abbrev main_call4_call0_v11 : Ref sig .tc := ⟨.hbm, 212, rfl⟩
abbrev main_call4_v1 : Ref sig .tc := ⟨.hbm, 213, rfl⟩
abbrev main_v143 : Ref sig .tc := ⟨.hbm, 214, rfl⟩
abbrev main_cst_26 : Ref sig .tc := ⟨.hbm, 215, rfl⟩
abbrev main_call5_v0 : Ref sig .tc := ⟨.hbm, 216, rfl⟩
abbrev main_call5_v1 : Ref sig .tc := ⟨.hbm, 217, rfl⟩
abbrev main_call5_v2 : Ref sig .tc := ⟨.hbm, 218, rfl⟩
abbrev main_v144 : Ref sig .tc := ⟨.hbm, 219, rfl⟩
abbrev main_call6_cst : Ref sig .tc := ⟨.hbm, 220, rfl⟩
abbrev main_call6_v0 : Ref sig .tc := ⟨.hbm, 221, rfl⟩
abbrev main_v145 : Ref sig .tc := ⟨.hbm, 222, rfl⟩
abbrev main_v146 : Ref sig .tc := ⟨.hbm, 223, rfl⟩
abbrev main_v147 : Ref sig .tc := ⟨.hbm, 224, rfl⟩
abbrev main_v148 : Ref sig .tc := ⟨.hbm, 225, rfl⟩
abbrev main_cst_27 : Ref sig .tc := ⟨.hbm, 226, rfl⟩
abbrev main_call7_v0 : Ref sig .tc := ⟨.hbm, 227, rfl⟩
abbrev main_call7_v1 : Ref sig .tc := ⟨.hbm, 228, rfl⟩
abbrev main_call7_v2 : Ref sig .tc := ⟨.hbm, 229, rfl⟩
abbrev main_v149 : Ref sig .tc := ⟨.hbm, 230, rfl⟩
abbrev main_v150 : Ref sig .tc := ⟨.hbm, 231, rfl⟩
abbrev main_v151 : Ref sig .tc := ⟨.hbm, 232, rfl⟩
abbrev main_v152 : Ref sig .tc := ⟨.hbm, 233, rfl⟩
abbrev main_v153 : Ref sig .tc := ⟨.hbm, 234, rfl⟩
abbrev main_v154 : Ref sig .tc := ⟨.hbm, 235, rfl⟩

abbrev nD : Nat := 1
abbrev τ : Topo := Topo.v7x

variable {F : FTy → Type} [FloatOps F]
-- ==== KernelQkv.lean ====
abbrev S8192x2048 : Shape := ⟨2, ![8192, 2048]⟩
abbrev S1x2048x10240 : Shape := ⟨3, ![1, 2048, 10240]⟩
abbrev S8192x6144 : Shape := ⟨2, ![8192, 6144]⟩
abbrev S2048x2048 : Shape := ⟨2, ![2048, 2048]⟩
abbrev S1x2048x1024 : Shape := ⟨3, ![1, 2048, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S1x2048x10240, .f32⟩
  | .hbm, ⟨2, _⟩ => ⟨S8192x6144, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceQkvIdeal.lean ====
abbrev S8192x2048 : Shape := ⟨2, ![8192, 2048]⟩
abbrev S1x2048x10240 : Shape := ⟨3, ![1, 2048, 10240]⟩
abbrev S2048x10240 : Shape := ⟨2, ![2048, 10240]⟩
abbrev S8192x10240 : Shape := ⟨2, ![8192, 10240]⟩
abbrev S8192x6144 : Shape := ⟨2, ![8192, 6144]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x10240, .f32⟩
  | .hbm, ⟨2, _⟩ => ⟨S8192x2048, .f32⟩
  | .hbm, ⟨3, _⟩ => ⟨S2048x10240, .f32⟩
  | .hbm, ⟨4, _⟩ => ⟨S8192x10240, .f32⟩
  | .hbm, ⟨5, _⟩ => ⟨S8192x6144, .f32⟩
  | .hbm, ⟨6, _⟩ => ⟨S8192x6144, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelGates.lean ====
abbrev S8192x2048 : Shape := ⟨2, ![8192, 2048]⟩
abbrev S1x2048x10240 : Shape := ⟨3, ![1, 2048, 10240]⟩
abbrev S8192x4096 : Shape := ⟨2, ![8192, 4096]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S1x2048x10240, .f32⟩
  | .hbm, ⟨2, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi arg0 c6_i32
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceGatesIdeal.lean ====
abbrev S8192x2048 : Shape := ⟨2, ![8192, 2048]⟩
abbrev S1x2048x10240 : Shape := ⟨3, ![1, 2048, 10240]⟩
abbrev S2048x10240 : Shape := ⟨2, ![2048, 10240]⟩
abbrev S8192x10240 : Shape := ⟨2, ![8192, 10240]⟩
abbrev S8192x4096 : Shape := ⟨2, ![8192, 4096]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x10240, .f32⟩
  | .hbm, ⟨2, _⟩ => ⟨S8192x2048, .f32⟩
  | .hbm, ⟨3, _⟩ => ⟨S2048x10240, .f32⟩
  | .hbm, ⟨4, _⟩ => ⟨S8192x10240, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192x4096, .f32⟩
  | .hbm, ⟨13, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.Attn.Finite.lean ====
/- The precondition read back: the arrays hold real numbers. -/
module

public import proofs.«01_k».proof.Pre_finite
public import proofs.«01_k».proof.Proof.Gen.Pre_finite
public import Idealize.ShloMosaic.PureOps.Ideal
public import Idealize.ShloMosaic.PureOps.Ideal.Laws
public import Idealize.ShloMosaic.Lib.ReduceAll
public import Idealize.ShloMosaic.Lib.Affine
public import Idealize.ShloMosaic.Lib.IdealHost

@[expose] public section

set_option maxRecDepth 16384

noncomputable section

namespace Cert.Pre_finite.Attn

open Idealize.ShloMosaic
open Cert.Pre_finite Cert.Pre_finite.Facts

/-- An extended real whose absolute value is below plus infinity is neither infinity. -/
theorem fin_of_abs {a : EReal} (h : max a (-a) < ⊤) : a ≠ ⊤ ∧ a ≠ ⊥ := by
  refine ⟨fun e => ?_, fun e => ?_⟩
  · rw [e] at h; simp at h
  · rw [e] at h; simp at h

theorem posInf : FloatOps.ofBits (F := Ideal) .f32 0x7F800000#32 = (⊤ : EReal) := by
  show Ideal.ofBits .f32 0x7F800000#32 = (⊤ : EReal)
  simp [Ideal.ofBits, Ideal.ieee]

instance : Subsingleton S_.Idx := ⟨fun a b => funext fun k => k.elim0⟩

/-- One array's part of the precondition. -/
theorem all_fin {s : Shape} (x : FVec Ideal s .f32) (hb : S_.BroadcastsInDim s (![] : Fin 0 → Fin s.rank)) {axes : List (Fin s.rank)} (hr : s.ReducesTo axes S_)
    (hu : 0 < S_.numel) (j : S_.Idx)
    (e : Host.reduce IntOp.andi (cmpf .olt (Host.absf x) (broadcastInDim s ![] hb (constant (F := Ideal) S_ .f32 0x7F800000#32))) (constantI S_ 1 1#1) hr hu j = 1#1) (i : s.Idx) :
    x i ≠ (⊤ : EReal) ∧ x i ≠ (⊥ : EReal) := by
  have h := Host.reduce_andi_all _ _ hr hu j e i
  have h' : Ideal.cmp .olt (max (x i : EReal) (-(x i))) (FloatOps.ofBits (F := Ideal) .f32 0x7F800000#32) = 1#1 := h
  rw [posInf] at h'
  refine fin_of_abs ?_
  by_contra hc
  simp [Ideal.cmp, hc] at h'

variable [Facts]

/-- What the precondition says of each array. -/
theorem fin_args {a0 : FVec Ideal S4x2048x6144 .bf16} {a1 a2 a3 a4 : FVec Ideal S1x64 .f32} {a5 : FVec Ideal S1x128 .f32} {a6 : FVec Ideal S32x8 .f32}
    (h : fn (F := Ideal) a0 a1 a2 a3 a4 a5 a6 = fun _ => 1#1) :
    (∀ i, a0 i ≠ (⊤ : EReal) ∧ a0 i ≠ (⊥ : EReal)) ∧ (∀ i, a1 i ≠ (⊤ : EReal) ∧ a1 i ≠ (⊥ : EReal)) ∧ (∀ i, a2 i ≠ (⊤ : EReal) ∧ a2 i ≠ (⊥ : EReal))
      ∧ (∀ i, a3 i ≠ (⊤ : EReal) ∧ a3 i ≠ (⊥ : EReal)) ∧ (∀ i, a4 i ≠ (⊤ : EReal) ∧ a4 i ≠ (⊥ : EReal)) ∧ (∀ i, a6 i ≠ (⊤ : EReal) ∧ a6 i ≠ (⊥ : EReal)) := by
  have j : S_.Idx := fun k => k.elim0
  have h0 := congrFun h j
  unfold fn fn_part1 at h0
  dsimp only at h0
  obtain ⟨h0, e6⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨fun i => all_fin (extf .f32 a0 bitsLt_bf16_f32) _ _ _ j e0 i, fun i => all_fin a1 _ _ _ j e1 i, fun i => all_fin a2 _ _ _ j e2 i,
    fun i => all_fin a3 _ _ _ j e3 i, fun i => all_fin a4 _ _ _ j e4 i, fun i => all_fin a6 _ _ _ j e6 i⟩

end Cert.Pre_finite.Attn

end
-- ==== Proof.Attn.Stick.lean ====
/- The stick-breaking half of the fused attention kernel, one tile of 256 query rows at a time, written once for a tile that sees `n + 1` key tiles:
   the printed body repeats this text for `n = 0, …, 7`. -/
module

public import proofs.«01_k».proof.Proof.Gen.KernelIdeal.Skeleton

@[expose] public section

set_option maxRecDepth 16384

noncomputable section

namespace Cert.KernelIdeal.Attn

open Idealize.ShloMosaic Idealize.ShloMosaic.TcCoe Idealize.SL.Sem
open Cert.KernelIdeal Cert.KernelIdeal.Gen

/-- A tile of 256 rows of one head's queries, keys or values, as it is loaded. -/
abbrev Tile := Vec Ideal S1x256x128 .bf16

/-- The tile as a matrix. -/
abbrev Tile.mat (x : Tile) : FVec Ideal S256x128 .bf16 := shapeCast S256x128 x shapeCasts_S1x256x128_S256x128

/-- The strictly lower triangle of minus ones. -/
def negTri : FVec Ideal S256x256 .bf16 :=
  truncf .bf16 (select (cmpi .sgt (iota .tc S256x256 32 [0] iota_S256x256_d0_w32) (iota .tc S256x256 32 [1] iota_S256x256_d1_w32))
    (broadcast S256x256 (Scalar.ofBits (F := Ideal) .f32 0xBF800000#32)) (broadcast S256x256 (Scalar.ofBits (F := Ideal) .f32 0x00000000#32))) bitsLt_bf16_f32

/-- Column strictly before row. -/
def past : IVec S256x256 1 :=
  cmpi .slt (iota .tc S256x256 32 [1] iota_S256x256_d1_w32) (iota .tc S256x256 32 [0] iota_S256x256_d0_w32)

/-- The zero tile of scores. -/
def zeroT : FVec Ideal S256x256 .f32 := broadcast S256x256 (Scalar.ofBits (F := Ideal) .f32 0x00000000#32)

/-- The scaled scores of a query tile against a key tile. -/
def sbZ (q k : Tile) : FVec Ideal S256x256 .f32 :=
  mulf (matmul (F := Ideal) dot_S256x128_S256x128_S256x256_1_1_0_0_n_n none (Tile.mat q) (Tile.mat k) (constant S256x256 .f32 0x00000000#32))
    (broadcast S256x256 (Scalar.ofBits (F := Ideal) .f32 0x3DB504F3#32))

/-- The softplus of the scores. -/
def sbSp (z : FVec Ideal S256x256 .f32) : FVec Ideal S256x256 .f32 :=
  addf (maximumf z zeroT)
    (log (addf (broadcast S256x256 (Scalar.ofBits (F := Ideal) .f32 0x3F800000#32))
      (exp2 (mulf (absf z) (broadcast S256x256 (Named.named (F := Ideal) κ "neg_log2e" 0xBFB8AA3B#32))))))

/-- The softplus that counts: on the diagonal tile only strictly past columns. -/
def sbSpM (diag : Bool) (z : FVec Ideal S256x256 .f32) : FVec Ideal S256x256 .f32 :=
  bif diag then select past (sbSp z) zeroT else sbSp z

/-- Minus the sum of the later columns' softplus within the tile. -/
def sbExcl (sp : FVec Ideal S256x256 .f32) : FVec Ideal S256x256 .f32 :=
  matmul (F := Ideal) dot_S256x256_S256x256_S256x256_1_0_0_1_n_n none (truncf .bf16 sp bitsLt_bf16_f32) negTri (constant S256x256 .f32 0x00000000#32)

/-- What the tile leaves in the scratch: the log weight without the later tiles. -/
def sbE (diag : Bool) (z : FVec Ideal S256x256 .f32) : FVec Ideal S256x256 .f32 :=
  shapeCast S256x256 (addf (subf z (sbSp z)) (sbExcl (sbSpM diag z))) shapeCasts_S256x256_S256x256

/-- Minus the tile's whole sum. -/
def sbTot (diag : Bool) (z : FVec Ideal S256x256 .f32) : FVec Ideal S256x1 .f32 :=
  subf (extractStridedSlice S256x1 ![0, 0] (sbExcl (sbSpM diag z)) slices_S256x256_o0_0_S256x1)
    (extractStridedSlice S256x1 ![0, 0] (sbSpM diag z) slices_S256x256_o0_0_S256x1)

/-- The running total of the later tiles after `i` tiles have been taken, from the last one down. -/
def sbLater (q : Tile) (k : ℕ → Tile) (n : ℕ) : ℕ → FVec Ideal S256x1 .f32
  | 0 => broadcast S256x1 (Scalar.ofBits (F := Ideal) .f32 0x00000000#32)
  | i + 1 => addf (sbLater q k n i) (sbTot (Nat.beq i 0) (sbZ q (k (n - i))))

/-- The weights of a tile from its scratch tile and the later tiles' total. -/
def sbW (e : FVec Ideal S256x256 .f32) (later : FVec Ideal S256x1 .f32) : FVec Ideal S256x256 .f32 :=
  concatenate S256x256 1
    [⟨S256x128, exp (addf (extractStridedSlice S256x128 ![0, 0] e slices_S256x256_o0_0_S256x128)
        (broadcastTo S256x128 (shapeCast S256x1 later shapeCasts_S256x1_S256x1) broadcasts_S256x1_S256x128))⟩,
     ⟨S256x128, exp (addf (extractStridedSlice S256x128 ![0, 128] e slices_S256x256_o0_128_S256x128)
        (broadcastTo S256x128 (shapeCast S256x1 later shapeCasts_S256x1_S256x1) broadcasts_S256x1_S256x128))⟩]
    concatenates_S256x128_S256x128_S256x256_d1

/-- The same with the diagonal tile's mask. -/
def sbWM (diag : Bool) (w : FVec Ideal S256x256 .f32) : FVec Ideal S256x256 .f32 :=
  bif diag then select past w zeroT else w

/-- A product of a tile of weights with a tile of values. -/
def wv (w : FVec Ideal S256x256 .f32) (v : Tile) : FVec Ideal S256x128 .f32 :=
  matmul (F := Ideal) dot_S256x256_S256x128_S256x128_1_0_0_1_n_n none (truncf .bf16 w bitsLt_bf16_f32)
    (Tile.mat v) (constant S256x128 .f32 0x00000000#32)

/-- The accumulator after `i` tiles, from the last one down. -/
def sbAcc (q : Tile) (k v : ℕ → Tile) (n : ℕ) : ℕ → FVec Ideal S256x128 .f32
  | 0 => broadcast S256x128 (Scalar.ofBits (F := Ideal) .f32 0x00000000#32)
  | i + 1 => addf (sbAcc q k v n i)
      (wv (sbWM (Nat.beq i 0) (sbW (sbE (Nat.beq i 0) (sbZ q (k (n - i)))) (sbLater q k n i))) (v (n - i)))

/-- What is stored for the query tile that sees `n + 1` key tiles. -/
def sbOut (q : Tile) (k v : ℕ → Tile) (n : ℕ) : Tile :=
  shapeCast S1x256x128 (truncf .bf16 (sbAcc q k v n (n + 1)) bitsLt_bf16_f32) shapeCasts_S256x128_S1x256x128

end Cert.KernelIdeal.Attn

end
-- ==== Proof.Attn.Diff.lean ====
/- The differential half of the fused attention kernel, one tile of 256 query rows at a time, written once for a tile that sees `n + 1` key tiles:
   the printed body repeats this text for `n = 0, …, 7`. -/
module

public import proofs.«01_k».proof.Proof.Attn.Stick

@[expose] public section

set_option maxRecDepth 16384

noncomputable section

namespace Cert.KernelIdeal.Attn

open Idealize.ShloMosaic Idealize.ShloMosaic.TcCoe Idealize.SL.Sem
open Cert.KernelIdeal Cert.KernelIdeal.Gen

/-- A tile of the bias, as it is loaded from its scratch. -/
abbrev BTile := Vec Ideal S1x256x256 .f32

/-- The zero accumulator. -/
def zeroA : FVec Ideal S256x128 .f32 := broadcast S256x128 (Scalar.ofBits (F := Ideal) .f32 0x00000000#32)

/-- The queries scaled by one eighth. -/
def daQ (q : Tile) : FVec Ideal S256x128 .bf16 := mulf (Tile.mat q) (broadcast S256x128 (Scalar.ofBits (F := Ideal) .bf16 0x3E00#16))

/-- The lane numbers. -/
def lane : IVec S256x128 32 := iota .tc S256x128 32 [1] iota_S256x128_d1_w32

/-- The zero tile of queries. -/
def zeroQ : FVec Ideal S256x128 .bf16 := broadcast S256x128 (Scalar.ofBits (F := Ideal) .bf16 0x0000#16)

/-- The first half of the scaled queries, zeros elsewhere. -/
def daQ1 (q : Tile) : FVec Ideal S256x128 .bf16 := select (cmpi .slt lane (broadcast S256x128 64#32)) (daQ q) zeroQ

/-- The second half of the scaled queries, zeros elsewhere. -/
def daQ2 (q : Tile) : FVec Ideal S256x128 .bf16 := select (cmpi .sge lane (broadcast S256x128 64#32)) (daQ q) zeroQ

/-- The scores of half the queries against a key tile, with the bias. -/
def daS (qh : FVec Ideal S256x128 .bf16) (k : Tile) (b : BTile) : FVec Ideal S256x256 .f32 :=
  addf (matmul (F := Ideal) dot_S256x128_S256x128_S256x256_1_1_0_0_n_n none qh (Tile.mat k) (constant S256x256 .f32 0x00000000#32))
    (shapeCast S256x256 b shapeCasts_S1x256x256_S256x256)

/-- The first 128 columns. -/
def ch0 (s : FVec Ideal S256x256 .f32) : FVec Ideal S256x128 .f32 := extractStridedSlice S256x128 ![0, 0] s slices_S256x256_o0_0_S256x128

/-- The last 128 columns. -/
def ch1 (s : FVec Ideal S256x256 .f32) : FVec Ideal S256x128 .f32 := extractStridedSlice S256x128 ![0, 128] s slices_S256x256_o0_128_S256x128

/-- The maximum, lane by lane, over the tiles up to `j`. -/
def daMx (s : ℕ → FVec Ideal S256x256 .f32) : ℕ → FVec Ideal S256x128 .f32
  | 0 => maximumf (ch0 (s 0)) (ch1 (s 0))
  | j + 1 => maximumf (maximumf (daMx s j) (ch0 (s (j + 1)))) (ch1 (s (j + 1)))

/-- The row maximum, in every lane. -/
def daM (s : ℕ → FVec Ideal S256x256 .f32) (n : ℕ) : FVec Ideal S256x128 .f32 :=
  broadcastTo S256x128 (shapeCast S256x1 (shapeCast S256x1
    (multiReduction .maximumf [1] S256 (daMx s n) 0xFF800000#32 reduces_S256x128_S256 (.inl rfl) rfl) shapeCasts_S256_S256x1) shapeCasts_S256x1_S256x1)
    broadcasts_S256x1_S256x128

/-- What a score tile is once stored. -/
def daT (s : ℕ → FVec Ideal S256x256 .f32) (j : ℕ) : FVec Ideal S256x256 .f32 := shapeCast S256x256 (s j) shapeCasts_S256x256_S256x256

/-- The sum of the exponentials, lane by lane, over the first `j` tiles. -/
def daL (t : ℕ → FVec Ideal S256x256 .f32) (M : FVec Ideal S256x128 .f32) : ℕ → FVec Ideal S256x128 .f32
  | 0 => zeroA
  | j + 1 => addf (addf (daL t M j) (exp (subf (ch0 (t j)) M))) (exp (subf (ch1 (t j)) M))

/-- The exponentials times the values, over the first `j` tiles. -/
def daAcc (t : ℕ → FVec Ideal S256x256 .f32) (M : FVec Ideal S256x128 .f32) (v : ℕ → Tile) : ℕ → FVec Ideal S256x128 .f32
  | 0 => zeroA
  | j + 1 => addf (daAcc t M v j)
      (wv (concatenate S256x256 1 [⟨S256x128, exp (subf (ch0 (t j)) M)⟩, ⟨S256x128, exp (subf (ch1 (t j)) M)⟩] concatenates_S256x128_S256x128_S256x256_d1) (v j))

/-- The softmax of the scores of `n + 1` tiles times the values. -/
def daPV (s : ℕ → FVec Ideal S256x256 .f32) (v : ℕ → Tile) (n : ℕ) : FVec Ideal S256x128 .f32 :=
  divf (daAcc (daT s) (daM s n) v (n + 1))
    (broadcastTo S256x128 (shapeCast S256x1
      (multiReduction .add [1] S256 (daL (daT s) (daM s n) (n + 1)) 0x00000000#32 reduces_S256x128_S256 (.inl rfl) rfl) shapeCasts_S256_S256x1)
      broadcasts_S256x1_S256x128)

/-- The difference of the two attentions. -/
def daO (lam : FVec Ideal S1x1 .f32) (q : Tile) (k v : ℕ → Tile) (b : ℕ → BTile) (n : ℕ) : FVec Ideal S256x128 .f32 :=
  subf (daPV (fun j => daS (daQ1 q) (k j) (b j)) v n)
    (mulf (broadcastTo S256x128 lam broadcasts_S1x1_S256x128) (daPV (fun j => daS (daQ2 q) (k j) (b j)) v n))

/-- The normalisation of the difference. -/
def daNorm (o : FVec Ideal S256x128 .f32) (g : Vec Ideal S1x128 .f32) : Tile :=
  shapeCast S1x256x128 (truncf .bf16 (mulf (mulf (mulf o (broadcastTo S256x128 (rsqrt (addf
      (divf (shapeCast S256x1 (multiReduction .add [1] S256 (mulf o o) 0x00000000#32 reduces_S256x128_S256 (.inl rfl) rfl) shapeCasts_S256_S256x1)
        (broadcast S256x1 (Scalar.ofBits (F := Ideal) .f32 0x43000000#32)))
      (broadcast S256x1 (Scalar.ofBits (F := Ideal) .f32 0x358637BD#32)))) broadcasts_S256x1_S256x128))
      (broadcastTo S256x128 (shapeCast S1x128 g shapeCasts_S1x128_S1x128) broadcasts_S1x128_S256x128))
    (broadcast S256x128 (Scalar.ofBits (F := Ideal) .f32 0x3F4CCCCD#32))) bitsLt_bf16_f32) shapeCasts_S256x128_S1x256x128

/-- What is stored for the query tile that sees `n + 1` key tiles, whose bias tiles are `b 0, …, b n`. -/
def daOut (lam : FVec Ideal S1x1 .f32) (q : Tile) (k v : ℕ → Tile) (b : ℕ → BTile) (g : Vec Ideal S1x128 .f32) (n : ℕ) : Tile :=
  daNorm (daO lam q k v b n) g

end Cert.KernelIdeal.Attn

end
-- ==== Proof.Attn.StickReal.lean ====
/- The stick-breaking vocabulary read at an index, on finite queries, keys and values: each tile is a tile of real numbers. -/
module

public import proofs.«01_k».proof.Proof.Attn.Stick
public import Idealize.ShloMosaic.Lib.ValueIdx
public import Idealize.ShloMosaic.Lib.MatmulPlain
public import Idealize.ShloMosaic.Lib.IdealHost
public import Idealize.ShloMosaic.Lib.Pipeline.Value
public import Idealize.ShloMosaic.Lib.ValueLayout

@[expose] public section

set_option maxRecDepth 16384

noncomputable section

namespace Cert.KernelIdeal.Attn

open Idealize.ShloMosaic Idealize.ShloMosaic.TcCoe Idealize.SL.Sem Idealize.ShloMosaic.ValueIdx
open Cert.KernelIdeal Cert.KernelIdeal.Gen

/-- The softplus of a real. -/
def sp (x : ℝ) : ℝ := max x 0 + Real.log (1 + Real.exp (-|x|))

/-- The score scale, one over the square root of 128 as a 32-bit float. -/
def sc : ℝ := (Ideal.ofBits .f32 0x3DB504F3#32).toReal

theorem sc_eq : Ideal.ofBits .f32 0x3DB504F3#32 = (sc : EReal) := by
  unfold sc
  rw [EReal.coe_toReal]
  · simp only [Ideal.ofBits, Ideal.ieee]
    simp [← EReal.coe_mul]
  · simp only [Ideal.ofBits, Ideal.ieee]
    simp [← EReal.coe_mul]

/-- A maximum of reals, as an extended real. -/
theorem coe_max' (a b : ℝ) : ((max a b : ℝ) : EReal) = max (a : EReal) (b : EReal) := EReal.coe_strictMono.monotone.map_max

/-- A finite sum of real values, as an extended real. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- `log (1 + 2 ^ (|x| · (−1 / log 2)))` plus the positive part is the softplus. -/
theorem scalar_sp (x : ℝ) :
    max (x : EReal) 0 + Ideal.log (1 + Ideal.exp2 (max (x : EReal) (-(x : EReal)) * ((-((Real.log 2)⁻¹) : ℝ) : EReal))) = ((sp x : ℝ) : EReal) := by
  have h0 : max (x : EReal) (-(x : EReal)) = ((|x| : ℝ) : EReal) := by
    rw [← EReal.coe_neg, ← coe_max', ← abs_eq_max_neg]
  have hp : Real.rpow 2 (|x| * -(Real.log 2)⁻¹) = Real.exp (-|x|) := by
    show (2 : ℝ) ^ (|x| * -(Real.log 2)⁻¹) = _
    rw [Real.rpow_def_of_pos (by norm_num)]
    congr 1
    have : Real.log 2 ≠ 0 := (Real.log_pos (by norm_num)).ne'
    field_simp
  rw [h0, ← EReal.coe_mul]
  show max (x : EReal) 0 + Ideal.log (1 + ((Real.rpow 2 (|x| * -(Real.log 2)⁻¹) : ℝ) : EReal)) = _
  rw [hp, ← EReal.coe_one, ← EReal.coe_add]
  have hpos : ¬ (1 + Real.exp (-|x|) ≤ 0) := by have := Real.exp_pos (-|x|); linarith
  show max (x : EReal) 0 + (if 1 + Real.exp (-|x|) ≤ 0 then ⊥ else (Real.log (1 + Real.exp (-|x|)) : EReal)) = _
  rw [if_neg hpos, ← EReal.coe_zero, ← coe_max', ← EReal.coe_add]
  rfl

/-- Row `r`'s number as a 32-bit word. -/
theorem iota_row (h) (r c : Fin 256) : iota .tc S256x256 32 [0] h (ix2 r c) = BitVec.ofNat 32 (r : ℕ) := iota_single_apply .tc S256x256 32 0 h (ix2 r c)

/-- Column `c`'s number as a 32-bit word. -/
theorem iota_col (h) (r c : Fin 256) : iota .tc S256x256 32 [1] h (ix2 r c) = BitVec.ofNat 32 (c : ℕ) := iota_single_apply .tc S256x256 32 1 h (ix2 r c)

/-- The signed order of two small words is the order of the numbers. -/
theorem slt_small {a b : ℕ} (ha : a < 2 ^ 31) (hb : b < 2 ^ 31) : (BitVec.ofNat 32 a).slt (BitVec.ofNat 32 b) = decide (a < b) := by
  rw [BitVec.slt_eq_decide]
  refine decide_eq_decide.mpr ?_
  rw [BitVec.toInt_eq_toNat_of_lt (by rw [BitVec.toNat_ofNat]; omega), BitVec.toInt_eq_toNat_of_lt (by rw [BitVec.toNat_ofNat]; omega), BitVec.toNat_ofNat, BitVec.toNat_ofNat]
  omega

theorem past_apply (r c : Fin 256) : past (ix2 r c) = if (c : ℕ) < r then 1#1 else 0#1 := by
  show BitVec.ofBool ((iota .tc S256x256 32 [1] _ (ix2 r c)).slt (iota .tc S256x256 32 [0] _ (ix2 r c))) = _
  rw [iota_row, iota_col, slt_small (by omega) (by omega)]
  split <;> rename_i h <;> simp [h]

theorem negTri_apply (r c : Fin 256) : negTri (ix2 r c) = (((if (c : ℕ) < r then -1 else 0 : ℝ)) : EReal) := by
  show Scalar.select (BitVec.ofBool ((iota .tc S256x256 32 [1] _ (ix2 r c)).slt (iota .tc S256x256 32 [0] _ (ix2 r c))))
    (Ideal.ofBits .f32 0xBF800000#32) (Ideal.ofBits .f32 0x00000000#32) = _
  rw [iota_row, iota_col, slt_small (by omega) (by omega), Ideal.ofBits_zero_f32]
  have h1 : Ideal.ofBits .f32 0xBF800000#32 = ((-1 : ℝ) : EReal) := by
    simp [Ideal.ofBits, Ideal.ieee]
    norm_cast
    norm_num
  rw [h1]
  split <;> rename_i h <;> simp [h]
  all_goals rfl

theorem zeroT_apply (i : S256x256.Idx) : zeroT i = (0 : EReal) := Ideal.ofBits_zero_f32

theorem sbZ_apply (q k : Tile) (Q K : Fin 256 → Fin 128 → ℝ) (hq : ∀ r d, q (ix3 (0 : Fin 1) r d) = ((Q r d : ℝ) : EReal))
    (hk : ∀ r d, k (ix3 (0 : Fin 1) r d) = ((K r d : ℝ) : EReal)) (r c : Fin 256) :
    sbZ q k (ix2 r c) = (((∑ d, Q r d * K c d) * sc : ℝ) : EReal) := by
  have hm : matmul (F := Ideal) dot_S256x128_S256x128_S256x256_1_1_0_0_n_n none (Tile.mat q) (Tile.mat k) (constant S256x256 .f32 0x00000000#32) (ix2 r c)
      = ((∑ d, Q r d * K c d : ℝ) : EReal) := by
    refine (Ideal.matmul_transposedRhs_apply (M := 256) (K := 128) (N := 256) none (Tile.mat q) (Tile.mat k) _ r c).trans ?_
    rw [show constant (F := Ideal) S256x256 .f32 0x00000000#32 (ix2 r c) = (0 : EReal) from Ideal.ofBits_zero_f32, zero_add, ← coe_sum]
    refine Finset.sum_congr rfl fun d _ => ?_
    rw [EReal.coe_mul, ← hq, ← hk]
    exact congrArg₂ (· * ·) (shapeCast_1ab_ab_apply q _ r d) (shapeCast_1ab_ab_apply k _ c d)
  show matmul (F := Ideal) dot_S256x128_S256x128_S256x256_1_1_0_0_n_n none (Tile.mat q) (Tile.mat k) (constant S256x256 .f32 0x00000000#32) (ix2 r c) * Ideal.ofBits .f32 0x3DB504F3#32 = _
  rw [hm, sc_eq, EReal.coe_mul]

theorem negLog2e : Named.named (F := Ideal) κ "neg_log2e" (φ := .f32) 0xBFB8AA3B#32 = ((-((Real.log 2)⁻¹) : ℝ) : EReal) :=
  IdealRules.named_const.ideal_named_scalar κ "neg_log2e" _ _ rfl

theorem sbSp_apply (z : FVec Ideal S256x256 .f32) (i : S256x256.Idx) (x : ℝ) (hz : z i = (x : EReal)) : sbSp z i = ((sp x : ℝ) : EReal) := by
  rw [← scalar_sp x, ← hz, ← negLog2e]
  unfold sbSp
  rw [addf_apply, maximumf_apply, zeroT_apply]
  refine congrArg (fun u => max (z i) 0 + u) ?_
  show Ideal.log (addf (broadcast S256x256 (Scalar.ofBits (F := Ideal) .f32 0x3F800000#32)) (exp2 (mulf (absf z) (broadcast S256x256 (Named.named (F := Ideal) κ "neg_log2e" 0xBFB8AA3B#32)))) i) = _
  refine congrArg Ideal.log ?_
  rw [addf_apply]
  refine congrArg₂ (· + ·) Ideal.ofBits_one_f32 ?_
  rfl

/-- The softplus that counts, as a real: on the diagonal tile only strictly past columns. -/
def rY (diag : Bool) (x : Fin 256 → Fin 256 → ℝ) (r c : Fin 256) : ℝ := if diag = true ∧ ¬ ((c : ℕ) < r) then 0 else sp (x r c)

theorem sbSpM_apply (diag : Bool) (z : FVec Ideal S256x256 .f32) (x : Fin 256 → Fin 256 → ℝ) (hz : ∀ r c, z (ix2 r c) = ((x r c : ℝ) : EReal)) (r c : Fin 256) :
    sbSpM diag z (ix2 r c) = ((rY diag x r c : ℝ) : EReal) := by
  unfold sbSpM rY
  cases diag with
  | false => simp only [cond_false, Bool.false_eq_true, false_and, if_false]; exact sbSp_apply z _ _ (hz r c)
  | true =>
    simp only [cond_true, true_and]
    rw [select_apply, past_apply, zeroT_apply, sbSp_apply z _ _ (hz r c)]
    by_cases h : (c : ℕ) < r
    · rw [if_pos h, select_one, if_neg (by simpa using h)]
    · rw [if_neg h, select_zero, if_pos h, EReal.coe_zero]

theorem sbExcl_apply (y : FVec Ideal S256x256 .f32) (x : Fin 256 → Fin 256 → ℝ) (hy : ∀ r c, y (ix2 r c) = ((x r c : ℝ) : EReal)) (r c : Fin 256) :
    sbExcl y (ix2 r c) = ((-∑ c' : Fin 256, (if (c : ℕ) < c' then x r c' else 0) : ℝ) : EReal) := by
  unfold sbExcl
  refine (Ideal.matmul_plain_apply (M := 256) (K := 256) (N := 256) none _ _ _ r c).trans ?_
  rw [show constant (F := Ideal) S256x256 .f32 0x00000000#32 (ix2 r c) = (0 : EReal) from Ideal.ofBits_zero_f32, zero_add, ← Finset.sum_neg_distrib, ← coe_sum]
  refine Finset.sum_congr rfl fun d _ => ?_
  refine (congrArg₂ (· * ·) (hy r d) (negTri_apply d c)).trans ?_
  show ((x r d : ℝ) : EReal) * _ = _
  rw [← EReal.coe_mul]
  congr 1
  split <;> simp

/-- The first column of a tile. -/
theorem col0_apply (e : FVec Ideal S256x256 .f32) (r : Fin 256) (u : Fin 1) :
    extractStridedSlice S256x1 ![0, 0] e slices_S256x256_o0_0_S256x1 (ix2 r u) = e (ix2 r 0) :=
  extractStridedSlice_apply _ e _ (ix2 r u) (ix2 r 0) (fun a => by
    match a with
    | ⟨0, _⟩ => show (r : ℕ) = 0 + r; omega
    | ⟨1, _⟩ => show 0 = 0 + (u : ℕ); omega)

theorem ch0_apply (e : FVec Ideal S256x256 .f32) (r : Fin 256) (c : Fin 128) :
    extractStridedSlice S256x128 ![0, 0] e slices_S256x256_o0_0_S256x128 (ix2 r c) = e (ix2 r ⟨c, by omega⟩) :=
  extractStridedSlice_apply _ e _ (ix2 r c) (ix2 r ⟨c, by omega⟩) (fun a => by
    match a with
    | ⟨0, _⟩ => show (r : ℕ) = 0 + r; omega
    | ⟨1, _⟩ => show (c : ℕ) = 0 + c; omega)

theorem ch1_apply (e : FVec Ideal S256x256 .f32) (r : Fin 256) (c : Fin 128) :
    extractStridedSlice S256x128 ![0, 128] e slices_S256x256_o0_128_S256x128 (ix2 r c) = e (ix2 r ⟨128 + c, by omega⟩) :=
  extractStridedSlice_apply _ e _ (ix2 r c) (ix2 r ⟨128 + c, by omega⟩) (fun a => by
    match a with
    | ⟨0, _⟩ => show (r : ℕ) = 0 + r; omega
    | ⟨1, _⟩ => show 128 + (c : ℕ) = 128 + c; omega)

/-- A column spread over 128 lanes. -/
theorem spread_apply (x : FVec Ideal S256x1 .f32) (r : Fin 256) (c : Fin 128) :
    broadcastTo S256x128 x broadcasts_S256x1_S256x128 (ix2 r c) = x (ix2 r 0) :=
  broadcastTo_apply x _ (ix2 r c) (ix2 r 0) (fun a => by
    match a with
    | ⟨0, _⟩ => rfl
    | ⟨1, _⟩ => rfl)

/-- Two halves side by side. -/
theorem cat_apply (a b : FVec Ideal S256x128 .f32) (h : Shape.Concatenates [S256x128, S256x128] S256x256 1) (r : Fin 256) (G : Fin 256 → EReal)
    (ha : ∀ c : Fin 128, a (ix2 r c) = G ⟨c, by omega⟩) (hb : ∀ c : Fin 128, b (ix2 r c) = G ⟨128 + c, by omega⟩) (c : Fin 256) :
    concatenate S256x256 1 [⟨S256x128, a⟩, ⟨S256x128, b⟩] h (ix2 r c) = G c := by
  by_cases hc : (c : ℕ) < 128
  · refine (concatenate_pair_apply_left 1 a b h (ix2 r c) rfl (ix2 r ⟨c, hc⟩) (fun a => by
      match a with
      | ⟨0, _⟩ => rfl
      | ⟨1, _⟩ => rfl)).trans (ha ⟨c, hc⟩)
  · refine (concatenate_pair_apply_right 1 a b h (ix2 r c) rfl rfl (ix2 r ⟨c - 128, by omega⟩) (fun a ha => by
      match a with
      | ⟨0, _⟩ => rfl
      | ⟨1, _⟩ => exact absurd rfl ha) (by show (c : ℕ) - 128 + 128 = c; omega)).trans ((hb ⟨c - 128, by omega⟩).trans ?_)
    exact congrArg G (Fin.ext (by show 128 + ((c : ℕ) - 128) = c; omega))

theorem sbE_apply (diag : Bool) (z : FVec Ideal S256x256 .f32) (x : Fin 256 → Fin 256 → ℝ) (hz : ∀ r c, z (ix2 r c) = ((x r c : ℝ) : EReal)) (r c : Fin 256) :
    sbE diag z (ix2 r c) = ((x r c - sp (x r c) - ∑ c' : Fin 256, (if (c : ℕ) < c' then rY diag x r c' else 0) : ℝ) : EReal) := by
  unfold sbE
  rw [shapeCast_self, addf_apply, subf_apply, hz, sbSp_apply z _ _ (hz r c), sbExcl_apply _ _ (sbSpM_apply diag z x hz), ← EReal.coe_sub, ← EReal.coe_add, ← sub_eq_add_neg]

theorem sbTot_apply (diag : Bool) (z : FVec Ideal S256x256 .f32) (x : Fin 256 → Fin 256 → ℝ) (hz : ∀ r c, z (ix2 r c) = ((x r c : ℝ) : EReal)) (r : Fin 256) (u : Fin 1) :
    sbTot diag z (ix2 r u) = ((-∑ c, rY diag x r c : ℝ) : EReal) := by
  unfold sbTot
  rw [subf_apply, col0_apply, col0_apply, sbExcl_apply _ _ (sbSpM_apply diag z x hz), sbSpM_apply diag z x hz, ← EReal.coe_sub]
  congr 1
  have h : ∀ f : Fin 256 → ℝ, ∑ c, f c = f 0 + ∑ c' : Fin 256, (if ((0 : Fin 256) : ℕ) < c' then f c' else 0) := by
    intro f
    rw [Fin.sum_univ_succ (n := 255), Fin.sum_univ_succ (n := 255)]
    simp
  rw [h (rY diag x r)]
  ring

/-- The tile scores as reals. -/
def rZ (Q K : Fin 256 → Fin 128 → ℝ) (r c : Fin 256) : ℝ := (∑ d, Q r d * K c d) * sc

/-- A tile holds these reals. -/
def Holds (t : Tile) (X : Fin 256 → Fin 128 → ℝ) : Prop := ∀ r d, t (ix3 (0 : Fin 1) r d) = ((X r d : ℝ) : EReal)

section Chain

variable {q : Tile} {k v : ℕ → Tile} {Q : Fin 256 → Fin 128 → ℝ} {K V : ℕ → Fin 256 → Fin 128 → ℝ}
  (hq : Holds q Q) (hk : ∀ j, Holds (k j) (K j)) (hv : ∀ j, Holds (v j) (V j)) (n : ℕ)

include hq hk

theorem sbLater_apply (i : ℕ) (r : Fin 256) (u : Fin 1) :
    sbLater q k n i (ix2 r u) = ((-∑ m ∈ Finset.range i, ∑ c, rY (Nat.beq m 0) (rZ Q (K (n - m))) r c : ℝ) : EReal) := by
  induction i with
  | zero => exact Ideal.ofBits_zero_f32.trans (by simp)
  | succ i ih =>
    rw [Finset.sum_range_succ, neg_add, EReal.coe_add, ← ih]
    exact congrArg (fun t => sbLater q k n i (ix2 r u) + t) (sbTot_apply _ _ (rZ Q (K (n - i))) (sbZ_apply q _ Q _ hq (hk _)) r u)

/-- The weight of column `c` of the `m`-th tile from the last. -/
def rW (Q : Fin 256 → Fin 128 → ℝ) (K : ℕ → Fin 256 → Fin 128 → ℝ) (n m : ℕ) (r c : Fin 256) : ℝ :=
  if m = 0 ∧ ¬ ((c : ℕ) < r) then 0 else
    Real.exp (rZ Q (K (n - m)) r c - sp (rZ Q (K (n - m)) r c) - (∑ c' : Fin 256, (if (c : ℕ) < c' then rY (Nat.beq m 0) (rZ Q (K (n - m))) r c' else 0))
      - ∑ m' ∈ Finset.range m, ∑ c', rY (Nat.beq m' 0) (rZ Q (K (n - m'))) r c')

theorem sbWM_apply (m : ℕ) (r c : Fin 256) :
    sbWM (Nat.beq m 0) (sbW (sbE (Nat.beq m 0) (sbZ q (k (n - m)))) (sbLater q k n m)) (ix2 r c) = ((rW Q K n m r c : ℝ) : EReal) := by
  have hw : sbW (sbE (Nat.beq m 0) (sbZ q (k (n - m)))) (sbLater q k n m) (ix2 r c)
      = Ideal.exp (sbE (Nat.beq m 0) (sbZ q (k (n - m))) (ix2 r c) + sbLater q k n m (ix2 r 0)) := by
    unfold sbW
    refine cat_apply _ _ _ r (fun c => Ideal.exp (sbE (Nat.beq m 0) (sbZ q (k (n - m))) (ix2 r c) + sbLater q k n m (ix2 r 0))) (fun c => ?_) (fun c => ?_) c
    · refine congrArg Ideal.exp (congrArg₂ (· + ·) (ch0_apply _ r c) ?_)
      rw [shapeCast_self]; exact spread_apply _ r c
    · refine congrArg Ideal.exp (congrArg₂ (· + ·) (ch1_apply _ r c) ?_)
      rw [shapeCast_self]; exact spread_apply _ r c
  rw [sbE_apply _ _ (rZ Q (K (n - m))) (sbZ_apply q _ Q _ hq (hk _)), sbLater_apply hq hk, ← EReal.coe_add, ← sub_eq_add_neg] at hw
  unfold sbWM rW
  cases m with
  | zero =>
    simp only [Nat.beq, cond_true, true_and] at hw ⊢
    rw [select_apply, past_apply, zeroT_apply, hw]
    by_cases h : (c : ℕ) < r
    · rw [if_pos h, select_one, if_neg (not_not.mpr h)]; rfl
    · rw [if_neg h, select_zero, if_pos h, EReal.coe_zero]
  | succ m =>
    simp only [Nat.beq, cond_false, Nat.succ_ne_zero, Nat.add_eq_zero_iff, one_ne_zero, and_false, false_and, if_false] at hw ⊢
    rw [hw]; rfl

include hv

theorem sbAcc_apply (i : ℕ) (r : Fin 256) (d : Fin 128) :
    sbAcc q k v n i (ix2 r d) = ((∑ m ∈ Finset.range i, ∑ c, rW Q K n m r c * V (n - m) c d : ℝ) : EReal) := by
  induction i with
  | zero => exact Ideal.ofBits_zero_f32.trans (by simp)
  | succ i ih =>
    rw [Finset.sum_range_succ, EReal.coe_add, ← ih]
    refine congrArg (fun t => sbAcc q k v n i (ix2 r d) + t) ?_
    unfold wv
    refine (Ideal.matmul_plain_apply (M := 256) (K := 256) (N := 128) none _ _ _ r d).trans ?_
    rw [show constant (F := Ideal) S256x128 .f32 0x00000000#32 (ix2 r d) = (0 : EReal) from Ideal.ofBits_zero_f32, zero_add, ← coe_sum]
    refine Finset.sum_congr rfl fun c _ => ?_
    refine (congrArg₂ (· * ·) (sbWM_apply hq hk n i r c) ((shapeCast_1ab_ab_apply (v (n - i)) _ c d).trans (hv _ c d))).trans ?_
    exact (EReal.coe_mul _ _).symm

theorem sbOut_apply (r : Fin 256) (d : Fin 128) :
    sbOut q k v n (ix3 (0 : Fin 1) r d) = ((∑ m ∈ Finset.range (n + 1), ∑ c, rW Q K n m r c * V (n - m) c d : ℝ) : EReal) :=
  (shapeCast_ab_1ab_apply _ _ 0 r d).trans (sbAcc_apply hq hk hv n (n + 1) r d)

end Chain

end Cert.KernelIdeal.Attn

end
-- ==== Proof.Attn.DiffReal.lean ====
/- The kernel's differential attention of one query tile, as real numbers. -/
module

public import proofs.«01_k».proof.Proof.Attn.Diff
public import proofs.«01_k».proof.Proof.Attn.StickReal
public import Idealize.ShloMosaic.PureOps.Ideal.Laws
public import Idealize.ShloMosaic.Lib.ValueLayoutCasts

@[expose] public section

set_option maxRecDepth 16384

noncomputable section

namespace Cert.KernelIdeal.Attn

open Idealize.ShloMosaic Idealize.ShloMosaic.TcCoe Idealize.SL.Sem Idealize.ShloMosaic.ValueIdx
open Cert.KernelIdeal Cert.KernelIdeal.Gen

/-- The exponential of a score that may be minus infinity. -/
def we (s : EReal) : ℝ := (Ideal.exp s).toReal

theorem we_bot : we ⊥ = 0 := rfl

theorem we_coe (x : ℝ) : we (x : EReal) = Real.exp x := rfl

theorem we_nonneg (s : EReal) : 0 ≤ we s := by
  induction s using EReal.rec with
  | bot => exact le_rfl
  | coe x => exact (Real.exp_pos x).le
  | top => exact le_rfl

theorem we_pos {s : EReal} (h1 : s ≠ ⊤) (h2 : s ≠ ⊥) : 0 < we s := by
  induction s using EReal.rec with
  | bot => exact absurd rfl h2
  | coe x => exact Real.exp_pos x
  | top => exact absurd rfl h1

/-- A real shift of the score is a factor. -/
theorem exp_shift {s : EReal} (h1 : s ≠ ⊤) (μ : ℝ) : Ideal.exp (s - (μ : EReal)) = ((we s * Real.exp (-μ) : ℝ) : EReal) := by
  induction s using EReal.rec with
  | bot =>
    rw [EReal.bot_sub, we_bot, zero_mul, EReal.coe_zero]
    rfl
  | coe x =>
    rw [← EReal.coe_sub, we_coe, ← Real.exp_add, ← sub_eq_add_neg]
    rfl
  | top => exact absurd rfl h1

theorem negInf : FloatOps.ofBits (F := Ideal) .f32 0xFF800000#32 = (⊥ : EReal) := by
  show Ideal.ofBits .f32 0xFF800000#32 = (⊥ : EReal)
  simp [Ideal.ofBits, Ideal.ieee]

/-- The largest of finitely many scores below plus infinity, one of them a number, is a number. -/
theorem max_real {ι : Type} [Fintype ι] (f : ι → EReal) (h1 : ∀ k, f k ≠ ⊤) (k0 : ι) (h2 : f k0 ≠ ⊥) :
    ∃ μ : ℝ, Finset.univ.fold max ⊥ f = (μ : EReal) := by
  have a : Finset.univ.fold max ⊥ f < (⊤ : EReal) := (Finset.fold_max_lt ⊤).mpr ⟨bot_lt_top, fun k _ => lt_top_iff_ne_top.mpr (h1 k)⟩
  have b : (⊥ : EReal) < Finset.univ.fold max ⊥ f := (Finset.lt_fold_max ⊥).mpr (Or.inr ⟨k0, Finset.mem_univ _, bot_lt_iff_ne_bot.mpr h2⟩)
  exact ⟨_, (EReal.coe_toReal a.ne b.ne').symm⟩

/-- A quotient of reals. -/
theorem div_coe (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

/-- A sum over 256 columns from its halves. -/
theorem sum_halves (f : Fin 256 → ℝ) : ∑ c : Fin 128, (f ⟨c, by omega⟩ + f ⟨128 + c, by omega⟩) = ∑ c, f c := by
  rw [Finset.sum_add_distrib]
  exact (Fin.sum_univ_add (a := 128) (b := 128) f).symm

/-- The rows of a 256 by 128 tile summed. -/
theorem sum_lanes (x : FVec Ideal S256x128 .f32) (h) (hφ) (hacc) (r : Fin 256) (u : Fin 1) :
    shapeCast S256x1 (multiReduction .add [1] S256 x 0x00000000#32 h hφ hacc) shapeCasts_S256_S256x1 (ix2 r u) = ∑ l : Fin 128, x (ix2 r l) := by
  rw [shapeCast_a_a1_apply]
  refine (Ideal.multiReduction_add_single x _ h hφ hacc _).trans ?_
  refine Finset.sum_congr rfl fun l _ => congrArg x (funext fun a => Fin.ext ?_)
  match a with
  | ⟨0, _⟩ => rfl
  | ⟨1, _⟩ => rfl

section Tiles

variable (s : ℕ → FVec Ideal S256x256 .f32) (h1 : ∀ j r c, s j (ix2 r c) ≠ (⊤ : EReal)) (h2 : ∀ r, s 0 (ix2 r 0) ≠ (⊥ : EReal))

include h1

theorem daMx_lt (j : ℕ) (r : Fin 256) (l : Fin 128) : daMx s j (ix2 r l) ≠ (⊤ : EReal) := by
  rw [← lt_top_iff_ne_top]
  have e0 : ∀ i, ch0 (s i) (ix2 r l) < (⊤ : EReal) := fun i => by
    unfold ch0
    rw [ch0_apply]
    exact lt_top_iff_ne_top.mpr (h1 i _ _)
  have e1 : ∀ i, ch1 (s i) (ix2 r l) < (⊤ : EReal) := fun i => by
    unfold ch1
    rw [ch1_apply]
    exact lt_top_iff_ne_top.mpr (h1 i _ _)
  induction j with
  | zero => exact max_lt (e0 0) (e1 0)
  | succ j ih => exact max_lt (max_lt ih (e0 _)) (e1 _)

include h2

theorem daMx_gt (j : ℕ) (r : Fin 256) : daMx s j (ix2 r 0) ≠ (⊥ : EReal) := by
  rw [← bot_lt_iff_ne_bot]
  induction j with
  | zero =>
    refine lt_max_of_lt_left ?_
    unfold ch0
    rw [ch0_apply]
    exact bot_lt_iff_ne_bot.mpr (h2 r)
  | succ j ih => exact lt_max_of_lt_left (lt_max_of_lt_left ih)

/-- The row maximum is a number. -/
theorem daM_real (n : ℕ) (r : Fin 256) : ∃ μ : ℝ, ∀ l, daM s n (ix2 r l) = (μ : EReal) := by
  obtain ⟨μ, hμ⟩ := max_real (fun l : Fin 128 => daMx s n (ix2 r l)) (fun l => daMx_lt s h1 n r l) 0 (daMx_gt s h1 h2 n r)
  refine ⟨μ, fun l => ?_⟩
  unfold daM
  rw [spread_apply, shapeCast_self, shapeCast_a_a1_apply]
  refine (Ideal.multiReduction_maximumf_single (daMx s n) _ _ _ _ _).trans ?_
  rw [negInf, ← hμ]
  refine congrArg (Finset.fold max ⊥ · Finset.univ) (funext fun k => congrArg (daMx s n) (funext fun a => Fin.ext ?_))
  match a with
  | ⟨0, _⟩ => rfl
  | ⟨1, _⟩ => rfl

theorem daT_apply (j : ℕ) (r c : Fin 256) : daT s j (ix2 r c) = s j (ix2 r c) := by
  unfold daT
  rw [shapeCast_self]

section Row

variable (n : ℕ) (r : Fin 256) (μ : ℝ) (hμ : ∀ l, daM s n (ix2 r l) = (μ : EReal))

include hμ

theorem e0_apply (j : ℕ) (l : Fin 128) :
    exp (subf (ch0 (daT s j)) (daM s n)) (ix2 r l) = ((we (s j (ix2 r ⟨l, by omega⟩)) * Real.exp (-μ) : ℝ) : EReal) := by
  rw [← exp_shift (h1 j r ⟨l, by omega⟩) μ, ← hμ l, ← daT_apply s h1 h2 j r ⟨l, by omega⟩, ← ch0_apply (daT s j) r l]
  rfl

theorem e1_apply (j : ℕ) (l : Fin 128) :
    exp (subf (ch1 (daT s j)) (daM s n)) (ix2 r l) = ((we (s j (ix2 r ⟨128 + l, by omega⟩)) * Real.exp (-μ) : ℝ) : EReal) := by
  rw [← exp_shift (h1 j r ⟨128 + l, by omega⟩) μ, ← hμ l, ← daT_apply s h1 h2 j r ⟨128 + l, by omega⟩, ← ch1_apply (daT s j) r l]
  rfl

theorem daL_apply (i : ℕ) (l : Fin 128) :
    daL (daT s) (daM s n) i (ix2 r l)
      = ((∑ j ∈ Finset.range i, (we (s j (ix2 r ⟨l, by omega⟩)) + we (s j (ix2 r ⟨128 + l, by omega⟩))) * Real.exp (-μ) : ℝ) : EReal) := by
  induction i with
  | zero => exact Ideal.ofBits_zero_f32.trans (by simp)
  | succ i ih =>
    rw [Finset.sum_range_succ, EReal.coe_add, ← ih, add_mul, EReal.coe_add, ← e0_apply s h1 h2 n r μ hμ, ← e1_apply s h1 h2 n r μ hμ, ← add_assoc]
    rfl

theorem sumL_apply (i : ℕ) (u : Fin 1) :
    shapeCast S256x1 (multiReduction .add [1] S256 (daL (daT s) (daM s n) i) 0x00000000#32 reduces_S256x128_S256 (.inl rfl) rfl) shapeCasts_S256_S256x1 (ix2 r u)
      = (((∑ j ∈ Finset.range i, ∑ c, we (s j (ix2 r c))) * Real.exp (-μ) : ℝ) : EReal) := by
  refine (sum_lanes _ _ _ _ r u).trans ?_
  refine (Finset.sum_congr rfl fun l _ => daL_apply s h1 h2 n r μ hμ i l).trans ?_
  rw [coe_sum]
  refine congrArg _ ?_
  rw [Finset.sum_comm, Finset.sum_mul]
  refine Finset.sum_congr rfl fun j _ => ?_
  rw [← Finset.sum_mul]
  exact congrArg (· * Real.exp (-μ)) (sum_halves fun c => we (s j (ix2 r c)))

theorem daAcc_apply (v : ℕ → Tile) (V : ℕ → Fin 256 → Fin 128 → ℝ) (hv : ∀ j, Holds (v j) (V j)) (i : ℕ) (d : Fin 128) :
    daAcc (daT s) (daM s n) v i (ix2 r d) = (((∑ j ∈ Finset.range i, ∑ c, we (s j (ix2 r c)) * V j c d) * Real.exp (-μ) : ℝ) : EReal) := by
  induction i with
  | zero => exact Ideal.ofBits_zero_f32.trans (by simp)
  | succ i ih =>
    rw [Finset.sum_range_succ, add_mul, EReal.coe_add, ← ih]
    refine congrArg (fun t => daAcc (daT s) (daM s n) v i (ix2 r d) + t) ?_
    unfold wv
    refine (Ideal.matmul_plain_apply (M := 256) (K := 256) (N := 128) none _ _ _ r d).trans ?_
    rw [show constant (F := Ideal) S256x128 .f32 0x00000000#32 (ix2 r d) = (0 : EReal) from Ideal.ofBits_zero_f32, zero_add, Finset.sum_mul, ← coe_sum]
    refine Finset.sum_congr rfl fun c _ => ?_
    refine (congrArg₂ (· * ·) (cat_apply _ _ concatenates_S256x128_S256x128_S256x256_d1 r (fun c => ((we (s i (ix2 r c)) * Real.exp (-μ) : ℝ) : EReal)) (e0_apply s h1 h2 n r μ hμ i) (e1_apply s h1 h2 n r μ hμ i) c)
      ((shapeCast_1ab_ab_apply (v i) _ c d).trans (hv _ c d))).trans ?_
    show ((we (s i (ix2 r c)) * Real.exp (-μ) : ℝ) : EReal) * ((V i c d : ℝ) : EReal) = _
    rw [← EReal.coe_mul]
    exact congrArg _ (mul_right_comm _ _ _)

end Row

/-- The weights of a row have a positive sum. -/
theorem den_pos (n : ℕ) (r : Fin 256) : 0 < ∑ j ∈ Finset.range (n + 1), ∑ c, we (s j (ix2 r c)) := by
  refine lt_of_lt_of_le (we_pos (h1 0 r 0) (h2 r)) ?_
  refine (Finset.single_le_sum (f := fun c => we (s 0 (ix2 r c))) (fun c _ => we_nonneg _) (Finset.mem_univ 0)).trans ?_
  exact Finset.single_le_sum (f := fun j => ∑ c, we (s j (ix2 r c))) (fun j _ => Finset.sum_nonneg fun c _ => we_nonneg _) (Finset.mem_range.mpr (Nat.succ_pos n))

theorem daPV_apply (v : ℕ → Tile) (V : ℕ → Fin 256 → Fin 128 → ℝ) (hv : ∀ j, Holds (v j) (V j)) (n : ℕ) (r : Fin 256) (d : Fin 128) :
    daPV s v n (ix2 r d) = (((∑ j ∈ Finset.range (n + 1), ∑ c, we (s j (ix2 r c)) * V j c d) / (∑ j ∈ Finset.range (n + 1), ∑ c, we (s j (ix2 r c))) : ℝ) : EReal) := by
  obtain ⟨μ, hμ⟩ := daM_real s h1 h2 n r
  unfold daPV
  rw [divf_apply, spread_apply, daAcc_apply s h1 h2 n r μ hμ v V hv]
  refine (congrArg (Ideal.div _) (sumL_apply s h1 h2 n r μ hμ (n + 1) 0)).trans ?_
  refine (div_coe _ _ (mul_pos (den_pos s h1 h2 n r) (Real.exp_pos _)).ne').trans ?_
  rw [mul_div_mul_right _ _ (Real.exp_pos (-μ)).ne']

end Tiles

/-! ### The scores -/

/-- A sum over the 128 lanes with zeros in the last half. -/
theorem sum_first (f : ℕ → ℝ) : ∑ d : Fin 128, (if (d : ℕ) < 64 then f d else 0) = ∑ d : Fin 64, f d := by
  rw [Fin.sum_univ_add (a := 64) (b := 64)]
  rw [Finset.sum_congr rfl fun (d : Fin 64) _ => if_pos (show ((Fin.castAdd 64 d : Fin 128) : ℕ) < 64 from d.isLt),
    Finset.sum_eq_zero fun (d : Fin 64) _ => if_neg (show ¬ ((Fin.natAdd 64 d : Fin 128) : ℕ) < 64 from by simp), add_zero]
  rfl

/-- A sum over the 128 lanes with zeros in the first half. -/
theorem sum_last (f : ℕ → ℝ) : ∑ d : Fin 128, (if 64 ≤ (d : ℕ) then f d else 0) = ∑ d : Fin 64, f (64 + d) := by
  rw [Fin.sum_univ_add (a := 64) (b := 64)]
  rw [Finset.sum_eq_zero fun (d : Fin 64) _ => if_neg (show ¬ 64 ≤ ((Fin.castAdd 64 d : Fin 128) : ℕ) from by simp),
    Finset.sum_congr rfl fun (d : Fin 64) _ => if_pos (show 64 ≤ ((Fin.natAdd 64 d : Fin 128) : ℕ) from by simp), zero_add]
  rfl

theorem eighth : Ideal.ofBits .bf16 0x3E00#16 = (((1 : ℝ) / 8 : ℝ) : EReal) := by
  simp only [Ideal.ofBits, Ideal.ieee]
  simp [← EReal.coe_mul]
  norm_num

theorem lane_apply (r : Fin 256) (l : Fin 128) : lane (ix2 r l) = BitVec.ofNat 32 (l : ℕ) := iota_single_apply .tc S256x128 32 1 _ (ix2 r l)

section Scores

variable {q : Tile} {Q : Fin 256 → ℕ → ℝ} (hq : ∀ r (d : Fin 128), q (ix3 (0 : Fin 1) r d) = ((Q r d : ℝ) : EReal))

include hq

theorem daQ_apply (r : Fin 256) (d : Fin 128) : daQ q (ix2 r d) = ((Q r d * (1 / 8) : ℝ) : EReal) := by
  unfold daQ
  rw [mulf_apply, EReal.coe_mul, ← eighth, ← hq]
  exact congrArg (· * _) (shapeCast_1ab_ab_apply q _ r d)

theorem daQ1_apply (r : Fin 256) (d : Fin 128) : daQ1 q (ix2 r d) = (((if (d : ℕ) < 64 then Q r d * (1 / 8) else 0 : ℝ)) : EReal) := by
  have hl : cmpi .slt lane (broadcast S256x128 64#32) (ix2 r d) = BitVec.ofBool (decide ((d : ℕ) < 64)) := by
    rw [← slt_small (show (d : ℕ) < 2 ^ 31 by omega) (show 64 < 2 ^ 31 by norm_num), ← lane_apply r d]
    rfl
  unfold daQ1
  rw [select_apply, hl, daQ_apply hq]
  by_cases h : (d : ℕ) < 64
  · rw [if_pos h, decide_eq_true h]; rfl
  · rw [if_neg h, decide_eq_false h]; exact Ideal.ofBits_zero_bf16

theorem daQ2_apply (r : Fin 256) (d : Fin 128) : daQ2 q (ix2 r d) = (((if 64 ≤ (d : ℕ) then Q r d * (1 / 8) else 0 : ℝ)) : EReal) := by
  have hl : cmpi .sge lane (broadcast S256x128 64#32) (ix2 r d) = BitVec.ofBool (decide (64 ≤ (d : ℕ))) := by
    rw [show decide (64 ≤ (d : ℕ)) = !decide ((d : ℕ) < 64) from by rw [← decide_not]; exact decide_eq_decide.mpr not_lt.symm, ← slt_small (show (d : ℕ) < 2 ^ 31 by omega) (show 64 < 2 ^ 31 by norm_num), ← lane_apply r d]
    show BitVec.ofBool (BitVec.sle 64#32 (lane (ix2 r d))) = _
    rw [BitVec.sle_eq_not_slt]
  unfold daQ2
  rw [select_apply, hl, daQ_apply hq]
  by_cases h : 64 ≤ (d : ℕ)
  · rw [if_pos h, decide_eq_true h]; rfl
  · rw [if_neg h, decide_eq_false h]; exact Ideal.ofBits_zero_bf16

variable {k : Tile} {K : Fin 256 → ℕ → ℝ} (hk : ∀ r (d : Fin 128), k (ix3 (0 : Fin 1) r d) = ((K r d : ℝ) : EReal))

include hk

theorem daS1_apply (b : BTile) (r c : Fin 256) :
    daS (daQ1 q) k b (ix2 r c) = (((∑ d : Fin 64, Q r d * K c d) * (1 / 8) : ℝ) : EReal) + b (ix3 (0 : Fin 1) r c) := by
  unfold daS
  rw [addf_apply]
  refine congrArg₂ (· + ·) ?_ (shapeCast_1ab_ab_apply b _ r c)
  refine (Ideal.matmul_transposedRhs_apply (M := 256) (K := 128) (N := 256) none (daQ1 q) (Tile.mat k) _ r c).trans ?_
  rw [show constant (F := Ideal) S256x256 .f32 0x00000000#32 (ix2 r c) = (0 : EReal) from Ideal.ofBits_zero_f32, zero_add, Finset.sum_mul,
    ← sum_first (fun d => Q r d * K c d * (1 / 8)), ← coe_sum]
  refine Finset.sum_congr rfl fun d _ => ?_
  refine (congrArg₂ (· * ·) (daQ1_apply hq r d) ((shapeCast_1ab_ab_apply k _ c d).trans (hk c d))).trans ?_
  show ((_ : ℝ) : EReal) * ((K c d : ℝ) : EReal) = _
  rw [← EReal.coe_mul]
  refine congrArg _ ?_
  split
  · ring
  · ring

theorem daS2_apply (b : BTile) (r c : Fin 256) :
    daS (daQ2 q) k b (ix2 r c) = (((∑ d : Fin 64, Q r (64 + d) * K c (64 + d)) * (1 / 8) : ℝ) : EReal) + b (ix3 (0 : Fin 1) r c) := by
  unfold daS
  rw [addf_apply]
  refine congrArg₂ (· + ·) ?_ (shapeCast_1ab_ab_apply b _ r c)
  refine (Ideal.matmul_transposedRhs_apply (M := 256) (K := 128) (N := 256) none (daQ2 q) (Tile.mat k) _ r c).trans ?_
  rw [show constant (F := Ideal) S256x256 .f32 0x00000000#32 (ix2 r c) = (0 : EReal) from Ideal.ofBits_zero_f32, zero_add, Finset.sum_mul,
    ← sum_last (fun d => Q r d * K c d * (1 / 8)), ← coe_sum]
  refine Finset.sum_congr rfl fun d _ => ?_
  refine (congrArg₂ (· * ·) (daQ2_apply hq r d) ((shapeCast_1ab_ab_apply k _ c d).trans (hk c d))).trans ?_
  show ((_ : ℝ) : EReal) * ((K c d : ℝ) : EReal) = _
  rw [← EReal.coe_mul]
  refine congrArg _ ?_
  split
  · ring
  · ring

end Scores

/-! ### The difference and its normalisation -/

theorem daNorm_apply (o : FVec Ideal S256x128 .f32) (g : Vec Ideal S1x128 .f32) (r : Fin 256) (d : Fin 128) :
    daNorm o g (ix3 (0 : Fin 1) r d)
      = ((o (ix2 r d) * Ideal.rsqrt (Ideal.div (∑ l : Fin 128, o (ix2 r l) * o (ix2 r l)) (Ideal.ofBits .f32 0x43000000#32) + Ideal.ofBits .f32 0x358637BD#32))
          * g (ix2 (0 : Fin 1) d)) * Ideal.ofBits .f32 0x3F4CCCCD#32 := by
  unfold daNorm
  refine (shapeCast_ab_1ab_apply _ _ 0 r d).trans ?_
  refine congrArg (· * Ideal.ofBits .f32 0x3F4CCCCD#32) ?_
  rw [mulf_apply, mulf_apply]
  refine congrArg₂ (· * ·) (congrArg (o (ix2 r d) * ·) ?_) ?_
  · rw [spread_apply]
    refine congrArg Ideal.rsqrt (congrArg (· + _) (congrArg (Ideal.div · _) ?_))
    exact sum_lanes (mulf o o) _ _ _ r 0
  · rw [shapeCast_self]
    exact broadcastTo_apply g _ (ix2 r d) (ix2 (0 : Fin 1) d) (fun a => by
      match a with
      | ⟨0, _⟩ => rfl
      | ⟨1, _⟩ => rfl)

theorem daO_apply (lam : FVec Ideal S1x1 .f32) (q : Tile) (k v : ℕ → Tile) (b : ℕ → BTile) (n : ℕ) (r : Fin 256) (d : Fin 128) :
    daO lam q k v b n (ix2 r d)
      = daPV (fun j => daS (daQ1 q) (k j) (b j)) v n (ix2 r d) - lam (ix2 (0 : Fin 1) (0 : Fin 1)) * daPV (fun j => daS (daQ2 q) (k j) (b j)) v n (ix2 r d) := by
  unfold daO
  rw [subf_apply, mulf_apply]
  refine congrArg₂ (· - ·) rfl (congrArg₂ (· * ·) ?_ rfl)
  exact broadcastTo_apply lam _ (ix2 r d) (ix2 (0 : Fin 1) (0 : Fin 1)) (fun a => by
    match a with
    | ⟨0, _⟩ => rfl
    | ⟨1, _⟩ => rfl)

end Cert.KernelIdeal.Attn

end
-- ==== Proof.Attn.Bias.lean ====
/- The relative position bias: the bucket of a distance, and the two reads of the table. -/
module

public import proofs.«01_k».proof.Proof.Attn.DiffReal
public import proofs.«01_k».proof.Proof.Gen.ReferenceIdeal.Read

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen Cert.ReferenceIdeal.Read
open Cert.KernelIdeal.Attn (coe_sum coe_max' slt_small div_coe)

/-- The distance that counts. -/
def bkN (e : BitVec 32) : BitVec 32 := IntOp.maxsi e 0#32

/-- The logarithmic bucket of a distance. -/
def bkL (e : BitVec 32) : BitVec 32 :=
  IntOp.minsi (IntOp.addi 16#32 (FloatOps.fptosi (F := Ideal) (φ := .f32) 32 (FloatOps.mulf (FloatOps.hostDivf (FloatOps.hostUnary .log
    (FloatOps.hostDivf (FloatOps.sitofp (F := Ideal) .f32 (IntOp.maxsi (bkN e) 1#32)) (FloatOps.ofBits .f32 0x41800000#32))) (FloatOps.ofBits .f32 0x40051592#32))
    (FloatOps.ofBits .f32 0x41800000#32)))) 31#32

/-- The bucket of a distance: itself when small, logarithmic above. -/
def bkS (e : BitVec 32) : BitVec 32 := Scalar.select (IntOp.cmpi .slt (bkN e) 16#32) (bkN e) (bkL e)

/-- The table row of a distance. -/
def bk (e : BitVec 32) : BitVec 32 := Scalar.select (IntOp.cmpi .slt (bkS e) 0#32) (IntOp.addi (bkS e) 32#32) (bkS e)

/-- The bias of a distance, in head `h`. -/
def bias (T : Vec Ideal S32x8 .f32) (h : Fin 8) (e : BitVec 32) : EReal := T (ValueIdx.ix2 ⟨min (bk e).toInt.toNat 31, by omega⟩ h)

theorem toInt_small {a : ℕ} (ha : a < 2 ^ 31) : (BitVec.ofNat 32 a).toInt = (a : ℤ) := by
  rw [BitVec.toInt_eq_toNat_of_lt (by rw [BitVec.toNat_ofNat]; omega), BitVec.toNat_ofNat, Nat.mod_eq_of_lt (by omega)]

theorem sixteen : Ideal.ofBits .f32 0x41800000#32 = ((16 : ℝ) : EReal) := by
  simp only [Ideal.ofBits, Ideal.ieee]
  simp [← EReal.coe_mul]
  norm_num

theorem logEight : Ideal.ofBits .f32 0x40051592#32 = ((8721810 / 4194304 : ℝ) : EReal) := by
  simp only [Ideal.ofBits, Ideal.ieee]
  simp [← EReal.coe_mul]
  norm_num

/-- Every far distance has the last row. -/
theorem bk_far (d : ℕ) (h1 : 257 ≤ d) (h2 : d < 2048) : bk (BitVec.ofNat 32 d) = 31#32 := by
  have hN : bkN (BitVec.ofNat 32 d) = BitVec.ofNat 32 d := by
    unfold bkN IntOp.maxsi
    rw [slt_small (a := 0) (by norm_num) (by omega), if_pos (by simp; omega)]
  have hM : IntOp.maxsi (BitVec.ofNat 32 d) 1#32 = BitVec.ofNat 32 d := by
    unfold IntOp.maxsi
    rw [slt_small (a := 1) (by norm_num) (by omega), if_pos (by simp; omega)]
  have hd : (257 : ℝ) ≤ d := by exact_mod_cast h1
  have hd' : (d : ℝ) < 2048 := by exact_mod_cast h2
  obtain ⟨t, ht1, ht2, ht⟩ : ∃ t : ℕ, 15 ≤ t ∧ t < 4096 ∧ FloatOps.fptosi (F := Ideal) (φ := .f32) 32 (FloatOps.mulf (FloatOps.hostDivf (FloatOps.hostUnary .log
    (FloatOps.hostDivf (FloatOps.sitofp (F := Ideal) .f32 (BitVec.ofNat 32 d)) (FloatOps.ofBits .f32 0x41800000#32))) (FloatOps.ofBits .f32 0x40051592#32))
    (FloatOps.ofBits .f32 0x41800000#32)) = BitVec.ofNat 32 t := by
    have e1 : Ideal.div (((BitVec.ofNat 32 d).toInt : ℝ) : EReal) (Ideal.ofBits .f32 0x41800000#32) = (((d : ℝ) / 16 : ℝ) : EReal) := by
      rw [sixteen, toInt_small (by omega), Int.cast_natCast, div_coe _ _ (by norm_num)]
    have e2 : Ideal.log (((d : ℝ) / 16 : ℝ) : EReal) = ((Real.log ((d : ℝ) / 16) : ℝ) : EReal) := by
      show (if (d : ℝ) / 16 ≤ 0 then (⊥ : EReal) else _) = _
      rw [if_neg (by linarith)]
    have e3 : Ideal.div (Ideal.log (Ideal.div (((BitVec.ofNat 32 d).toInt : ℝ) : EReal) (Ideal.ofBits .f32 0x41800000#32))) (Ideal.ofBits .f32 0x40051592#32) * (Ideal.ofBits .f32 0x41800000#32)
        = ((Real.log ((d : ℝ) / 16) / (8721810 / 4194304) * 16 : ℝ) : EReal) := by
      rw [e1, e2, logEight, div_coe _ _ (by norm_num), sixteen, ← EReal.coe_mul]
    have l2 := Real.one_sub_inv_le_log_of_pos (show (0 : ℝ) < 2 by norm_num)
    have l16 : Real.log 16 = 4 * Real.log 2 := by rw [show (16 : ℝ) = 2 ^ 4 by norm_num, Real.log_pow]; norm_num
    have lo : Real.log 16 ≤ Real.log ((d : ℝ) / 16) := Real.log_le_log (by norm_num) (by linarith)
    have hi : Real.log ((d : ℝ) / 16) ≤ (d : ℝ) / 16 - 1 := Real.log_le_sub_one_of_pos (by linarith)
    set r : ℝ := Real.log ((d : ℝ) / 16) / (8721810 / 4194304) * 16 with hr
    have r1 : 15 ≤ r := by rw [hr]; rw [div_mul_eq_mul_div, le_div_iff₀ (by norm_num)]; linarith
    have r2 : r < 4096 := by rw [hr]; rw [div_mul_eq_mul_div, div_lt_iff₀ (by norm_num)]; linarith
    refine ⟨⌊r⌋₊, Nat.le_floor (by exact_mod_cast r1), (Nat.floor_lt (by linarith)).mpr (by exact_mod_cast r2), ?_⟩
    refine (congrArg (Ideal.fptosi 32) e3).trans ?_
    show BitVec.ofInt 32 (max (-(2 ^ 31 : ℕ)) (min ((2 ^ 31 : ℕ) - 1) (if 0 ≤ r then ⌊r⌋ else ⌈r⌉))) = _
    have f1 : (⌊r⌋₊ : ℤ) = ⌊r⌋ := Int.natCast_floor_eq_floor (by linarith)
    have f2 : ⌊r⌋ < 4096 := Int.floor_lt.mpr (by exact_mod_cast r2)
    have f3 : 0 ≤ ⌊r⌋ := Int.floor_nonneg.mpr (by linarith)
    rw [if_pos (by linarith), min_eq_right (by norm_num; linarith), max_eq_right (by norm_num; linarith), ← f1]
    exact BitVec.ofInt_natCast 32 _
  have hL : bkL (BitVec.ofNat 32 d) = 31#32 := by
    unfold bkL
    rw [hN, hM, ht]
    show IntOp.minsi (BitVec.ofNat 32 16 + BitVec.ofNat 32 t) 31#32 = _
    rw [← BitVec.ofNat_add]
    unfold IntOp.minsi
    rw [slt_small (b := 31) (by omega) (by norm_num), if_neg (by simp; omega)]
  have hS : bkS (BitVec.ofNat 32 d) = 31#32 := by
    unfold bkS IntOp.cmpi
    rw [hN, hL]
    show Scalar.select (BitVec.ofBool ((BitVec.ofNat 32 d).slt 16#32)) _ _ = _
    rw [slt_small (b := 16) (by omega) (by norm_num), decide_eq_false (by omega)]
    rfl
  unfold bk
  rw [hS]
  rfl

theorem v65_apply (i : S2048x2048.Idx) : val_main_v65 (F := Ideal) i = bk (IntOp.subi (BitVec.ofNat 32 (i 0 : ℕ)) (BitVec.ofNat 32 (i 1 : ℕ))) := by
  have h40 : val_main_v40 (F := Ideal) i = IntOp.subi (BitVec.ofNat 32 (i 0 : ℕ)) (BitVec.ofNat 32 (i 1 : ℕ)) := by
    rw [val_main_v40_apply, val_main_v38_apply, val_main_v36_apply, val_main_v35_apply, val_main_v39_apply, val_main_v37_apply, val_main_v35_apply]
  have h42 : val_main_v42 (F := Ideal) i = bkN (IntOp.subi (BitVec.ofNat 32 (i 0 : ℕ)) (BitVec.ofNat 32 (i 1 : ℕ))) := by
    rw [val_main_v42_apply, h40, val_main_v41_apply, val_main_c_apply]
    rfl
  have h57 : val_main_v57 (F := Ideal) i = bkL (IntOp.subi (BitVec.ofNat 32 (i 0 : ℕ)) (BitVec.ofNat 32 (i 1 : ℕ))) := by
    rw [val_main_v57_apply, val_main_v55_apply, val_main_v54_apply, val_main_c_6_apply, val_main_v53_apply, val_main_v52_apply, val_main_v50_apply,
      val_main_v48_apply, val_main_v47_apply, val_main_v45_apply, val_main_v44_apply, h42, val_main_v43_apply, val_main_c_2_apply, val_main_v46_apply,
      val_main_cst_3_apply, val_main_v49_apply, val_main_cst_4_apply, val_main_v51_apply, val_main_cst_5_apply, val_main_v56_apply, val_main_c_7_apply]
    rfl
  have h60 : val_main_v60 (F := Ideal) i = bkS (IntOp.subi (BitVec.ofNat 32 (i 0 : ℕ)) (BitVec.ofNat 32 (i 1 : ℕ))) := by
    rw [val_main_v60_apply, val_main_v59_apply, h42, h57, val_main_v58_apply, val_main_c_8_apply]
    rfl
  rw [val_main_v65_apply, val_main_v62_apply, val_main_v64_apply, h60, val_main_v61_apply, val_main_c_9_apply, val_main_v63_apply, val_main_c_10_apply]
  rfl

/-- A row of the table, gathered at a 2048 by 2048 array of row numbers. -/
theorem gather3_apply (T : Vec Ideal S32x8 .f32) (idx : IVec S2048x2048x1 32) (R k : Fin 2048) (h : Fin 8) :
    Host.gather gather_S32x8_S2048x2048x1_S2048x2048x8_2_0_n_n_0_2_18 T idx (ValueIdx.ix3 R k h)
      = T (ValueIdx.ix2 ⟨min (idx (ValueIdx.ix3 R k 0)).toInt.toNat 31, by omega⟩ h) := by
  unfold Host.gather
  refine congrArg T (funext fun a => Fin.ext ?_)
  match a with
  | ⟨0, _⟩ =>
    show gather_S32x8_S2048x2048x1_S2048x2048x8_2_0_n_n_0_2_18.start (ValueIdx.ix3 R k h) idx 0 + gather_S32x8_S2048x2048x1_S2048x2048x8_2_0_n_n_0_2_18.batchCoord (ValueIdx.ix3 R k h) 0
      + gather_S32x8_S2048x2048x1_S2048x2048x8_2_0_n_n_0_2_18.offCoord (ValueIdx.ix3 R k h) 0 = min (idx (ValueIdx.ix3 R k 0)).toInt.toNat 31
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32x8_S2048x2048x1_S2048x2048x8_2_0_n_n_0_2_18.startIndexMap from List.mem_singleton.mpr rfl)]
    have hsi : gather_S32x8_S2048x2048x1_S2048x2048x8_2_0_n_n_0_2_18.siIdx (ValueIdx.ix3 R k h) ⟨List.idxOf (0 : Fin 2) gather_S32x8_S2048x2048x1_S2048x2048x8_2_0_n_n_0_2_18.startIndexMap,
        List.idxOf_lt_length_iff.2 (List.mem_singleton.mpr rfl)⟩ = ValueIdx.ix3 R k 0 := by
      funext b; refine Fin.ext ?_
      match b with
      | ⟨0, _⟩ => rfl
      | ⟨1, _⟩ => rfl
      | ⟨2, _⟩ => rfl
    rw [hsi]
    rfl
  | ⟨1, _⟩ =>
    show gather_S32x8_S2048x2048x1_S2048x2048x8_2_0_n_n_0_2_18.start (ValueIdx.ix3 R k h) idx 1 + gather_S32x8_S2048x2048x1_S2048x2048x8_2_0_n_n_0_2_18.batchCoord (ValueIdx.ix3 R k h) 1
      + gather_S32x8_S2048x2048x1_S2048x2048x8_2_0_n_n_0_2_18.offCoord (ValueIdx.ix3 R k h) 1 = h
    rw [GatherDims.batchCoord_eq_zero _ _ _ List.not_mem_nil]
    unfold GatherDims.start
    rw [dif_neg (show (1 : Fin 2) ∉ gather_S32x8_S2048x2048x1_S2048x2048x8_2_0_n_n_0_2_18.startIndexMap from fun h => absurd (List.mem_singleton.mp h) (by decide))]
    rw [Nat.zero_add]
    unfold GatherDims.offCoord
    rw [dif_pos (show (1 : Fin 2) ∈ gather_S32x8_S2048x2048x1_S2048x2048x8_2_0_n_n_0_2_18.sKept from (GatherDims.mem_sKept _ _).mpr ⟨fun h => absurd (List.mem_singleton.mp h) (by decide), List.not_mem_nil⟩)]
    rfl

theorem v68_apply (T : Vec Ideal S32x8 .f32) (i : S8x2048x2048.Idx) :
    val_main_v68 (F := Ideal) T i = bias T (i 0) (IntOp.subi (BitVec.ofNat 32 (i 1 : ℕ)) (BitVec.ofNat 32 (i 2 : ℕ))) := by
  rw [val_main_v68_apply]
  refine (congrArg (val_main_v67 (F := Ideal) T) (show idx_main_v68 i = ValueIdx.ix3 (i 1) (i 2) (i 0) from funext fun a => match a with
    | ⟨0, _⟩ => rfl
    | ⟨1, _⟩ => rfl
    | ⟨2, _⟩ => rfl)).trans ?_
  unfold val_main_v67 bias
  refine (gather3_apply T _ (i 1) (i 2) (i 0)).trans ?_
  have e : val_main_v66 (F := Ideal) (ValueIdx.ix3 (i 1) (i 2) 0) = bk (IntOp.subi (BitVec.ofNat 32 (i 1 : ℕ)) (BitVec.ofNat 32 (i 2 : ℕ))) := by
    rw [val_main_v66_apply, v65_apply]
  refine congrArg T (funext fun a => Fin.ext ?_)
  match a with
  | ⟨0, _⟩ => exact congrArg (fun w : BitVec 32 => min w.toInt.toNat 31) e
  | ⟨1, _⟩ => rfl

/-- A row of the table, gathered at 1023 row numbers. -/
theorem gather2_apply (T : Vec Ideal S32x8 .f32) (idx : IVec Cert.KernelIdeal.S1023x1 32) (p : Fin 1023) (h : Fin 8) :
    Host.gather Cert.KernelIdeal.gather_S32x8_S1023x1_S1023x8_1_0_n_n_0_1_18 T idx (ValueIdx.ix2 p h)
      = T (ValueIdx.ix2 ⟨min (idx (ValueIdx.ix2 p 0)).toInt.toNat 31, by omega⟩ h) := by
  unfold Host.gather
  refine congrArg T (funext fun a => Fin.ext ?_)
  match a with
  | ⟨0, _⟩ =>
    show Cert.KernelIdeal.gather_S32x8_S1023x1_S1023x8_1_0_n_n_0_1_18.start (ValueIdx.ix2 p h) idx 0 + Cert.KernelIdeal.gather_S32x8_S1023x1_S1023x8_1_0_n_n_0_1_18.batchCoord (ValueIdx.ix2 p h) 0
      + Cert.KernelIdeal.gather_S32x8_S1023x1_S1023x8_1_0_n_n_0_1_18.offCoord (ValueIdx.ix2 p h) 0 = min (idx (ValueIdx.ix2 p 0)).toInt.toNat 31
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ Cert.KernelIdeal.gather_S32x8_S1023x1_S1023x8_1_0_n_n_0_1_18.startIndexMap from List.mem_singleton.mpr rfl)]
    have hsi : Cert.KernelIdeal.gather_S32x8_S1023x1_S1023x8_1_0_n_n_0_1_18.siIdx (ValueIdx.ix2 p h) ⟨List.idxOf (0 : Fin 2) Cert.KernelIdeal.gather_S32x8_S1023x1_S1023x8_1_0_n_n_0_1_18.startIndexMap,
        List.idxOf_lt_length_iff.2 (List.mem_singleton.mpr rfl)⟩ = ValueIdx.ix2 p 0 := by
      funext b; refine Fin.ext ?_
      match b with
      | ⟨0, _⟩ => rfl
      | ⟨1, _⟩ => rfl
    rw [hsi]
    rfl
  | ⟨1, _⟩ =>
    show Cert.KernelIdeal.gather_S32x8_S1023x1_S1023x8_1_0_n_n_0_1_18.start (ValueIdx.ix2 p h) idx 1 + Cert.KernelIdeal.gather_S32x8_S1023x1_S1023x8_1_0_n_n_0_1_18.batchCoord (ValueIdx.ix2 p h) 1
      + Cert.KernelIdeal.gather_S32x8_S1023x1_S1023x8_1_0_n_n_0_1_18.offCoord (ValueIdx.ix2 p h) 1 = h
    rw [GatherDims.batchCoord_eq_zero _ _ _ List.not_mem_nil]
    unfold GatherDims.start
    rw [dif_neg (show (1 : Fin 2) ∉ Cert.KernelIdeal.gather_S32x8_S1023x1_S1023x8_1_0_n_n_0_1_18.startIndexMap from fun h => absurd (List.mem_singleton.mp h) (by decide))]
    rw [Nat.zero_add]
    unfold GatherDims.offCoord
    rw [dif_pos (show (1 : Fin 2) ∈ Cert.KernelIdeal.gather_S32x8_S1023x1_S1023x8_1_0_n_n_0_1_18.sKept from (GatherDims.mem_sKept _ _).mpr ⟨fun h => absurd (List.mem_singleton.mp h) (by decide), List.not_mem_nil⟩)]
    rfl

end Cert.ReferenceIdeal.Attn

end
-- ==== Proof.Attn.HostRows.lean ====
/- What the launch prepares for the attention kernel: the rows of relative position biases, the parameter rows and the norm's weights. -/
module

public import proofs.«01_k».proof.Proof.Attn.Bias
public import proofs.«01_k».proof.Proof.Gen.KernelIdeal.Value
public import Idealize.ShloMosaic.Lib.Pipeline.ValueKit
public import Idealize.ShloMosaic.Lib.KernelVsHost
public import Idealize.ShloMosaic.Lib.StableHlo.RunRead

@[expose] public section

set_option maxRecDepth 16384

noncomputable section

namespace Cert.KernelIdeal.Attn

open Idealize.ShloMosaic Idealize.ShloMosaic.TcCoe Idealize.ShloMosaic.Tactic Idealize.SL.Sem
open Cert.KernelIdeal Cert.KernelIdeal.Gen
open Cert.ReferenceIdeal.Attn (bk bias gather2_apply)

/-- The distance that position `p` of a bias row stands for. -/
def far (p : ℕ) : BitVec 32 := IntOp.addi 4294967041#32 (BitVec.ofNat 32 p)

/-- The table row of each position. -/
def rowNo : IVec S1023x1 32 := fun i => bk (far (i 0))

/-- Every head's bias by position. -/
def byPos (T : Vec Ideal S32x8 .f32) : Vec Ideal S8x1023 .f32 :=
  transpose S8x1023 [1, 0] (Host.gather gather_S32x8_S1023x1_S1023x8_1_0_n_n_0_1_18 T rowNo) transposes_S1023x8_S8x1023_1_0

/-- A reversed stretch of 511 positions, padded to 512. -/
def stretch (x : Vec Ideal S8x511 .f32) : Vec Ideal S8x512 .f32 :=
  pad S8x512 ![0, 0] ![0, 1] ![0, 0] (Host.reverse [1] x) (sitofp (F := Ideal) .f32 (constantI S_ 32 0#32)) pads_S8x511_S8x512_000_010 h_S_

/-- The three bias rows of every head. -/
def biasRows (T : Vec Ideal S32x8 .f32) : Vec Ideal S8x3x512 .f32 :=
  concatenate S8x3x512 1
    [⟨S8x1x512, broadcastInDim S8x1x512 ![0, 2] bcast_S8x512_S8x1x512_0_2 (stretch (extractStridedSlice S8x511 ![0, 0] (byPos T) slices_S8x1023_S8x511_0_0))⟩,
     ⟨S8x1x512, broadcastInDim S8x1x512 ![0, 2] bcast_S8x512_S8x1x512_0_2 (stretch (extractStridedSlice S8x511 ![0, 256] (byPos T) slices_S8x1023_S8x511_0_256))⟩,
     ⟨S8x1x512, broadcastInDim S8x1x512 ![0, 2] bcast_S8x512_S8x1x512_0_2 (broadcastInDim S8x512 ![0, 1] bcast_S8x1_S8x512_0_1 (extractStridedSlice S8x1 ![0, 1022] (byPos T) slices_S8x1023_S8x1_0_1022))⟩]
    concatenates_S8x1x512_S8x1x512_S8x1x512_S8x3x512_d1

theorem rows3 {a a' b b' c c' : Vec Ideal S8x1x512 .f32} (ha : a = a') (hb : b = b') (hc : c = c') :
    concatenate S8x3x512 1 [⟨S8x1x512, a⟩, ⟨S8x1x512, b⟩, ⟨S8x1x512, c⟩] concatenates_S8x1x512_S8x1x512_S8x1x512_S8x3x512_d1
      = concatenate S8x3x512 1 [⟨S8x1x512, a'⟩, ⟨S8x1x512, b'⟩, ⟨S8x1x512, c'⟩] concatenates_S8x1x512_S8x1x512_S8x1x512_S8x3x512_d1 := by
  rw [ha, hb, hc]

set_option maxHeartbeats 0 in
theorem V_rows (m : (ℓ : Loc nD τ sig) → Buf (Elt Ideal) ℓ) (c : Dev nD) :
    V m c main_v51 = biasRows (m ((c : Thread nD τ).loc main_arg6)) := by
  unfold V
  simp only [List.flatten_cons, List.flatten_nil, List.append_nil, List.cons_append, List.nil_append, hostOps0, hostOps0_1, hostOps0_2, hostOps0_3, hostOps0_4, hostOps0_5, hostOps0_6]
  after_reads_simp
  refine rows3 ?_ ?_ ?_
  · change StableHlo.upto _ _ _ (Proc.devRef .tc main_v48) = _
    after_reads_simp
    rfl
  · change StableHlo.upto _ _ _ (Proc.devRef .tc main_v49) = _
    after_reads_simp
    rfl
  · change StableHlo.upto _ _ _ (Proc.devRef .tc main_v50) = _
    after_reads_simp
    rfl

set_option maxHeartbeats 0 in
theorem V_par (m : (ℓ : Loc nD τ sig) → Buf (Elt Ideal) ℓ) (c : Dev nD) :
    V m c main_v8 = concatenate S4x64 0
      [⟨S1x64, broadcastInDim S1x64 ![1] bcast_S64_S1x64_1 (shapeCast S64 (m ((c : Thread nD τ).loc main_arg1)) shapeCasts_S1x64_S64)⟩,
       ⟨S1x64, broadcastInDim S1x64 ![1] bcast_S64_S1x64_1 (shapeCast S64 (m ((c : Thread nD τ).loc main_arg2)) shapeCasts_S1x64_S64)⟩,
       ⟨S1x64, broadcastInDim S1x64 ![1] bcast_S64_S1x64_1 (shapeCast S64 (m ((c : Thread nD τ).loc main_arg3)) shapeCasts_S1x64_S64)⟩,
       ⟨S1x64, broadcastInDim S1x64 ![1] bcast_S64_S1x64_1 (shapeCast S64 (m ((c : Thread nD τ).loc main_arg4)) shapeCasts_S1x64_S64)⟩]
      concatenates_S1x64_S1x64_S1x64_S1x64_S4x64_d0 := by
  unfold V
  simp only [List.flatten_cons, List.flatten_nil, List.append_nil, List.cons_append, List.nil_append, hostOps0, hostOps0_1, hostOps0_2, hostOps0_3, hostOps0_4, hostOps0_5, hostOps0_6]
  after_reads_simp
  rfl

set_option maxHeartbeats 0 in
theorem V_norm (m : (ℓ : Loc nD τ sig) → Buf (Elt Ideal) ℓ) (c : Dev nD) :
    V m c main_v53 = shapeCast S1x128 (shapeCast S128 (m ((c : Thread nD τ).loc main_arg5)) shapeCasts_S1x128_S128) shapeCasts_S128_S1x128 := by
  unfold V
  simp only [List.flatten_cons, List.flatten_nil, List.append_nil, List.cons_append, List.nil_append, hostOps0, hostOps0_1, hostOps0_2, hostOps0_3, hostOps0_4, hostOps0_5, hostOps0_6]
  after_reads_simp
  try rfl

end Cert.KernelIdeal.Attn

end
-- ==== Proof.Attn.Slots.lean ====
/- The scratch of the attention kernel holds two planes of 256 by 2048 scores, written and read one 256 by 256 tile at a time through a squeezed
   slice. A tile read back is the tile last stored there; a store elsewhere is passed over. -/
module

public import proofs.«01_k».proof.Proof.Attn.Diff
public import Idealize.ShloMosaic.Lib.Pipeline.ReadBack

@[expose] public section

set_option maxRecDepth 16384

noncomputable section

namespace Cert.KernelIdeal.Attn

open Idealize.ShloMosaic Idealize.ShloMosaic.TcCoe Idealize.SL.Sem
open Cert.KernelIdeal Cert.KernelIdeal.Gen

variable {sig' : RefSig} {κ' : Kind} {sp' : Space}

/-- A plane of the scratch. -/
abbrev plane (p : ℕ) (hp : ∀ a, (![p, 0, 0] : Fin 3 → ℕ) a + (![1, 256, 2048] : Fin 3 → ℕ) a ≤ S2x256x2048.size a) : Rect S2x256x2048 :=
  Rect.unit (s := S2x256x2048) ![p, 0, 0] ![1, 256, 2048] hp

/-- A tile of a plane. -/
abbrev tileOf (q : ℕ) (hq : ∀ a, (![0, q] : Fin 2 → ℕ) a + (![256, 256] : Fin 2 → ℕ) a ≤ S256x2048.size a) : Rect S256x2048 :=
  Rect.unit (s := S256x2048) ![0, q] ![256, 256] hq

/-- A load through a slot's box of what was last stored through the same slot is the stored tile. -/
theorem slot_hit (v : View sig' κ' sp' S2x256x2048 .f32) (p q : ℕ) (hp hp') (hq hq')
    (h0) (h1) (h2 : ∀ a, (plane p hp).stride a = 1) (h0') (h1') (h2' : ∀ a, (plane p hp').stride a = 1)
    (hR) (hR')
    (w : (tileOf q hq).shape.Idx → Elt Ideal .f32) (L : List (View.Piece (Elt Ideal) S2x256x2048 .f32)) :
    (LoadRect.valAlong (s₀ := (plane p hp').toLoadRect.shape) (lr := (tileOf q hq').toLoadRect) (LR := (tileOf q hq').toLoadRect.consLift ![1, 256, 2048] h0' h1') hR'
      (v.readCov (⟨(plane p hp).within ((tileOf q hq).consLift ![1, 256, 2048] h0 h1) h2, Rect.payAlong (s₀ := (plane p hp).toLoadRect.shape) (R := (tileOf q hq).consLift ![1, 256, 2048] h0 h1) hR w⟩ :: L)
        ((plane p hp').withinL ((tileOf q hq').toLoadRect.consLift ![1, 256, 2048] h0' h1') h2'))) = w := by
  funext x
  refine (congrFun (View.readCov_cons_toLoadRect v ((plane p hp).within ((tileOf q hq).consLift ![1, 256, 2048] h0 h1) h2) (Rect.payAlong (s₀ := (plane p hp).toLoadRect.shape) (R := (tileOf q hq).consLift ![1, 256, 2048] h0 h1) hR w) L) _).trans ?_
  show w (Shape.reshapeEquiv _ (Shape.reshapeEquiv _ x)) = w x
  exact congrArg w ((Shape.reshapeEquiv_reshapeEquiv _ _ x).trans (Shape.reshapeEquiv_self _ x))

/-- A store to another slot is passed over. -/
theorem slot_skip (v : View sig' κ' sp' S2x256x2048 .f32) (p q p' q' : ℕ) (hp hp') (hq hq')
    (h0) (h1) (h2 : ∀ a, (plane p hp).stride a = 1) (h0') (h1') (h2' : ∀ a, (plane p' hp').stride a = 1) (hR) (w : (tileOf q hq).shape.Idx → Elt Ideal .f32)
    (L : List (View.Piece (Elt Ideal) S2x256x2048 .f32)) (hne : ¬(p = p' ∧ q < q' + 256 ∧ q' < q + 256)) :
    v.readCov (⟨(plane p hp).within ((tileOf q hq).consLift ![1, 256, 2048] h0 h1) h2, Rect.payAlong (s₀ := (plane p hp).toLoadRect.shape) (R := (tileOf q hq).consLift ![1, 256, 2048] h0 h1) hR w⟩ :: L)
        ((plane p' hp').withinL ((tileOf q' hq').toLoadRect.consLift ![1, 256, 2048] h0' h1') h2')
      = v.readCov L
        ((plane p' hp').withinL ((tileOf q' hq').toLoadRect.consLift ![1, 256, 2048] h0' h1') h2') := by
  rw [View.readCov_eq_canon', View.readCov_eq_canon']
  funext j
  refine View.canon_cons_of_not_mem _ L ?_
  intro hm
  have h := LoadRect.mem_set _ |>.mp hm

  obtain ⟨a, ha, ea⟩ := h 0
  obtain ⟨b, hb, eb⟩ := h 2
  have j0 := (j 0).isLt
  have j2 := (j 2).isLt
  change a < 1 at ha
  change b < 256 at hb
  change (j 0 : ℕ) < 1 at j0
  change (j 2 : ℕ) < 256 at j2
  change (p' + 0) + 1 * (j 0 : ℕ) = (p + 0) + 1 * a at ea
  change (0 + q') + 1 * (j 2 : ℕ) = (0 + q) + 1 * b at eb
  omega

end Cert.KernelIdeal.Attn

end
-- ==== Proof.Attn.Run10.lean ====
/- What the attention kernel's body leaves in its second output: per query tile, the stick-breaking attention of that tile. -/
module

public import proofs.«01_k».proof.Proof.Attn.Slots
public import proofs.«01_k».proof.Proof.Gen.KernelIdeal.Frame
public import Idealize.ShloMosaic.Lib.Pipeline.ValueKit

@[expose] public section

set_option maxRecDepth 16384

noncomputable section

namespace Cert.KernelIdeal.Attn

open Idealize.ShloMosaic Idealize.ShloMosaic.TcCoe Idealize.ShloMosaic.Tactic Idealize.SL.Sem
open Cert.KernelIdeal Cert.KernelIdeal.Gen

/-- The block of 256 rows starting at row `r`. -/
theorem rows_inb (n : ℕ) (h : n < 8) : ∀ a, (![0, 256 * n, 0] : Fin 3 → ℕ) a + S1x256x128.size a ≤ S1x2048x128.size a := by
  intro a
  match a with
  | ⟨0, _⟩ => show 0 + 1 ≤ 1; omega
  | ⟨1, _⟩ => show 256 * n + 256 ≤ 2048; omega
  | ⟨2, _⟩ => show 0 + 128 ≤ 128; omega

/-- Tile `n` of a head's 2048 rows. -/
def rowTile (x : Vec Ideal S1x2048x128 .bf16) (n : ℕ) : Tile :=
  if h : n < 8 then View.ld x (Rect.unit (s := S1x2048x128) ![0, 256 * n, 0] S1x256x128.size (rows_inb n h))
  else fun _ => (0 : EReal)

theorem rowTile_lt (x : Vec Ideal S1x2048x128 .bf16) (n : ℕ) (h : n < 8) :
    rowTile x n = View.ld x (Rect.unit (s := S1x2048x128) ![0, 256 * n, 0] S1x256x128.size (rows_inb n h)) := dif_pos h

/-- The whole block: row `r` is row `r % 256` of query tile `r / 256`. -/
def ofTiles (o : ℕ → Tile) : Vec Ideal S1x2048x128 .bf16 := fun y =>
  o ((y 1 : ℕ) / 256) (ValueIdx.ix3 (0 : Fin 1) (⟨(y 1 : ℕ) % 256, Nat.mod_lt _ (by norm_num)⟩ : Fin 256) (⟨(y 2 : ℕ), (y 2).isLt⟩ : Fin 128))

theorem ofTiles_emb (o : ℕ → Tile) (n : ℕ) (h : n < 8) (inb) (x : S1x256x128.Idx) :
    ofTiles o ((Rect.unit (s := S1x2048x128) ![0, 256 * n, 0] S1x256x128.size inb).emb x) = o n x := by
  have h0 := (x 0).isLt
  have h1 := (x 1).isLt
  change (x 0 : ℕ) < 1 at h0
  change (x 1 : ℕ) < 256 at h1
  have e1 : ((Rect.unit (s := S1x2048x128) ![0, 256 * n, 0] S1x256x128.size inb).emb x 1 : ℕ) = 256 * n + 1 * (x 1 : ℕ) := rfl
  have e2 : ((Rect.unit (s := S1x2048x128) ![0, 256 * n, 0] S1x256x128.size inb).emb x 2 : ℕ) = 0 + 1 * (x 2 : ℕ) := rfl
  unfold ofTiles
  have a1 : ((Rect.unit (s := S1x2048x128) ![0, 256 * n, 0] S1x256x128.size inb).emb x 1 : ℕ) / 256 = n := by omega
  have a2 : ((Rect.unit (s := S1x2048x128) ![0, 256 * n, 0] S1x256x128.size inb).emb x 1 : ℕ) % 256 = x 1 := by omega
  rw [a1]
  congr 1
  funext a
  match a with
  | ⟨0, _⟩ => exact Fin.ext (by show 0 = (x 0 : ℕ); omega)
  | ⟨1, _⟩ => exact Fin.ext a2
  | ⟨2, _⟩ => exact Fin.ext (by show _ = (x 2 : ℕ); rw [← one_mul (x 2 : ℕ), ← zero_add (1 * (x 2 : ℕ))]; exact e2)

/-- A load of 256 rows is the tile. -/
theorem ld_row (x : Vec Ideal S1x2048x128 .bf16) (n r : ℕ) (h : n < 8) (hr : r = 256 * n) (inb) :
    View.ld x (Rect.unit (s := S1x2048x128) ![0, r, 0] ![1, 256, 128] inb) = rowTile x n := by
  subst hr
  exact (rowTile_lt x n h).symm

theorem ld_row0 (x : Vec Ideal S1x2048x128 .bf16) (inb) :
    View.ld x (Rect.unit (s := S1x2048x128) ![0, 0, 0] ![1, 256, 128] inb) = rowTile x 0 :=
  ld_row x 0 0 (by norm_num) rfl inb

theorem ld_row1 (x : Vec Ideal S1x2048x128 .bf16) (inb) :
    View.ld x (Rect.unit (s := S1x2048x128) ![0, 256, 0] ![1, 256, 128] inb) = rowTile x 1 :=
  ld_row x 1 256 (by norm_num) rfl inb

theorem ld_row2 (x : Vec Ideal S1x2048x128 .bf16) (inb) :
    View.ld x (Rect.unit (s := S1x2048x128) ![0, 512, 0] ![1, 256, 128] inb) = rowTile x 2 :=
  ld_row x 2 512 (by norm_num) rfl inb

theorem ld_row3 (x : Vec Ideal S1x2048x128 .bf16) (inb) :
    View.ld x (Rect.unit (s := S1x2048x128) ![0, 768, 0] ![1, 256, 128] inb) = rowTile x 3 :=
  ld_row x 3 768 (by norm_num) rfl inb

theorem ld_row4 (x : Vec Ideal S1x2048x128 .bf16) (inb) :
    View.ld x (Rect.unit (s := S1x2048x128) ![0, 1024, 0] ![1, 256, 128] inb) = rowTile x 4 :=
  ld_row x 4 1024 (by norm_num) rfl inb

theorem ld_row5 (x : Vec Ideal S1x2048x128 .bf16) (inb) :
    View.ld x (Rect.unit (s := S1x2048x128) ![0, 1280, 0] ![1, 256, 128] inb) = rowTile x 5 :=
  ld_row x 5 1280 (by norm_num) rfl inb

theorem ld_row6 (x : Vec Ideal S1x2048x128 .bf16) (inb) :
    View.ld x (Rect.unit (s := S1x2048x128) ![0, 1536, 0] ![1, 256, 128] inb) = rowTile x 6 :=
  ld_row x 6 1536 (by norm_num) rfl inb

theorem ld_row7 (x : Vec Ideal S1x2048x128 .bf16) (inb) :
    View.ld x (Rect.unit (s := S1x2048x128) ![0, 1792, 0] ![1, 256, 128] inb) = rowTile x 7 :=
  ld_row x 7 1792 (by norm_num) rfl inb

set_option maxHeartbeats 8000000 in
theorem pieces10 (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S1x3x512 .f32) (harg5 : arg5.IsWhole) (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S1x2048x128 .bf16) (harg9 : arg9.IsWhole) (arg10 : Memref sig .tc .vmem S1x2048x128 .bf16) (harg10 : arg10.IsWhole) (arg11 : Memref sig .tc .vmem S1x2048x128 .bf16) (harg11 : arg11.IsWhole) (arg12 : Memref sig .tc .vmem S1x2048x128 .bf16) (harg12 : arg12.IsWhole) (arg13 : Memref sig .tc .vmem S1x2048x128 .bf16) (harg13 : arg13.IsWhole) (arg14 : Memref sig .tc .vmem S2x256x2048 .f32) (harg14 : arg14.IsWhole) (arg15 : Memref sig .tc .vmem S2x256x2048 .f32) (harg15 : arg15.IsWhole) (arg16 : Memref sig .tc .vmem S3x256x256 .f32) (harg16 : arg16.IsWhole) (arg17 : Memref sig .tc .vmem S2x256x2048 .f32) (harg17 : arg17.IsWhole)
    (x0 : Vec Ideal S4x64 .f32) (x1 : Vec Ideal S1x128 .f32) (x2 : Vec Ideal S1x3x512 .f32) (x3 : Vec Ideal S1x2048x128 .bf16) (x4 : Vec Ideal S1x2048x128 .bf16) (x5 : Vec Ideal S1x2048x128 .bf16) (x6 : Vec Ideal S1x2048x128 .bf16) (x7 : Vec Ideal S1x2048x128 .bf16) (x8 : Vec Ideal S1x2048x128 .bf16) :
    View.PiecesOf (ofTiles fun n => sbOut (rowTile x6 n) (rowTile x7) (rowTile x8) n)
      (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8).2.1 := by
  unfold kernelRun0_A
  dsimp only
  refine ⟨fun x => ?_, fun x => ?_, fun x => ?_, fun x => ?_, fun x => ?_, fun x => ?_, fun x => ?_, fun x => ?_, trivial⟩
  · refine Eq.trans ?_ (ofTiles_emb _ 7 (by norm_num) (rows_inb _ (by norm_num)) x).symm
    refine congrFun ?_ x
    sl_unfold_words
    dsimp only [View.readAt_eq_ld]
    rw [harg9.read_unread, harg10.read_unread, harg11.read_unread]
    repeat first
      | rw [slot_hit]
      | (rw [slot_skip]; case hne => decide)
    rw [ld_row7 x6, ld_row0 x7, ld_row0 x8, ld_row1 x7, ld_row1 x8, ld_row2 x7, ld_row2 x8, ld_row3 x7, ld_row3 x8, ld_row4 x7, ld_row4 x8, ld_row5 x7, ld_row5 x8, ld_row6 x7, ld_row6 x8, ld_row7 x7, ld_row7 x8]
    generalize rowTile x6 7 = q
    generalize rowTile x7 = k
    generalize rowTile x8 = v
    rfl
  · refine Eq.trans ?_ (ofTiles_emb _ 6 (by norm_num) (rows_inb _ (by norm_num)) x).symm
    refine congrFun ?_ x
    sl_unfold_words
    dsimp only [View.readAt_eq_ld]
    rw [harg9.read_unread, harg10.read_unread, harg11.read_unread]
    repeat first
      | rw [slot_hit]
      | (rw [slot_skip]; case hne => decide)
    rw [ld_row6 x6, ld_row0 x7, ld_row0 x8, ld_row1 x7, ld_row1 x8, ld_row2 x7, ld_row2 x8, ld_row3 x7, ld_row3 x8, ld_row4 x7, ld_row4 x8, ld_row5 x7, ld_row5 x8, ld_row6 x7, ld_row6 x8]
    generalize rowTile x6 6 = q
    generalize rowTile x7 = k
    generalize rowTile x8 = v
    rfl
  · refine Eq.trans ?_ (ofTiles_emb _ 5 (by norm_num) (rows_inb _ (by norm_num)) x).symm
    refine congrFun ?_ x
    sl_unfold_words
    dsimp only [View.readAt_eq_ld]
    rw [harg9.read_unread, harg10.read_unread, harg11.read_unread]
    repeat first
      | rw [slot_hit]
      | (rw [slot_skip]; case hne => decide)
    rw [ld_row5 x6, ld_row0 x7, ld_row0 x8, ld_row1 x7, ld_row1 x8, ld_row2 x7, ld_row2 x8, ld_row3 x7, ld_row3 x8, ld_row4 x7, ld_row4 x8, ld_row5 x7, ld_row5 x8]
    generalize rowTile x6 5 = q
    generalize rowTile x7 = k
    generalize rowTile x8 = v
    rfl
  · refine Eq.trans ?_ (ofTiles_emb _ 4 (by norm_num) (rows_inb _ (by norm_num)) x).symm
    refine congrFun ?_ x
    sl_unfold_words
    dsimp only [View.readAt_eq_ld]
    rw [harg9.read_unread, harg10.read_unread, harg11.read_unread]
    repeat first
      | rw [slot_hit]
      | (rw [slot_skip]; case hne => decide)
    rw [ld_row4 x6, ld_row0 x7, ld_row0 x8, ld_row1 x7, ld_row1 x8, ld_row2 x7, ld_row2 x8, ld_row3 x7, ld_row3 x8, ld_row4 x7, ld_row4 x8]
    generalize rowTile x6 4 = q
    generalize rowTile x7 = k
    generalize rowTile x8 = v
    rfl
  · refine Eq.trans ?_ (ofTiles_emb _ 3 (by norm_num) (rows_inb _ (by norm_num)) x).symm
    refine congrFun ?_ x
    sl_unfold_words
    dsimp only [View.readAt_eq_ld]
    rw [harg9.read_unread, harg10.read_unread, harg11.read_unread]
    repeat first
      | rw [slot_hit]
      | (rw [slot_skip]; case hne => decide)
    rw [ld_row3 x6, ld_row0 x7, ld_row0 x8, ld_row1 x7, ld_row1 x8, ld_row2 x7, ld_row2 x8, ld_row3 x7, ld_row3 x8]
    generalize rowTile x6 3 = q
    generalize rowTile x7 = k
    generalize rowTile x8 = v
    rfl
  · refine Eq.trans ?_ (ofTiles_emb _ 2 (by norm_num) (rows_inb _ (by norm_num)) x).symm
    refine congrFun ?_ x
    sl_unfold_words
    dsimp only [View.readAt_eq_ld]
    rw [harg9.read_unread, harg10.read_unread, harg11.read_unread]
    repeat first
      | rw [slot_hit]
      | (rw [slot_skip]; case hne => decide)
    rw [ld_row2 x6, ld_row0 x7, ld_row0 x8, ld_row1 x7, ld_row1 x8, ld_row2 x7, ld_row2 x8]
    generalize rowTile x6 2 = q
    generalize rowTile x7 = k
    generalize rowTile x8 = v
    rfl
  · refine Eq.trans ?_ (ofTiles_emb _ 1 (by norm_num) (rows_inb _ (by norm_num)) x).symm
    refine congrFun ?_ x
    sl_unfold_words
    dsimp only [View.readAt_eq_ld]
    rw [harg9.read_unread, harg10.read_unread, harg11.read_unread]
    repeat first
      | rw [slot_hit]
      | (rw [slot_skip]; case hne => decide)
    rw [ld_row1 x6, ld_row0 x7, ld_row0 x8, ld_row1 x7, ld_row1 x8]
    generalize rowTile x6 1 = q
    generalize rowTile x7 = k
    generalize rowTile x8 = v
    rfl
  · refine Eq.trans ?_ (ofTiles_emb _ 0 (by norm_num) (rows_inb _ (by norm_num)) x).symm
    refine congrFun ?_ x
    sl_unfold_words
    dsimp only [View.readAt_eq_ld]
    rw [harg9.read_unread, harg10.read_unread, harg11.read_unread]
    repeat first
      | rw [slot_hit]
      | (rw [slot_skip]; case hne => decide)
    rw [ld_row0 x6, ld_row0 x7, ld_row0 x8]
    generalize rowTile x6 0 = q
    generalize rowTile x7 = k
    generalize rowTile x8 = v
    rfl

end Cert.KernelIdeal.Attn

end
-- ==== Proof.Attn.Tile9Defs.lean ====
/- What the attention kernel's body leaves in its first output: per query tile, the normalised difference of the two attentions of that tile. -/
module

public import proofs.«01_k».proof.Proof.Attn.Run10

@[expose] public section

set_option maxRecDepth 16384

noncomputable section

namespace Cert.KernelIdeal.Attn

open Idealize.ShloMosaic Idealize.ShloMosaic.TcCoe Idealize.ShloMosaic.Tactic Idealize.SL.Sem
open Cert.KernelIdeal Cert.KernelIdeal.Gen Cert.KernelIdeal.Gen.kernelRun0_A

variable {sig' : RefSig} {κ' : Kind} {sp' : Space}

/-- A plane of the bias scratch. -/
abbrev bPlane (p : ℕ) (hp : ∀ a, (![p, 0, 0] : Fin 3 → ℕ) a + (![1, 256, 256] : Fin 3 → ℕ) a ≤ S3x256x256.size a) : Rect S3x256x256 :=
  Rect.unit (s := S3x256x256) ![p, 0, 0] ![1, 256, 256] hp

/-- A load of the plane last stored is what was stored. -/
theorem bias_hit (v : View sig' κ' sp' S3x256x256 .f32) (p : ℕ) (hp hp') (w : (bPlane p hp).shape.Idx → Elt Ideal .f32)
    (L : List (View.Piece (Elt Ideal) S3x256x256 .f32)) :
    v.readCov (⟨bPlane p hp, w⟩ :: L) (bPlane p hp').toLoadRect = w :=
  View.readCov_cons_toLoadRect v (bPlane p hp) w L

/-- A store to another plane is passed over. -/
theorem bias_skip (v : View sig' κ' sp' S3x256x256 .f32) (p p' : ℕ) (hp hp') (w : (bPlane p hp).shape.Idx → Elt Ideal .f32)
    (L : List (View.Piece (Elt Ideal) S3x256x256 .f32)) (hne : ¬p = p') :
    v.readCov (⟨bPlane p hp, w⟩ :: L) (bPlane p' hp').toLoadRect = v.readCov L (bPlane p' hp').toLoadRect := by
  rw [View.readCov_eq_canon', View.readCov_eq_canon']
  funext j
  refine View.canon_cons_of_not_mem _ L ?_
  intro hm
  have h := LoadRect.mem_set _ |>.mp hm
  obtain ⟨a, ha, ea⟩ := h 0
  have j0 := (j 0).isLt
  change a < 1 at ha
  change (j 0 : ℕ) < 1 at j0
  change p' + 1 * (j 0 : ℕ) = p + 1 * a at ea
  omega

/-- The three bias tiles: the diagonal one, the one below it, and the one every further tile uses. -/
def biasTile (x : Vec Ideal S1x3x512 .f32) : ℕ → BTile
  | 0 => k0_pay3 (View.ld x (Rect.unit (s := S1x3x512) ![0, 0, 0] S1x1x512.size inb_S1x3x512_S1x1x512_0_0_0))
  | 1 => k0_pay5 (k0_pay4 (View.ld x (Rect.unit (s := S1x3x512) ![0, 1, 0] S1x1x512.size inb_S1x3x512_S1x1x512_0_1_0)))
  | _ + 2 => k0_pay6 (View.ld x (Rect.unit (s := S1x3x512) ![0, 2, 0] S1x1x256.size inb_S1x3x512_S1x1x256_0_2_0))

/-- The weight of the second attention, from the four parameter rows. -/
def lamK (x : Vec Ideal S4x64 .f32) : FVec Ideal S1x1 .f32 := k0_pay2 (View.ld x (Rect.unit (s := S4x64) ![0, 0] S4x64.size inb_S4x64_S4x64_0_0))

/-- The norm's weights as they are loaded. -/
def gK (x : Vec Ideal S1x128 .f32) : Vec Ideal S1x128 .f32 := View.ld x (Rect.unit (s := S1x128) ![0, 0] S1x128.size inb_S1x128_S1x128_0_0)

/-- What a tile is, its scores named. -/
theorem daOut_of (lam : FVec Ideal S1x1 .f32) (q : Tile) (k v : ℕ → Tile) (b : ℕ → BTile) (g : Vec Ideal S1x128 .f32) (n : ℕ) (s0 s1 : ℕ → FVec Ideal S256x256 .f32)
    (e0 : s0 = fun j => daS (daQ1 q) (k j) (b j)) (e1 : s1 = fun j => daS (daQ2 q) (k j) (b j)) :
    daOut lam q k v b g n = daNorm (subf (daPV s0 v n) (mulf (broadcastTo S256x128 lam broadcasts_S1x1_S256x128) (daPV s1 v n))) g := by
  rw [e0, e1]
  rfl

end Cert.KernelIdeal.Attn

end
-- ==== Proof.Attn.Lam.lean ====
/- The weight of the second attention, and the norm's gains, as the kernel and the reference read them. -/
module

public import proofs.«01_k».proof.Proof.Attn.HostRows
public import proofs.«01_k».proof.Proof.Attn.DiffReal
public import proofs.«01_k».proof.Proof.Attn.Tile9Defs
public import proofs.«01_k».proof.Proof.Gen.ReferenceIdeal.Read
public import Idealize.ShloMosaic.Lib.Pointwise.Index

@[expose] public section

set_option maxRecDepth 16384

noncomputable section

namespace Cert.KernelIdeal.Attn

open Idealize.ShloMosaic Idealize.ShloMosaic.TcCoe Idealize.SL.Sem
open Cert.KernelIdeal Cert.KernelIdeal.Gen

/-- One of the four vectors as a row of the parameters. -/
def parRow (a : Vec Ideal S1x64 .f32) : Vec Ideal S1x64 .f32 := broadcastInDim S1x64 ![1] bcast_S64_S1x64_1 (shapeCast S64 a shapeCasts_S1x64_S64)

theorem parRow_apply (a : Vec Ideal S1x64 .f32) (u : Fin 1) (k : Fin 64) : parRow a (ValueIdx.ix2 u k) = a (ValueIdx.ix2 (0 : Fin 1) k) := by
  unfold parRow
  refine (broadcastInDim_apply _ _ _ (ValueIdx.ix2 u k) (ValueIdx.ix1 k) (fun b => match b with
    | ⟨0, _⟩ => rfl)).trans ?_
  exact ValueIdx.shapeCast_1a_a_apply a _ k

/-- The four vectors as the kernel takes them. -/
def parAll (y0 y1 y2 y3 : Vec Ideal S1x64 .f32) : Vec Ideal S4x64 .f32 :=
  concatenate S4x64 0 [⟨S1x64, y0⟩, ⟨S1x64, y1⟩, ⟨S1x64, y2⟩, ⟨S1x64, y3⟩] concatenates_S1x64_S1x64_S1x64_S1x64_S4x64_d0

theorem parAll0 (y0 y1 y2 y3 : Vec Ideal S1x64 .f32) (k : Fin 64) : parAll y0 y1 y2 y3 (ValueIdx.ix2 (0 : Fin 4) k) = y0 (ValueIdx.ix2 (0 : Fin 1) k) :=
  concatenate_apply_piece (t := S4x64) 0 [⟨S1x64, y0⟩, ⟨S1x64, y1⟩, ⟨S1x64, y2⟩, ⟨S1x64, y3⟩] concatenates_S1x64_S1x64_S1x64_S1x64_S4x64_d0 (ValueIdx.ix2 (0 : Fin 4) k) 0 (by show 0 < 4; norm_num) S1x64 y0 rfl rfl 0 rfl (ValueIdx.ix2 (0 : Fin 1) k) (fun b hb => match b with
    | ⟨0, _⟩ => absurd rfl hb
    | ⟨1, _⟩ => rfl) (by show 0 + 0 = 0; rfl)

theorem parAll1 (y0 y1 y2 y3 : Vec Ideal S1x64 .f32) (k : Fin 64) : parAll y0 y1 y2 y3 (ValueIdx.ix2 (1 : Fin 4) k) = y1 (ValueIdx.ix2 (0 : Fin 1) k) :=
  concatenate_apply_piece (t := S4x64) 0 [⟨S1x64, y0⟩, ⟨S1x64, y1⟩, ⟨S1x64, y2⟩, ⟨S1x64, y3⟩] concatenates_S1x64_S1x64_S1x64_S1x64_S4x64_d0 (ValueIdx.ix2 (1 : Fin 4) k) 1 (by show 1 < 4; norm_num) S1x64 y1 rfl rfl 1 rfl (ValueIdx.ix2 (0 : Fin 1) k) (fun b hb => match b with
    | ⟨0, _⟩ => absurd rfl hb
    | ⟨1, _⟩ => rfl) (by show 1 + 0 = 1; rfl)

theorem parAll2 (y0 y1 y2 y3 : Vec Ideal S1x64 .f32) (k : Fin 64) : parAll y0 y1 y2 y3 (ValueIdx.ix2 (2 : Fin 4) k) = y2 (ValueIdx.ix2 (0 : Fin 1) k) :=
  concatenate_apply_piece (t := S4x64) 0 [⟨S1x64, y0⟩, ⟨S1x64, y1⟩, ⟨S1x64, y2⟩, ⟨S1x64, y3⟩] concatenates_S1x64_S1x64_S1x64_S1x64_S4x64_d0 (ValueIdx.ix2 (2 : Fin 4) k) 2 (by show 2 < 4; norm_num) S1x64 y2 rfl rfl 2 rfl (ValueIdx.ix2 (0 : Fin 1) k) (fun b hb => match b with
    | ⟨0, _⟩ => absurd rfl hb
    | ⟨1, _⟩ => rfl) (by show 2 + 0 = 2; rfl)

theorem parAll3 (y0 y1 y2 y3 : Vec Ideal S1x64 .f32) (k : Fin 64) : parAll y0 y1 y2 y3 (ValueIdx.ix2 (3 : Fin 4) k) = y3 (ValueIdx.ix2 (0 : Fin 1) k) :=
  concatenate_apply_piece (t := S4x64) 0 [⟨S1x64, y0⟩, ⟨S1x64, y1⟩, ⟨S1x64, y2⟩, ⟨S1x64, y3⟩] concatenates_S1x64_S1x64_S1x64_S1x64_S4x64_d0 (ValueIdx.ix2 (3 : Fin 4) k) 3 (by show 3 < 4; norm_num) S1x64 y3 rfl rfl 3 rfl (ValueIdx.ix2 (0 : Fin 1) k) (fun b hb => match b with
    | ⟨0, _⟩ => absurd rfl hb
    | ⟨1, _⟩ => rfl) (by show 3 + 0 = 3; rfl)

/-- A row cut out of the parameters. -/
theorem row_apply (p : Vec Ideal S4x64 .f32) (i : Fin 4) (h : S4x64.Slices ![(i : ℕ), 0] S1x64) (k : Fin 64) :
    extractStridedSlice S1x64 ![(i : ℕ), 0] p h (ValueIdx.ix2 (0 : Fin 1) k) = p (ValueIdx.ix2 i k) :=
  extractStridedSlice_apply _ p h _ _ (fun a => match a with
    | ⟨0, _⟩ => by show (i : ℕ) = i + 0; rfl
    | ⟨1, _⟩ => by show (k : ℕ) = 0 + k; rw [zero_add])

/-- A row of 64 summed. -/
theorem sum_row (x : FVec Ideal S1x64 .f32) (h) (hφ) (hacc) :
    shapeCast S1x1 (multiReduction .add [1] S1 x 0x00000000#32 h hφ hacc) shapeCasts_S1_S1x1 (ValueIdx.ix2 (0 : Fin 1) (0 : Fin 1)) = ∑ k : Fin 64, x (ValueIdx.ix2 (0 : Fin 1) k) := by
  refine (ValueIdx.shapeCast_a_a1_apply _ _ (0 : Fin 1) (0 : Fin 1)).trans ?_
  refine (Ideal.multiReduction_add_single x _ h hφ hacc _).trans ?_
  refine Finset.sum_congr rfl fun l _ => congrArg x (funext fun a => Fin.ext ?_)
  match a with
  | ⟨0, _⟩ => rfl
  | ⟨1, _⟩ => rfl

/-- The weight of the second attention. -/
def lamOf (d e : EReal) : EReal := Ideal.exp d - Ideal.exp e + Ideal.ofBits .f32 0x3E4CCCCD#32

theorem lamK_apply (p : Vec Ideal S4x64 .f32) :
    lamK p (ValueIdx.ix2 (0 : Fin 1) (0 : Fin 1)) = lamOf (∑ k : Fin 64, p (ValueIdx.ix2 (0 : Fin 4) k) * p (ValueIdx.ix2 (1 : Fin 4) k)) (∑ k : Fin 64, p (ValueIdx.ix2 (2 : Fin 4) k) * p (ValueIdx.ix2 (3 : Fin 4) k)) := by
  have e : View.ld p (Rect.unit ![0, 0] S4x64.size inb_S4x64_S4x64_0_0) = p := funext fun x => View.ld_unit_apply_of p _ _ _ x x (fun a => match a with
    | ⟨0, _⟩ => by show _ = 0 + _; rw [zero_add]
    | ⟨1, _⟩ => by show _ = 0 + _; rw [zero_add])
  unfold lamK
  rw [e]
  unfold k0_pay2 lamOf
  dsimp only
  rw [shapeCast_self]
  refine congrArg (· + _) (congrArg₂ (· - ·) (congrArg Ideal.exp ?_) (congrArg Ideal.exp ?_))
  · refine (sum_row _ _ _ _).trans (Finset.sum_congr rfl fun k _ => congrArg₂ (· * ·) ?_ ?_)
    · exact row_apply p 0 _ k
    · exact row_apply p 1 _ k
  · refine (sum_row _ _ _ _).trans (Finset.sum_congr rfl fun k _ => congrArg₂ (· * ·) ?_ ?_)
    · exact row_apply p 2 _ k
    · exact row_apply p 3 _ k

theorem lamK_par (a1 a2 a3 a4 : Vec Ideal S1x64 .f32) :
    lamK (parAll (parRow a1) (parRow a2) (parRow a3) (parRow a4)) (ValueIdx.ix2 (0 : Fin 1) (0 : Fin 1))
      = lamOf (∑ k : Fin 64, a1 (ValueIdx.ix2 (0 : Fin 1) k) * a2 (ValueIdx.ix2 (0 : Fin 1) k)) (∑ k : Fin 64, a3 (ValueIdx.ix2 (0 : Fin 1) k) * a4 (ValueIdx.ix2 (0 : Fin 1) k)) := by
  rw [lamK_apply]
  simp only [parAll0, parAll1, parAll2, parAll3, parRow_apply]

/-- With real vectors the weight is a real number. -/
theorem lamOf_real {a1 a2 a3 a4 : Vec Ideal S1x64 .f32} (h1 : ∀ i, a1 i ≠ (⊤ : EReal) ∧ a1 i ≠ (⊥ : EReal)) (h2 : ∀ i, a2 i ≠ (⊤ : EReal) ∧ a2 i ≠ (⊥ : EReal))
    (h3 : ∀ i, a3 i ≠ (⊤ : EReal) ∧ a3 i ≠ (⊥ : EReal)) (h4 : ∀ i, a4 i ≠ (⊤ : EReal) ∧ a4 i ≠ (⊥ : EReal)) :
    ∃ L : ℝ, lamOf (∑ k : Fin 64, a1 (ValueIdx.ix2 (0 : Fin 1) k) * a2 (ValueIdx.ix2 (0 : Fin 1) k)) (∑ k : Fin 64, a3 (ValueIdx.ix2 (0 : Fin 1) k) * a4 (ValueIdx.ix2 (0 : Fin 1) k)) = (L : EReal) := by
  have dot : ∀ {x y : Vec Ideal S1x64 .f32}, (∀ i, x i ≠ (⊤ : EReal) ∧ x i ≠ (⊥ : EReal)) → (∀ i, y i ≠ (⊤ : EReal) ∧ y i ≠ (⊥ : EReal)) →
      ∃ d : ℝ, ∑ k : Fin 64, x (ValueIdx.ix2 (0 : Fin 1) k) * y (ValueIdx.ix2 (0 : Fin 1) k) = (d : EReal) := fun {x y} hx hy =>
    ⟨∑ k : Fin 64, EReal.toReal (x (ValueIdx.ix2 (0 : Fin 1) k)) * EReal.toReal (y (ValueIdx.ix2 (0 : Fin 1) k)), by
      rw [← coe_sum]
      refine Finset.sum_congr rfl fun k _ => ?_
      rw [EReal.coe_mul, EReal.coe_toReal (hx _).1 (hx _).2, EReal.coe_toReal (hy _).1 (hy _).2]⟩
  obtain ⟨d, hd⟩ := dot h1 h2
  obtain ⟨e, he⟩ := dot h3 h4
  have hc : ∃ c : ℝ, Ideal.ofBits .f32 0x3E4CCCCD#32 = (c : EReal) := ⟨_, by simp [Ideal.ofBits, Ideal.ieee]; rfl⟩
  obtain ⟨c, hc⟩ := hc
  refine ⟨Real.exp d - Real.exp e + c, ?_⟩
  unfold lamOf
  rw [hd, he, hc, Ideal.exp_coe, Ideal.exp_coe, EReal.coe_add, EReal.coe_sub]

/-- The reference's weight. -/
theorem lamR (a1 a2 a3 a4 : Vec Ideal S1x64 .f32) (i : S_.Idx) :
    Cert.ReferenceIdeal.Read.val_main_v30 (F := Ideal) a1 a2 a3 a4 i
      = lamOf (∑ k : Fin 64, a1 (ValueIdx.ix2 (0 : Fin 1) k) * a2 (ValueIdx.ix2 (0 : Fin 1) k)) (∑ k : Fin 64, a3 (ValueIdx.ix2 (0 : Fin 1) k) * a4 (ValueIdx.ix2 (0 : Fin 1) k)) := by
  have pick : ∀ k : Fin 64, Cert.ReferenceIdeal.Read.idx_main_v19 (ix1 k) = ValueIdx.ix2 (0 : Fin 1) k := fun k => funext fun a => Fin.ext (match a with
    | ⟨0, _⟩ => rfl
    | ⟨1, _⟩ => Nat.mod_eq_of_lt k.isLt)
  have h1 : Cert.ReferenceIdeal.Read.val_main_v22 (F := Ideal) a1 a2 i = ∑ k : Fin 64, a1 (ValueIdx.ix2 (0 : Fin 1) k) * a2 (ValueIdx.ix2 (0 : Fin 1) k) := by
    rw [Cert.ReferenceIdeal.Read.val_main_v22_apply]
    refine (congrArg₂ (· + ·) Ideal.ofBits_zero_f32 (sum_idx1 _)).trans ((zero_add _).trans (Finset.sum_congr rfl fun k _ => congrArg₂ (· * ·) ?_ ?_))
    · exact (Cert.ReferenceIdeal.Read.val_main_v19_apply (F := Ideal) a1 (ix1 k)).trans (congrArg a1 (pick k))
    · exact (Cert.ReferenceIdeal.Read.val_main_v20_apply (F := Ideal) a2 (ix1 k)).trans (congrArg a2 (pick k))
  have h2 : Cert.ReferenceIdeal.Read.val_main_v27 (F := Ideal) a3 a4 i = ∑ k : Fin 64, a3 (ValueIdx.ix2 (0 : Fin 1) k) * a4 (ValueIdx.ix2 (0 : Fin 1) k) := by
    rw [Cert.ReferenceIdeal.Read.val_main_v27_apply]
    refine (congrArg₂ (· + ·) Ideal.ofBits_zero_f32 (sum_idx1 _)).trans ((zero_add _).trans (Finset.sum_congr rfl fun k _ => congrArg₂ (· * ·) ?_ ?_))
    · exact (Cert.ReferenceIdeal.Read.val_main_v24_apply (F := Ideal) a3 (ix1 k)).trans (congrArg a3 (pick k))
    · exact (Cert.ReferenceIdeal.Read.val_main_v25_apply (F := Ideal) a4 (ix1 k)).trans (congrArg a4 (pick k))
  unfold lamOf
  rw [← h1, ← h2]
  rfl

/-- The gains reach the kernel as they are. -/
theorem gK_norm (a : Vec Ideal S1x128 .f32) : gK (shapeCast S1x128 (shapeCast S128 a shapeCasts_S1x128_S128) shapeCasts_S128_S1x128) = a := by
  funext x
  have e : x = ValueIdx.ix2 (0 : Fin 1) (x 1) := funext fun b => Fin.ext (match b with
    | ⟨0, _⟩ => by have h : (x 0 : ℕ) < 1 := (x 0).isLt; show (x 0 : ℕ) = 0; omega
    | ⟨1, _⟩ => rfl)
  unfold gK
  refine (View.ld_unit_apply_of _ _ _ _ x x (fun a => match a with
    | ⟨0, _⟩ => by show _ = 0 + _; rw [zero_add]
    | ⟨1, _⟩ => by show _ = 0 + _; rw [zero_add])).trans ?_
  rw [e]
  exact (ValueIdx.shapeCast_a_1a_apply _ _ 0 (x 1)).trans (ValueIdx.shapeCast_1a_a_apply a _ (x 1))

end Cert.KernelIdeal.Attn

end
-- ==== Proof.Attn.Tiles9a.lean ====
/- What the attention kernel's body leaves in its first output: per query tile, the normalised difference of the two attentions of that tile. -/
module

public import proofs.«01_k».proof.Proof.Attn.Tile9Defs

@[expose] public section

set_option maxRecDepth 16384

noncomputable section

namespace Cert.KernelIdeal.Attn

open Idealize.ShloMosaic Idealize.ShloMosaic.TcCoe Idealize.ShloMosaic.Tactic Idealize.SL.Sem
open Cert.KernelIdeal Cert.KernelIdeal.Gen Cert.KernelIdeal.Gen.kernelRun0_A

variable {sig' : RefSig} {κ' : Kind} {sp' : Space}

attribute [local irreducible] View.readCov in
set_option maxHeartbeats 0 in
/-- The rows of query tile 0. -/
theorem tile9_0 (c : Dev nD) (arg3 : Memref sig .tc .vmem S4x64 .f32) (harg3 : arg3.IsWhole) (arg4 : Memref sig .tc .vmem S1x128 .f32) (harg4 : arg4.IsWhole) (arg5 : Memref sig .tc .vmem S1x3x512 .f32) (harg5 : arg5.IsWhole) (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole) (arg14 : Memref sig .tc .vmem S2x256x2048 .f32) (arg15 : Memref sig .tc .vmem S2x256x2048 .f32) (arg16 : Memref sig .tc .vmem S3x256x256 .f32)
    (x0 : Vec Ideal S4x64 .f32) (x1 : Vec Ideal S1x128 .f32) (x2 : Vec Ideal S1x3x512 .f32) (x3 : Vec Ideal S1x2048x128 .bf16) (x4 : Vec Ideal S1x2048x128 .bf16) (x5 : Vec Ideal S1x2048x128 .bf16) :
    sl.v164 (F := Ideal) c arg3 harg3 arg4 harg4 arg5 harg5 arg6 harg6 arg7 harg7 arg8 harg8 arg14 arg15 arg16 x0 x1 x2 x3 x4 x5
      = daOut (lamK x0) (rowTile x3 0) (rowTile x4) (rowTile x5) (fun j => biasTile x2 (0 - j)) (gK x1) 0 := by
  obtain ⟨s0, e0⟩ : ∃ s : ℕ → FVec Ideal S256x256 .f32, s = fun j => daS (daQ1 (rowTile x3 0)) (rowTile x4 j) (biasTile x2 (0 - j)) := ⟨_, rfl⟩
  obtain ⟨s1, e1⟩ : ∃ s : ℕ → FVec Ideal S256x256 .f32, s = fun j => daS (daQ2 (rowTile x3 0)) (rowTile x4 j) (biasTile x2 (0 - j)) := ⟨_, rfl⟩
  have h0_0 : sl.v65 (F := Ideal) c arg5 harg5 arg6 harg6 arg7 harg7 arg16 x2 x3 x4 = s0 0 := by
    rw [e0]
    sl_unfold_words
    repeat first
      | rw [bias_hit]
      | (rw [bias_skip]; case hne => decide)
    dsimp only [View.readAt_eq_ld]
    rw [harg5.read_unread, harg6.read_unread, harg7.read_unread, ld_row0 x3, ld_row0 x4]
    rfl
  have h1_0 : sl.v83 (F := Ideal) c arg5 harg5 arg6 harg6 arg7 harg7 arg16 x2 x3 x4 = s1 0 := by
    rw [e1]
    sl_unfold_words
    repeat first
      | rw [bias_hit]
      | (rw [bias_skip]; case hne => decide)
    dsimp only [View.readAt_eq_ld]
    rw [harg5.read_unread, harg6.read_unread, harg7.read_unread, ld_row0 x3, ld_row0 x4]
    rfl
  have hM0 : sl.v77 (F := Ideal) c arg5 harg5 arg6 harg6 arg7 harg7 arg16 x2 x3 x4 = daM s0 0 := by
    delta
      sl.v77 sl.v76 sl.v75 sl.v74 sl.v73 sl.v72 sl.v71
    rw [h0_0]
    rfl
  have hM1 : sl.v95 (F := Ideal) c arg5 harg5 arg6 harg6 arg7 harg7 arg16 x2 x3 x4 = daM s1 0 := by
    delta
      sl.v95 sl.v94 sl.v93 sl.v92 sl.v91 sl.v90 sl.v89
    rw [h1_0]
    rfl
  rw [daOut_of _ _ _ _ _ _ _ s0 s1 e0 e1]
  unfold daPV
  delta
    sl.v164 sl.v161 sl.v160 sl.v159 sl.cst_82 sl.v158 sl.v157 sl.v156 sl.v154 sl.v153 sl.v152 sl.v151 sl.v150 sl.cst_79 sl.v149 sl.v148 sl.cst_78 sl.v147
    sl.v146 sl.v145 sl.v144 sl.v143 sl.v141 sl.v140 sl.v139 sl.v138 sl.v131 sl.v129 sl.v128 sl.v125 sl.v123 sl.v130 sl.v127 sl.v126 sl.v124 sl.v96 sl.cst_53
    sl.v137 sl.v136 sl.cst_63 sl.v112 sl.v133 sl.v132 sl.v142 sl.v16 sl.v15 sl.cst_2 sl.v14 sl.v13 sl.v12 sl.v11 sl.v10 sl.v9 sl.v1 sl.v8 sl.v7 sl.v6 sl.v5
    sl.v4 sl.v3 sl.v2 sl.v118 sl.v117 sl.v116 sl.v115 sl.v108 sl.v106 sl.v105 sl.v102 sl.v100 sl.v107 sl.v104 sl.v103 sl.v101 sl.v114 sl.v113 sl.v110 sl.v109
  delta sl.HS0_1 sl.HS1_1
  rw [hM0, hM1]
  generalize daM s0 0 = M0
  generalize daM s1 0 = M1
  repeat first
    | rw [slot_hit]
    | (rw [slot_skip]; case hne => decide)
  delta sl.v70 sl.v88
  rw [h0_0, h1_0]
  dsimp only [View.readAt_eq_ld]
  rw [harg3.read_unread, harg4.read_unread, harg8.read_unread, ld_row0 x5]
  generalize rowTile x5 = v
  rfl

attribute [local irreducible] View.readCov in
set_option maxHeartbeats 0 in
/-- The rows of query tile 1. -/
theorem tile9_1 (c : Dev nD) (arg3 : Memref sig .tc .vmem S4x64 .f32) (harg3 : arg3.IsWhole) (arg4 : Memref sig .tc .vmem S1x128 .f32) (harg4 : arg4.IsWhole) (arg5 : Memref sig .tc .vmem S1x3x512 .f32) (harg5 : arg5.IsWhole) (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole) (arg14 : Memref sig .tc .vmem S2x256x2048 .f32) (arg15 : Memref sig .tc .vmem S2x256x2048 .f32) (arg16 : Memref sig .tc .vmem S3x256x256 .f32)
    (x0 : Vec Ideal S4x64 .f32) (x1 : Vec Ideal S1x128 .f32) (x2 : Vec Ideal S1x3x512 .f32) (x3 : Vec Ideal S1x2048x128 .bf16) (x4 : Vec Ideal S1x2048x128 .bf16) (x5 : Vec Ideal S1x2048x128 .bf16) :
    sl.v345 (F := Ideal) c arg3 harg3 arg4 harg4 arg5 harg5 arg6 harg6 arg7 harg7 arg8 harg8 arg14 arg15 arg16 x0 x1 x2 x3 x4 x5
      = daOut (lamK x0) (rowTile x3 1) (rowTile x4) (rowTile x5) (fun j => biasTile x2 (1 - j)) (gK x1) 1 := by
  obtain ⟨s0, e0⟩ : ∃ s : ℕ → FVec Ideal S256x256 .f32, s = fun j => daS (daQ1 (rowTile x3 1)) (rowTile x4 j) (biasTile x2 (1 - j)) := ⟨_, rfl⟩
  obtain ⟨s1, e1⟩ : ∃ s : ℕ → FVec Ideal S256x256 .f32, s = fun j => daS (daQ2 (rowTile x3 1)) (rowTile x4 j) (biasTile x2 (1 - j)) := ⟨_, rfl⟩
  have h0_0 : sl.v182 (F := Ideal) c arg5 harg5 arg6 harg6 arg7 harg7 arg16 x2 x3 x4 = s0 0 := by
    rw [e0]
    sl_unfold_words
    repeat first
      | rw [bias_hit]
      | (rw [bias_skip]; case hne => decide)
    dsimp only [View.readAt_eq_ld]
    rw [harg5.read_unread, harg6.read_unread, harg7.read_unread, ld_row1 x3, ld_row0 x4]
    rfl
  have h0_1 : sl.v196 (F := Ideal) c arg5 harg5 arg6 harg6 arg7 harg7 arg16 x2 x3 x4 = s0 1 := by
    rw [e0]
    sl_unfold_words
    repeat first
      | rw [bias_hit]
      | (rw [bias_skip]; case hne => decide)
    dsimp only [View.readAt_eq_ld]
    rw [harg5.read_unread, harg6.read_unread, harg7.read_unread, ld_row1 x3, ld_row1 x4]
    rfl
  have h1_0 : sl.v215 (F := Ideal) c arg5 harg5 arg6 harg6 arg7 harg7 arg16 x2 x3 x4 = s1 0 := by
    rw [e1]
    sl_unfold_words
    repeat first
      | rw [bias_hit]
      | (rw [bias_skip]; case hne => decide)
    dsimp only [View.readAt_eq_ld]
    rw [harg5.read_unread, harg6.read_unread, harg7.read_unread, ld_row1 x3, ld_row0 x4]
    rfl
  have h1_1 : sl.v229 (F := Ideal) c arg5 harg5 arg6 harg6 arg7 harg7 arg16 x2 x3 x4 = s1 1 := by
    rw [e1]
    sl_unfold_words
    repeat first
      | rw [bias_hit]
      | (rw [bias_skip]; case hne => decide)
    dsimp only [View.readAt_eq_ld]
    rw [harg5.read_unread, harg6.read_unread, harg7.read_unread, ld_row1 x3, ld_row1 x4]
    rfl
  have hM0 : sl.v209 (F := Ideal) c arg5 harg5 arg6 harg6 arg7 harg7 arg16 x2 x3 x4 = daM s0 1 := by
    delta
      sl.v209 sl.v208 sl.v207 sl.v206 sl.v205 sl.v203 sl.v204 sl.v202 sl.v190 sl.v189 sl.v188
    rw [h0_0, h0_1]
    rfl
  have hM1 : sl.v242 (F := Ideal) c arg5 harg5 arg6 harg6 arg7 harg7 arg16 x2 x3 x4 = daM s1 1 := by
    delta
      sl.v242 sl.v241 sl.v240 sl.v239 sl.v238 sl.v236 sl.v237 sl.v235 sl.v223 sl.v222 sl.v221
    rw [h1_0, h1_1]
    rfl
  rw [daOut_of _ _ _ _ _ _ _ s0 s1 e0 e1]
  unfold daPV
  delta
    sl.v345 sl.v342 sl.v341 sl.v159 sl.cst_82 sl.v339 sl.v157 sl.v156 sl.v335 sl.v334 sl.v333 sl.v332 sl.v150 sl.cst_79 sl.v330 sl.v148 sl.cst_78 sl.v328
    sl.v327 sl.v326 sl.v325 sl.v324 sl.v322 sl.v321 sl.v320 sl.v319 sl.v312 sl.v310 sl.v309 sl.v306 sl.v304 sl.v311 sl.v308 sl.v307 sl.v305 sl.v295 sl.v293
    sl.v292 sl.v289 sl.r_1 sl.v287 sl.v294 sl.v291 sl.v290 sl.v288 sl.v96 sl.cst_53 sl.v318 sl.v317 sl.cst_63 sl.v276 sl.v314 sl.v313 sl.v301 sl.v300 sl.v112
    sl.v297 sl.v296 sl.v142 sl.v16 sl.v15 sl.cst_2 sl.v14 sl.v13 sl.v12 sl.v11 sl.v10 sl.v9 sl.v1 sl.v8 sl.v7 sl.v6 sl.v5 sl.v4 sl.v3 sl.v2 sl.v282 sl.v281
    sl.v280 sl.v279 sl.v272 sl.v270 sl.v269 sl.v266 sl.v264 sl.v271 sl.v268 sl.v267 sl.v265 sl.v255 sl.v253 sl.v252 sl.v249 sl.r sl.v247 sl.v254 sl.v251
    sl.v250 sl.v248 sl.v278 sl.v277 sl.v274 sl.v273 sl.v261 sl.v260 sl.v257 sl.v256
  delta sl.HS0_3 sl.HS1_3
  rw [hM0, hM1]
  generalize daM s0 1 = M0
  generalize daM s1 1 = M1
  repeat first
    | rw [slot_hit]
    | (rw [slot_skip]; case hne => decide)
  delta sl.v201 sl.v187 sl.v234 sl.v220
  rw [h0_0, h0_1, h1_0, h1_1]
  dsimp only [View.readAt_eq_ld]
  rw [harg3.read_unread, harg4.read_unread, harg8.read_unread, ld_row0 x5, ld_row1 x5]
  generalize rowTile x5 = v
  rfl

attribute [local irreducible] View.readCov in
set_option maxHeartbeats 0 in
/-- The rows of query tile 2. -/
theorem tile9_2 (c : Dev nD) (arg3 : Memref sig .tc .vmem S4x64 .f32) (harg3 : arg3.IsWhole) (arg4 : Memref sig .tc .vmem S1x128 .f32) (harg4 : arg4.IsWhole) (arg5 : Memref sig .tc .vmem S1x3x512 .f32) (harg5 : arg5.IsWhole) (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole) (arg14 : Memref sig .tc .vmem S2x256x2048 .f32) (arg15 : Memref sig .tc .vmem S2x256x2048 .f32) (arg16 : Memref sig .tc .vmem S3x256x256 .f32)
    (x0 : Vec Ideal S4x64 .f32) (x1 : Vec Ideal S1x128 .f32) (x2 : Vec Ideal S1x3x512 .f32) (x3 : Vec Ideal S1x2048x128 .bf16) (x4 : Vec Ideal S1x2048x128 .bf16) (x5 : Vec Ideal S1x2048x128 .bf16) :
    sl.v590 (F := Ideal) c arg3 harg3 arg4 harg4 arg5 harg5 arg6 harg6 arg7 harg7 arg8 harg8 arg14 arg15 arg16 x0 x1 x2 x3 x4 x5
      = daOut (lamK x0) (rowTile x3 2) (rowTile x4) (rowTile x5) (fun j => biasTile x2 (2 - j)) (gK x1) 2 := by
  obtain ⟨s0, e0⟩ : ∃ s : ℕ → FVec Ideal S256x256 .f32, s = fun j => daS (daQ1 (rowTile x3 2)) (rowTile x4 j) (biasTile x2 (2 - j)) := ⟨_, rfl⟩
  obtain ⟨s1, e1⟩ : ∃ s : ℕ → FVec Ideal S256x256 .f32, s = fun j => daS (daQ2 (rowTile x3 2)) (rowTile x4 j) (biasTile x2 (2 - j)) := ⟨_, rfl⟩
  have h0_0 : sl.v363 (F := Ideal) c arg5 harg5 arg6 harg6 arg7 harg7 arg16 x2 x3 x4 = s0 0 := by
    rw [e0]
    sl_unfold_words
    repeat first
      | rw [bias_hit]
      | (rw [bias_skip]; case hne => decide)
    dsimp only [View.readAt_eq_ld]
    rw [harg5.read_unread, harg6.read_unread, harg7.read_unread, ld_row2 x3, ld_row0 x4]
    rfl
  have h0_1 : sl.v377 (F := Ideal) c arg5 harg5 arg6 harg6 arg7 harg7 arg16 x2 x3 x4 = s0 1 := by
    rw [e0]
    sl_unfold_words
    repeat first
      | rw [bias_hit]
      | (rw [bias_skip]; case hne => decide)
    dsimp only [View.readAt_eq_ld]
    rw [harg5.read_unread, harg6.read_unread, harg7.read_unread, ld_row2 x3, ld_row1 x4]
    rfl
  have h0_2 : sl.v392 (F := Ideal) c arg5 harg5 arg6 harg6 arg7 harg7 arg16 x2 x3 x4 = s0 2 := by
    rw [e0]
    sl_unfold_words
    repeat first
      | rw [bias_hit]
      | (rw [bias_skip]; case hne => decide)
    dsimp only [View.readAt_eq_ld]
    rw [harg5.read_unread, harg6.read_unread, harg7.read_unread, ld_row2 x3, ld_row2 x4]
    rfl
  have h1_0 : sl.v411 (F := Ideal) c arg5 harg5 arg6 harg6 arg7 harg7 arg16 x2 x3 x4 = s1 0 := by
    rw [e1]
    sl_unfold_words
    repeat first
      | rw [bias_hit]
      | (rw [bias_skip]; case hne => decide)
    dsimp only [View.readAt_eq_ld]
    rw [harg5.read_unread, harg6.read_unread, harg7.read_unread, ld_row2 x3, ld_row0 x4]
    rfl
  have h1_1 : sl.v425 (F := Ideal) c arg5 harg5 arg6 harg6 arg7 harg7 arg16 x2 x3 x4 = s1 1 := by
    rw [e1]
    sl_unfold_words
    repeat first
      | rw [bias_hit]
      | (rw [bias_skip]; case hne => decide)
    dsimp only [View.readAt_eq_ld]
    rw [harg5.read_unread, harg6.read_unread, harg7.read_unread, ld_row2 x3, ld_row1 x4]
    rfl
  have h1_2 : sl.v440 (F := Ideal) c arg5 harg5 arg6 harg6 arg7 harg7 arg16 x2 x3 x4 = s1 2 := by
    rw [e1]
    sl_unfold_words
    repeat first
      | rw [bias_hit]
      | (rw [bias_skip]; case hne => decide)
    dsimp only [View.readAt_eq_ld]
    rw [harg5.read_unread, harg6.read_unread, harg7.read_unread, ld_row2 x3, ld_row2 x4]
    rfl
  have hM0 : sl.v405 (F := Ideal) c arg5 harg5 arg6 harg6 arg7 harg7 arg16 x2 x3 x4 = daM s0 2 := by
    delta
      sl.v405 sl.v404 sl.v403 sl.v402 sl.v401 sl.v399 sl.v400 sl.v398 sl.v386 sl.v384 sl.v385 sl.v383 sl.v371 sl.v370 sl.v369
    rw [h0_0, h0_1, h0_2]
    rfl
  have hM1 : sl.v453 (F := Ideal) c arg5 harg5 arg6 harg6 arg7 harg7 arg16 x2 x3 x4 = daM s1 2 := by
    delta
      sl.v453 sl.v452 sl.v451 sl.v450 sl.v449 sl.v447 sl.v448 sl.v446 sl.v434 sl.v432 sl.v433 sl.v431 sl.v419 sl.v418 sl.v417
    rw [h1_0, h1_1, h1_2]
    rfl
  rw [daOut_of _ _ _ _ _ _ _ s0 s1 e0 e1]
  unfold daPV
  delta
    sl.v590 sl.v587 sl.v586 sl.v159 sl.cst_82 sl.v584 sl.v157 sl.v156 sl.v580 sl.v579 sl.v578 sl.v577 sl.v150 sl.cst_79 sl.v575 sl.v148 sl.cst_78 sl.v573
    sl.v572 sl.v571 sl.v570 sl.v569 sl.v567 sl.v566 sl.v565 sl.v564 sl.v557 sl.v555 sl.v554 sl.v551 sl.v549 sl.v556 sl.v553 sl.v552 sl.v550 sl.v540 sl.v538
    sl.v537 sl.v534 sl.v532 sl.v539 sl.v536 sl.v535 sl.v533 sl.v523 sl.v521 sl.v520 sl.v517 sl.v515 sl.v522 sl.v519 sl.v518 sl.v516 sl.v96 sl.cst_53 sl.v563
    sl.v562 sl.cst_63 sl.v504 sl.v559 sl.v558 sl.v546 sl.v545 sl.v276 sl.v542 sl.v541 sl.v529 sl.v528 sl.v112 sl.v525 sl.v524 sl.v142 sl.v16 sl.v15 sl.cst_2
    sl.v14 sl.v13 sl.v12 sl.v11 sl.v10 sl.v9 sl.v1 sl.v8 sl.v7 sl.v6 sl.v5 sl.v4 sl.v3 sl.v2 sl.v510 sl.v509 sl.v508 sl.v507 sl.v500 sl.v498 sl.v497 sl.v494
    sl.v492 sl.v499 sl.v496 sl.v495 sl.v493 sl.v483 sl.v481 sl.v480 sl.v477 sl.v475 sl.v482 sl.v479 sl.v478 sl.v476 sl.v466 sl.v464 sl.v463 sl.v460 sl.v458
    sl.v465 sl.v462 sl.v461 sl.v459 sl.v506 sl.v505 sl.v502 sl.v501 sl.v489 sl.v488 sl.v485 sl.v484 sl.v472 sl.v471 sl.v468 sl.v467
  delta sl.HS0_6 sl.HS1_6
  rw [hM0, hM1]
  generalize daM s0 2 = M0
  generalize daM s1 2 = M1
  repeat first
    | rw [slot_hit]
    | (rw [slot_skip]; case hne => decide)
  delta sl.v397 sl.v382 sl.v368 sl.v445 sl.v430 sl.v416
  rw [h0_0, h0_1, h0_2, h1_0, h1_1, h1_2]
  dsimp only [View.readAt_eq_ld]
  rw [harg3.read_unread, harg4.read_unread, harg8.read_unread, ld_row0 x5, ld_row1 x5, ld_row2 x5]
  generalize rowTile x5 = v
  rfl

attribute [local irreducible] View.readCov in
set_option maxHeartbeats 0 in
/-- The rows of query tile 3. -/
theorem tile9_3 (c : Dev nD) (arg3 : Memref sig .tc .vmem S4x64 .f32) (harg3 : arg3.IsWhole) (arg4 : Memref sig .tc .vmem S1x128 .f32) (harg4 : arg4.IsWhole) (arg5 : Memref sig .tc .vmem S1x3x512 .f32) (harg5 : arg5.IsWhole) (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole) (arg14 : Memref sig .tc .vmem S2x256x2048 .f32) (arg15 : Memref sig .tc .vmem S2x256x2048 .f32) (arg16 : Memref sig .tc .vmem S3x256x256 .f32)
    (x0 : Vec Ideal S4x64 .f32) (x1 : Vec Ideal S1x128 .f32) (x2 : Vec Ideal S1x3x512 .f32) (x3 : Vec Ideal S1x2048x128 .bf16) (x4 : Vec Ideal S1x2048x128 .bf16) (x5 : Vec Ideal S1x2048x128 .bf16) :
    sl.v899 (F := Ideal) c arg3 harg3 arg4 harg4 arg5 harg5 arg6 harg6 arg7 harg7 arg8 harg8 arg14 arg15 arg16 x0 x1 x2 x3 x4 x5
      = daOut (lamK x0) (rowTile x3 3) (rowTile x4) (rowTile x5) (fun j => biasTile x2 (3 - j)) (gK x1) 3 := by
  obtain ⟨s0, e0⟩ : ∃ s : ℕ → FVec Ideal S256x256 .f32, s = fun j => daS (daQ1 (rowTile x3 3)) (rowTile x4 j) (biasTile x2 (3 - j)) := ⟨_, rfl⟩
  obtain ⟨s1, e1⟩ : ∃ s : ℕ → FVec Ideal S256x256 .f32, s = fun j => daS (daQ2 (rowTile x3 3)) (rowTile x4 j) (biasTile x2 (3 - j)) := ⟨_, rfl⟩
  have h0_0 : sl.v608 (F := Ideal) c arg5 harg5 arg6 harg6 arg7 harg7 arg16 x2 x3 x4 = s0 0 := by
    rw [e0]
    sl_unfold_words
    repeat first
      | rw [bias_hit]
      | (rw [bias_skip]; case hne => decide)
    dsimp only [View.readAt_eq_ld]
    rw [harg5.read_unread, harg6.read_unread, harg7.read_unread, ld_row3 x3, ld_row0 x4]
    rfl
  have h0_1 : sl.v622 (F := Ideal) c arg5 harg5 arg6 harg6 arg7 harg7 arg16 x2 x3 x4 = s0 1 := by
    rw [e0]
    sl_unfold_words
    repeat first
      | rw [bias_hit]
      | (rw [bias_skip]; case hne => decide)
    dsimp only [View.readAt_eq_ld]
    rw [harg5.read_unread, harg6.read_unread, harg7.read_unread, ld_row3 x3, ld_row1 x4]
    rfl
  have h0_2 : sl.v637 (F := Ideal) c arg5 harg5 arg6 harg6 arg7 harg7 arg16 x2 x3 x4 = s0 2 := by
    rw [e0]
    sl_unfold_words
    repeat first
      | rw [bias_hit]
      | (rw [bias_skip]; case hne => decide)
    dsimp only [View.readAt_eq_ld]
    rw [harg5.read_unread, harg6.read_unread, harg7.read_unread, ld_row3 x3, ld_row2 x4]
    rfl
  have h0_3 : sl.v652 (F := Ideal) c arg5 harg5 arg6 harg6 arg7 harg7 arg16 x2 x3 x4 = s0 3 := by
    rw [e0]
    sl_unfold_words
    repeat first
      | rw [bias_hit]
      | (rw [bias_skip]; case hne => decide)
    dsimp only [View.readAt_eq_ld]
    rw [harg5.read_unread, harg6.read_unread, harg7.read_unread, ld_row3 x3, ld_row3 x4]
    rfl
  have h1_0 : sl.v671 (F := Ideal) c arg5 harg5 arg6 harg6 arg7 harg7 arg16 x2 x3 x4 = s1 0 := by
    rw [e1]
    sl_unfold_words
    repeat first
      | rw [bias_hit]
      | (rw [bias_skip]; case hne => decide)
    dsimp only [View.readAt_eq_ld]
    rw [harg5.read_unread, harg6.read_unread, harg7.read_unread, ld_row3 x3, ld_row0 x4]
    rfl
  have h1_1 : sl.v685 (F := Ideal) c arg5 harg5 arg6 harg6 arg7 harg7 arg16 x2 x3 x4 = s1 1 := by
    rw [e1]
    sl_unfold_words
    repeat first
      | rw [bias_hit]
      | (rw [bias_skip]; case hne => decide)
    dsimp only [View.readAt_eq_ld]
    rw [harg5.read_unread, harg6.read_unread, harg7.read_unread, ld_row3 x3, ld_row1 x4]
    rfl
  have h1_2 : sl.v700 (F := Ideal) c arg5 harg5 arg6 harg6 arg7 harg7 arg16 x2 x3 x4 = s1 2 := by
    rw [e1]
    sl_unfold_words
    repeat first
      | rw [bias_hit]
      | (rw [bias_skip]; case hne => decide)
    dsimp only [View.readAt_eq_ld]
    rw [harg5.read_unread, harg6.read_unread, harg7.read_unread, ld_row3 x3, ld_row2 x4]
    rfl
  have h1_3 : sl.v715 (F := Ideal) c arg5 harg5 arg6 harg6 arg7 harg7 arg16 x2 x3 x4 = s1 3 := by
    rw [e1]
    sl_unfold_words
    repeat first
      | rw [bias_hit]
      | (rw [bias_skip]; case hne => decide)
    dsimp only [View.readAt_eq_ld]
    rw [harg5.read_unread, harg6.read_unread, harg7.read_unread, ld_row3 x3, ld_row3 x4]
    rfl
  have hM0 : sl.v665 (F := Ideal) c arg5 harg5 arg6 harg6 arg7 harg7 arg16 x2 x3 x4 = daM s0 3 := by
    delta
      sl.v665 sl.v664 sl.v663 sl.v662 sl.v661 sl.v659 sl.v660 sl.v658 sl.v646 sl.v644 sl.v645 sl.v643 sl.v631 sl.v629 sl.v630 sl.v628 sl.v616 sl.v615 sl.v614
    rw [h0_0, h0_1, h0_2, h0_3]
    rfl
  have hM1 : sl.v728 (F := Ideal) c arg5 harg5 arg6 harg6 arg7 harg7 arg16 x2 x3 x4 = daM s1 3 := by
    delta
      sl.v728 sl.v727 sl.v726 sl.v725 sl.v724 sl.v722 sl.v723 sl.v721 sl.v709 sl.v707 sl.v708 sl.v706 sl.v694 sl.v692 sl.v693 sl.v691 sl.v679 sl.v678 sl.v677
    rw [h1_0, h1_1, h1_2, h1_3]
    rfl
  rw [daOut_of _ _ _ _ _ _ _ s0 s1 e0 e1]
  unfold daPV
  delta
    sl.v899 sl.v896 sl.v895 sl.v159 sl.cst_82 sl.v893 sl.v157 sl.v156 sl.v889 sl.v888 sl.v887 sl.v886 sl.v150 sl.cst_79 sl.v884 sl.v148 sl.cst_78 sl.v882
    sl.v881 sl.v880 sl.v879 sl.v878 sl.v876 sl.v875 sl.v874 sl.v873 sl.v866 sl.v864 sl.v863 sl.v860 sl.v858 sl.v865 sl.v862 sl.v861 sl.v859 sl.v849 sl.v847
    sl.v846 sl.v843 sl.v841 sl.v848 sl.v845 sl.v844 sl.v842 sl.v832 sl.v830 sl.v829 sl.v826 sl.v824 sl.v831 sl.v828 sl.v827 sl.v825 sl.v815 sl.v813 sl.v812
    sl.v809 sl.v807 sl.v814 sl.v811 sl.v810 sl.v808 sl.v96 sl.cst_53 sl.v872 sl.v871 sl.cst_63 sl.v796 sl.v868 sl.v867 sl.v855 sl.v854 sl.v504 sl.v851 sl.v850
    sl.v838 sl.v837 sl.v276 sl.v834 sl.v833 sl.v821 sl.v820 sl.v112 sl.v817 sl.v816 sl.v142 sl.v16 sl.v15 sl.cst_2 sl.v14 sl.v13 sl.v12 sl.v11 sl.v10 sl.v9
    sl.v1 sl.v8 sl.v7 sl.v6 sl.v5 sl.v4 sl.v3 sl.v2 sl.v802 sl.v801 sl.v800 sl.v799 sl.v792 sl.v790 sl.v789 sl.v786 sl.v784 sl.v791 sl.v788 sl.v787 sl.v785
    sl.v775 sl.v773 sl.v772 sl.v769 sl.v767 sl.v774 sl.v771 sl.v770 sl.v768 sl.v758 sl.v756 sl.v755 sl.v752 sl.v750 sl.v757 sl.v754 sl.v753 sl.v751 sl.v741
    sl.v739 sl.v738 sl.v735 sl.v733 sl.v740 sl.v737 sl.v736 sl.v734 sl.v798 sl.v797 sl.v794 sl.v793 sl.v781 sl.v780 sl.v777 sl.v776 sl.v764 sl.v763 sl.v760
    sl.v759 sl.v747 sl.v746 sl.v743 sl.v742
  delta sl.HS0_10 sl.HS0_7 sl.HS1_10 sl.HS1_7
  rw [hM0, hM1]
  generalize daM s0 3 = M0
  generalize daM s1 3 = M1
  repeat first
    | rw [slot_hit]
    | (rw [slot_skip]; case hne => decide)
  delta sl.v657 sl.v642 sl.v627 sl.v613 sl.v720 sl.v705 sl.v690 sl.v676
  rw [h0_0, h0_1, h0_2, h0_3, h1_0, h1_1, h1_2, h1_3]
  dsimp only [View.readAt_eq_ld]
  rw [harg3.read_unread, harg4.read_unread, harg8.read_unread, ld_row0 x5, ld_row1 x5, ld_row2 x5, ld_row3 x5]
  generalize rowTile x5 = v
  rfl

end Cert.KernelIdeal.Attn

end
-- ==== Proof.Attn.Tiles9b.lean ====
/- What the attention kernel's body leaves in its first output: per query tile, the normalised difference of the two attentions of that tile. -/
module

public import proofs.«01_k».proof.Proof.Attn.Tile9Defs

@[expose] public section

set_option maxRecDepth 16384

noncomputable section

namespace Cert.KernelIdeal.Attn

open Idealize.ShloMosaic Idealize.ShloMosaic.TcCoe Idealize.ShloMosaic.Tactic Idealize.SL.Sem
open Cert.KernelIdeal Cert.KernelIdeal.Gen Cert.KernelIdeal.Gen.kernelRun0_A

variable {sig' : RefSig} {κ' : Kind} {sp' : Space}

attribute [local irreducible] View.readCov in
set_option maxHeartbeats 0 in
/-- The rows of query tile 4. -/
theorem tile9_4 (c : Dev nD) (arg3 : Memref sig .tc .vmem S4x64 .f32) (harg3 : arg3.IsWhole) (arg4 : Memref sig .tc .vmem S1x128 .f32) (harg4 : arg4.IsWhole) (arg5 : Memref sig .tc .vmem S1x3x512 .f32) (harg5 : arg5.IsWhole) (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole) (arg14 : Memref sig .tc .vmem S2x256x2048 .f32) (arg15 : Memref sig .tc .vmem S2x256x2048 .f32) (arg16 : Memref sig .tc .vmem S3x256x256 .f32)
    (x0 : Vec Ideal S4x64 .f32) (x1 : Vec Ideal S1x128 .f32) (x2 : Vec Ideal S1x3x512 .f32) (x3 : Vec Ideal S1x2048x128 .bf16) (x4 : Vec Ideal S1x2048x128 .bf16) (x5 : Vec Ideal S1x2048x128 .bf16) :
    sl.v1272 (F := Ideal) c arg3 harg3 arg4 harg4 arg5 harg5 arg6 harg6 arg7 harg7 arg8 harg8 arg14 arg15 arg16 x0 x1 x2 x3 x4 x5
      = daOut (lamK x0) (rowTile x3 4) (rowTile x4) (rowTile x5) (fun j => biasTile x2 (4 - j)) (gK x1) 4 := by
  obtain ⟨s0, e0⟩ : ∃ s : ℕ → FVec Ideal S256x256 .f32, s = fun j => daS (daQ1 (rowTile x3 4)) (rowTile x4 j) (biasTile x2 (4 - j)) := ⟨_, rfl⟩
  obtain ⟨s1, e1⟩ : ∃ s : ℕ → FVec Ideal S256x256 .f32, s = fun j => daS (daQ2 (rowTile x3 4)) (rowTile x4 j) (biasTile x2 (4 - j)) := ⟨_, rfl⟩
  have h0_0 : sl.v917 (F := Ideal) c arg5 harg5 arg6 harg6 arg7 harg7 arg16 x2 x3 x4 = s0 0 := by
    rw [e0]
    sl_unfold_words
    repeat first
      | rw [bias_hit]
      | (rw [bias_skip]; case hne => decide)
    dsimp only [View.readAt_eq_ld]
    rw [harg5.read_unread, harg6.read_unread, harg7.read_unread, ld_row4 x3, ld_row0 x4]
    rfl
  have h0_1 : sl.v931 (F := Ideal) c arg5 harg5 arg6 harg6 arg7 harg7 arg16 x2 x3 x4 = s0 1 := by
    rw [e0]
    sl_unfold_words
    repeat first
      | rw [bias_hit]
      | (rw [bias_skip]; case hne => decide)
    dsimp only [View.readAt_eq_ld]
    rw [harg5.read_unread, harg6.read_unread, harg7.read_unread, ld_row4 x3, ld_row1 x4]
    rfl
  have h0_2 : sl.v946 (F := Ideal) c arg5 harg5 arg6 harg6 arg7 harg7 arg16 x2 x3 x4 = s0 2 := by
    rw [e0]
    sl_unfold_words
    repeat first
      | rw [bias_hit]
      | (rw [bias_skip]; case hne => decide)
    dsimp only [View.readAt_eq_ld]
    rw [harg5.read_unread, harg6.read_unread, harg7.read_unread, ld_row4 x3, ld_row2 x4]
    rfl
  have h0_3 : sl.v961 (F := Ideal) c arg5 harg5 arg6 harg6 arg7 harg7 arg16 x2 x3 x4 = s0 3 := by
    rw [e0]
    sl_unfold_words
    repeat first
      | rw [bias_hit]
      | (rw [bias_skip]; case hne => decide)
    dsimp only [View.readAt_eq_ld]
    rw [harg5.read_unread, harg6.read_unread, harg7.read_unread, ld_row4 x3, ld_row3 x4]
    rfl
  have h0_4 : sl.v976 (F := Ideal) c arg5 harg5 arg6 harg6 arg7 harg7 arg16 x2 x3 x4 = s0 4 := by
    rw [e0]
    sl_unfold_words
    repeat first
      | rw [bias_hit]
      | (rw [bias_skip]; case hne => decide)
    dsimp only [View.readAt_eq_ld]
    rw [harg5.read_unread, harg6.read_unread, harg7.read_unread, ld_row4 x3, ld_row4 x4]
    rfl
  have h1_0 : sl.v995 (F := Ideal) c arg5 harg5 arg6 harg6 arg7 harg7 arg16 x2 x3 x4 = s1 0 := by
    rw [e1]
    sl_unfold_words
    repeat first
      | rw [bias_hit]
      | (rw [bias_skip]; case hne => decide)
    dsimp only [View.readAt_eq_ld]
    rw [harg5.read_unread, harg6.read_unread, harg7.read_unread, ld_row4 x3, ld_row0 x4]
    rfl
  have h1_1 : sl.v1009 (F := Ideal) c arg5 harg5 arg6 harg6 arg7 harg7 arg16 x2 x3 x4 = s1 1 := by
    rw [e1]
    sl_unfold_words
    repeat first
      | rw [bias_hit]
      | (rw [bias_skip]; case hne => decide)
    dsimp only [View.readAt_eq_ld]
    rw [harg5.read_unread, harg6.read_unread, harg7.read_unread, ld_row4 x3, ld_row1 x4]
    rfl
  have h1_2 : sl.v1024 (F := Ideal) c arg5 harg5 arg6 harg6 arg7 harg7 arg16 x2 x3 x4 = s1 2 := by
    rw [e1]
    sl_unfold_words
    repeat first
      | rw [bias_hit]
      | (rw [bias_skip]; case hne => decide)
    dsimp only [View.readAt_eq_ld]
    rw [harg5.read_unread, harg6.read_unread, harg7.read_unread, ld_row4 x3, ld_row2 x4]
    rfl
  have h1_3 : sl.v1039 (F := Ideal) c arg5 harg5 arg6 harg6 arg7 harg7 arg16 x2 x3 x4 = s1 3 := by
    rw [e1]
    sl_unfold_words
    repeat first
      | rw [bias_hit]
      | (rw [bias_skip]; case hne => decide)
    dsimp only [View.readAt_eq_ld]
    rw [harg5.read_unread, harg6.read_unread, harg7.read_unread, ld_row4 x3, ld_row3 x4]
    rfl
  have h1_4 : sl.v1054 (F := Ideal) c arg5 harg5 arg6 harg6 arg7 harg7 arg16 x2 x3 x4 = s1 4 := by
    rw [e1]
    sl_unfold_words
    repeat first
      | rw [bias_hit]
      | (rw [bias_skip]; case hne => decide)
    dsimp only [View.readAt_eq_ld]
    rw [harg5.read_unread, harg6.read_unread, harg7.read_unread, ld_row4 x3, ld_row4 x4]
    rfl
  have hM0 : sl.v989 (F := Ideal) c arg5 harg5 arg6 harg6 arg7 harg7 arg16 x2 x3 x4 = daM s0 4 := by
    delta
      sl.v989 sl.v988 sl.v987 sl.v986 sl.v985 sl.v983 sl.v984 sl.v982 sl.v970 sl.v968 sl.v969 sl.v967 sl.v955 sl.v953 sl.v954 sl.v952 sl.v940 sl.v938 sl.v939
      sl.v937 sl.v925 sl.v924 sl.v923
    rw [h0_0, h0_1, h0_2, h0_3, h0_4]
    rfl
  have hM1 : sl.v1067 (F := Ideal) c arg5 harg5 arg6 harg6 arg7 harg7 arg16 x2 x3 x4 = daM s1 4 := by
    delta
      sl.v1067 sl.v1066 sl.v1065 sl.v1064 sl.v1063 sl.v1061 sl.v1062 sl.v1060 sl.v1048 sl.v1046 sl.v1047 sl.v1045 sl.v1033 sl.v1031 sl.v1032 sl.v1030 sl.v1018
      sl.v1016 sl.v1017 sl.v1015 sl.v1003 sl.v1002 sl.v1001
    rw [h1_0, h1_1, h1_2, h1_3, h1_4]
    rfl
  rw [daOut_of _ _ _ _ _ _ _ s0 s1 e0 e1]
  unfold daPV
  delta
    sl.v1272 sl.v1269 sl.v1268 sl.v159 sl.cst_82 sl.v1266 sl.v157 sl.v156 sl.v1262 sl.v1261 sl.v1260 sl.v1259 sl.v150 sl.cst_79 sl.v1257 sl.v148 sl.cst_78
    sl.v1255 sl.v1254 sl.v1253 sl.v1252 sl.v1251 sl.v1249 sl.v1248 sl.v1247 sl.v1246 sl.v1239 sl.v1237 sl.v1236 sl.v1233 sl.r_3 sl.v1231 sl.v1238 sl.v1235
    sl.v1234 sl.v1232 sl.v1222 sl.v1220 sl.v1219 sl.v1216 sl.v1214 sl.v1221 sl.v1218 sl.v1217 sl.v1215 sl.v1205 sl.v1203 sl.v1202 sl.v1199 sl.v1197 sl.v1204
    sl.v1201 sl.v1200 sl.v1198 sl.v1188 sl.v1186 sl.v1185 sl.v1182 sl.v1180 sl.v1187 sl.v1184 sl.v1183 sl.v1181 sl.v1171 sl.v1169 sl.v1168 sl.v1165 sl.v1163
    sl.v1170 sl.v1167 sl.v1166 sl.v1164 sl.v96 sl.cst_53 sl.v1245 sl.v1244 sl.cst_63 sl.v1152 sl.v1241 sl.v1240 sl.v1228 sl.v1227 sl.v796 sl.v1224 sl.v1223
    sl.v1211 sl.v1210 sl.v504 sl.v1207 sl.v1206 sl.v1194 sl.v1193 sl.v276 sl.v1190 sl.v1189 sl.v1177 sl.v1176 sl.v112 sl.v1173 sl.v1172 sl.v142 sl.v16 sl.v15
    sl.cst_2 sl.v14 sl.v13 sl.v12 sl.v11 sl.v10 sl.v9 sl.v1 sl.v8 sl.v7 sl.v6 sl.v5 sl.v4 sl.v3 sl.v2 sl.v1158 sl.v1157 sl.v1156 sl.v1155 sl.v1148 sl.v1146
    sl.v1145 sl.v1142 sl.v1140 sl.v1147 sl.v1144 sl.v1143 sl.v1141 sl.v1131 sl.v1129 sl.v1128 sl.v1125 sl.v1123 sl.v1130 sl.v1127 sl.v1126 sl.v1124 sl.v1114
    sl.v1112 sl.v1111 sl.v1108 sl.v1106 sl.v1113 sl.v1110 sl.v1109 sl.v1107 sl.v1097 sl.v1095 sl.v1094 sl.v1091 sl.v1089 sl.v1096 sl.v1093 sl.v1092 sl.v1090
    sl.v1080 sl.v1078 sl.v1077 sl.v1074 sl.v1072 sl.v1079 sl.v1076 sl.v1075 sl.v1073 sl.v1154 sl.v1153 sl.v1150 sl.v1149 sl.v1137 sl.v1136 sl.v1133 sl.v1132
    sl.v1120 sl.v1119 sl.v1116 sl.v1115 sl.v1103 sl.v1102 sl.v1099 sl.v1098 sl.v1086 sl.v1085 sl.v1082 sl.v1081
  delta sl.HS0_15 sl.HS0_12 sl.HS0_11 sl.HS1_15 sl.HS1_12 sl.HS1_11
  rw [hM0, hM1]
  generalize daM s0 4 = M0
  generalize daM s1 4 = M1
  repeat first
    | rw [slot_hit]
    | (rw [slot_skip]; case hne => decide)
  delta sl.v981 sl.v966 sl.v951 sl.v936 sl.v922 sl.v1059 sl.v1044 sl.v1029 sl.v1014 sl.v1000
  rw [h0_0, h0_1, h0_2, h0_3, h0_4, h1_0, h1_1, h1_2, h1_3, h1_4]
  dsimp only [View.readAt_eq_ld]
  rw [harg3.read_unread, harg4.read_unread, harg8.read_unread, ld_row0 x5, ld_row1 x5, ld_row2 x5, ld_row3 x5, ld_row4 x5]
  generalize rowTile x5 = v
  rfl

attribute [local irreducible] View.readCov in
set_option maxHeartbeats 0 in
/-- The rows of query tile 5. -/
theorem tile9_5 (c : Dev nD) (arg3 : Memref sig .tc .vmem S4x64 .f32) (harg3 : arg3.IsWhole) (arg4 : Memref sig .tc .vmem S1x128 .f32) (harg4 : arg4.IsWhole) (arg5 : Memref sig .tc .vmem S1x3x512 .f32) (harg5 : arg5.IsWhole) (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole) (arg14 : Memref sig .tc .vmem S2x256x2048 .f32) (arg15 : Memref sig .tc .vmem S2x256x2048 .f32) (arg16 : Memref sig .tc .vmem S3x256x256 .f32)
    (x0 : Vec Ideal S4x64 .f32) (x1 : Vec Ideal S1x128 .f32) (x2 : Vec Ideal S1x3x512 .f32) (x3 : Vec Ideal S1x2048x128 .bf16) (x4 : Vec Ideal S1x2048x128 .bf16) (x5 : Vec Ideal S1x2048x128 .bf16) :
    sl.v1709 (F := Ideal) c arg3 harg3 arg4 harg4 arg5 harg5 arg6 harg6 arg7 harg7 arg8 harg8 arg14 arg15 arg16 x0 x1 x2 x3 x4 x5
      = daOut (lamK x0) (rowTile x3 5) (rowTile x4) (rowTile x5) (fun j => biasTile x2 (5 - j)) (gK x1) 5 := by
  obtain ⟨s0, e0⟩ : ∃ s : ℕ → FVec Ideal S256x256 .f32, s = fun j => daS (daQ1 (rowTile x3 5)) (rowTile x4 j) (biasTile x2 (5 - j)) := ⟨_, rfl⟩
  obtain ⟨s1, e1⟩ : ∃ s : ℕ → FVec Ideal S256x256 .f32, s = fun j => daS (daQ2 (rowTile x3 5)) (rowTile x4 j) (biasTile x2 (5 - j)) := ⟨_, rfl⟩
  have h0_0 : sl.v1290 (F := Ideal) c arg5 harg5 arg6 harg6 arg7 harg7 arg16 x2 x3 x4 = s0 0 := by
    rw [e0]
    sl_unfold_words
    repeat first
      | rw [bias_hit]
      | (rw [bias_skip]; case hne => decide)
    dsimp only [View.readAt_eq_ld]
    rw [harg5.read_unread, harg6.read_unread, harg7.read_unread, ld_row5 x3, ld_row0 x4]
    rfl
  have h0_1 : sl.v1304 (F := Ideal) c arg5 harg5 arg6 harg6 arg7 harg7 arg16 x2 x3 x4 = s0 1 := by
    rw [e0]
    sl_unfold_words
    repeat first
      | rw [bias_hit]
      | (rw [bias_skip]; case hne => decide)
    dsimp only [View.readAt_eq_ld]
    rw [harg5.read_unread, harg6.read_unread, harg7.read_unread, ld_row5 x3, ld_row1 x4]
    rfl
  have h0_2 : sl.v1319 (F := Ideal) c arg5 harg5 arg6 harg6 arg7 harg7 arg16 x2 x3 x4 = s0 2 := by
    rw [e0]
    sl_unfold_words
    repeat first
      | rw [bias_hit]
      | (rw [bias_skip]; case hne => decide)
    dsimp only [View.readAt_eq_ld]
    rw [harg5.read_unread, harg6.read_unread, harg7.read_unread, ld_row5 x3, ld_row2 x4]
    rfl
  have h0_3 : sl.v1334 (F := Ideal) c arg5 harg5 arg6 harg6 arg7 harg7 arg16 x2 x3 x4 = s0 3 := by
    rw [e0]
    sl_unfold_words
    repeat first
      | rw [bias_hit]
      | (rw [bias_skip]; case hne => decide)
    dsimp only [View.readAt_eq_ld]
    rw [harg5.read_unread, harg6.read_unread, harg7.read_unread, ld_row5 x3, ld_row3 x4]
    rfl
  have h0_4 : sl.v1349 (F := Ideal) c arg5 harg5 arg6 harg6 arg7 harg7 arg16 x2 x3 x4 = s0 4 := by
    rw [e0]
    sl_unfold_words
    repeat first
      | rw [bias_hit]
      | (rw [bias_skip]; case hne => decide)
    dsimp only [View.readAt_eq_ld]
    rw [harg5.read_unread, harg6.read_unread, harg7.read_unread, ld_row5 x3, ld_row4 x4]
    rfl
  have h0_5 : sl.v1364 (F := Ideal) c arg5 harg5 arg6 harg6 arg7 harg7 arg16 x2 x3 x4 = s0 5 := by
    rw [e0]
    sl_unfold_words
    repeat first
      | rw [bias_hit]
      | (rw [bias_skip]; case hne => decide)
    dsimp only [View.readAt_eq_ld]
    rw [harg5.read_unread, harg6.read_unread, harg7.read_unread, ld_row5 x3, ld_row5 x4]
    rfl
  have h1_0 : sl.v1383 (F := Ideal) c arg5 harg5 arg6 harg6 arg7 harg7 arg16 x2 x3 x4 = s1 0 := by
    rw [e1]
    sl_unfold_words
    repeat first
      | rw [bias_hit]
      | (rw [bias_skip]; case hne => decide)
    dsimp only [View.readAt_eq_ld]
    rw [harg5.read_unread, harg6.read_unread, harg7.read_unread, ld_row5 x3, ld_row0 x4]
    rfl
  have h1_1 : sl.v1397 (F := Ideal) c arg5 harg5 arg6 harg6 arg7 harg7 arg16 x2 x3 x4 = s1 1 := by
    rw [e1]
    sl_unfold_words
    repeat first
      | rw [bias_hit]
      | (rw [bias_skip]; case hne => decide)
    dsimp only [View.readAt_eq_ld]
    rw [harg5.read_unread, harg6.read_unread, harg7.read_unread, ld_row5 x3, ld_row1 x4]
    rfl
  have h1_2 : sl.v1412 (F := Ideal) c arg5 harg5 arg6 harg6 arg7 harg7 arg16 x2 x3 x4 = s1 2 := by
    rw [e1]
    sl_unfold_words
    repeat first
      | rw [bias_hit]
      | (rw [bias_skip]; case hne => decide)
    dsimp only [View.readAt_eq_ld]
    rw [harg5.read_unread, harg6.read_unread, harg7.read_unread, ld_row5 x3, ld_row2 x4]
    rfl
  have h1_3 : sl.v1427 (F := Ideal) c arg5 harg5 arg6 harg6 arg7 harg7 arg16 x2 x3 x4 = s1 3 := by
    rw [e1]
    sl_unfold_words
    repeat first
      | rw [bias_hit]
      | (rw [bias_skip]; case hne => decide)
    dsimp only [View.readAt_eq_ld]
    rw [harg5.read_unread, harg6.read_unread, harg7.read_unread, ld_row5 x3, ld_row3 x4]
    rfl
  have h1_4 : sl.v1442 (F := Ideal) c arg5 harg5 arg6 harg6 arg7 harg7 arg16 x2 x3 x4 = s1 4 := by
    rw [e1]
    sl_unfold_words
    repeat first
      | rw [bias_hit]
      | (rw [bias_skip]; case hne => decide)
    dsimp only [View.readAt_eq_ld]
    rw [harg5.read_unread, harg6.read_unread, harg7.read_unread, ld_row5 x3, ld_row4 x4]
    rfl
  have h1_5 : sl.v1457 (F := Ideal) c arg5 harg5 arg6 harg6 arg7 harg7 arg16 x2 x3 x4 = s1 5 := by
    rw [e1]
    sl_unfold_words
    repeat first
      | rw [bias_hit]
      | (rw [bias_skip]; case hne => decide)
    dsimp only [View.readAt_eq_ld]
    rw [harg5.read_unread, harg6.read_unread, harg7.read_unread, ld_row5 x3, ld_row5 x4]
    rfl
  have hM0 : sl.v1377 (F := Ideal) c arg5 harg5 arg6 harg6 arg7 harg7 arg16 x2 x3 x4 = daM s0 5 := by
    delta
      sl.v1377 sl.v1376 sl.v1375 sl.v1374 sl.v1373 sl.v1371 sl.v1372 sl.v1370 sl.v1358 sl.v1356 sl.v1357 sl.v1355 sl.v1343 sl.v1341 sl.v1342 sl.v1340 sl.v1328
      sl.v1326 sl.v1327 sl.v1325 sl.v1313 sl.v1311 sl.v1312 sl.v1310 sl.v1298 sl.v1297 sl.v1296
    rw [h0_0, h0_1, h0_2, h0_3, h0_4, h0_5]
    rfl
  have hM1 : sl.v1470 (F := Ideal) c arg5 harg5 arg6 harg6 arg7 harg7 arg16 x2 x3 x4 = daM s1 5 := by
    delta
      sl.v1470 sl.v1469 sl.v1468 sl.v1467 sl.v1466 sl.v1464 sl.v1465 sl.v1463 sl.v1451 sl.v1449 sl.v1450 sl.v1448 sl.v1436 sl.v1434 sl.v1435 sl.v1433 sl.v1421
      sl.v1419 sl.v1420 sl.v1418 sl.v1406 sl.v1404 sl.v1405 sl.v1403 sl.v1391 sl.v1390 sl.v1389
    rw [h1_0, h1_1, h1_2, h1_3, h1_4, h1_5]
    rfl
  rw [daOut_of _ _ _ _ _ _ _ s0 s1 e0 e1]
  unfold daPV
  delta
    sl.v1709 sl.v1706 sl.v1705 sl.v159 sl.cst_82 sl.v1703 sl.v157 sl.v156 sl.v1699 sl.v1698 sl.v1697 sl.v1696 sl.v150 sl.cst_79 sl.v1694 sl.v148 sl.cst_78
    sl.v1692 sl.v1691 sl.v1690 sl.v1689 sl.v1688 sl.v1686 sl.v1685 sl.v1684 sl.v1683 sl.v1676 sl.v1674 sl.v1673 sl.v1670 sl.v1668 sl.v1675 sl.v1672 sl.v1671
    sl.v1669 sl.v1659 sl.v1657 sl.v1656 sl.v1653 sl.v1651 sl.v1658 sl.v1655 sl.v1654 sl.v1652 sl.v1642 sl.v1640 sl.v1639 sl.v1636 sl.v1634 sl.v1641 sl.v1638
    sl.v1637 sl.v1635 sl.v1625 sl.v1623 sl.v1622 sl.v1619 sl.v1617 sl.v1624 sl.v1621 sl.v1620 sl.v1618 sl.v1608 sl.v1606 sl.v1605 sl.v1602 sl.v1600 sl.v1607
    sl.v1604 sl.v1603 sl.v1601 sl.v1591 sl.v1589 sl.v1588 sl.v1585 sl.v1583 sl.v1590 sl.v1587 sl.v1586 sl.v1584 sl.v96 sl.cst_53 sl.v1682 sl.v1681 sl.cst_63
    sl.v1572 sl.v1678 sl.v1677 sl.v1665 sl.v1664 sl.v1152 sl.v1661 sl.v1660 sl.v1648 sl.v1647 sl.v796 sl.v1644 sl.v1643 sl.v1631 sl.v1630 sl.v504 sl.v1627
    sl.v1626 sl.v1614 sl.v1613 sl.v276 sl.v1610 sl.v1609 sl.v1597 sl.v1596 sl.v112 sl.v1593 sl.v1592 sl.v142 sl.v16 sl.v15 sl.cst_2 sl.v14 sl.v13 sl.v12
    sl.v11 sl.v10 sl.v9 sl.v1 sl.v8 sl.v7 sl.v6 sl.v5 sl.v4 sl.v3 sl.v2 sl.v1578 sl.v1577 sl.v1576 sl.v1575 sl.v1568 sl.v1566 sl.v1565 sl.v1562 sl.v1560
    sl.v1567 sl.v1564 sl.v1563 sl.v1561 sl.v1551 sl.v1549 sl.v1548 sl.v1545 sl.v1543 sl.v1550 sl.v1547 sl.v1546 sl.v1544 sl.v1534 sl.v1532 sl.v1531 sl.v1528
    sl.v1526 sl.v1533 sl.v1530 sl.v1529 sl.v1527 sl.v1517 sl.v1515 sl.v1514 sl.v1511 sl.v1509 sl.v1516 sl.v1513 sl.v1512 sl.v1510 sl.v1500 sl.v1498 sl.v1497
    sl.v1494 sl.v1492 sl.v1499 sl.v1496 sl.v1495 sl.v1493 sl.v1483 sl.v1481 sl.v1480 sl.v1477 sl.v1475 sl.v1482 sl.v1479 sl.v1478 sl.v1476 sl.v1574 sl.v1573
    sl.v1570 sl.v1569 sl.v1557 sl.v1556 sl.v1553 sl.v1552 sl.v1540 sl.v1539 sl.v1536 sl.v1535 sl.v1523 sl.v1522 sl.v1519 sl.v1518 sl.v1506 sl.v1505 sl.v1502
    sl.v1501 sl.v1489 sl.v1488 sl.v1485 sl.v1484
  delta sl.HS0_21 sl.HS0_18 sl.HS0_17 sl.HS0_16 sl.HS1_21 sl.HS1_18 sl.HS1_17 sl.HS1_16
  rw [hM0, hM1]
  generalize daM s0 5 = M0
  generalize daM s1 5 = M1
  repeat first
    | rw [slot_hit]
    | (rw [slot_skip]; case hne => decide)
  delta sl.v1369 sl.v1354 sl.v1339 sl.v1324 sl.v1309 sl.v1295 sl.v1462 sl.v1447 sl.v1432 sl.v1417 sl.v1402 sl.v1388
  rw [h0_0, h0_1, h0_2, h0_3, h0_4, h0_5, h1_0, h1_1, h1_2, h1_3, h1_4, h1_5]
  dsimp only [View.readAt_eq_ld]
  rw [harg3.read_unread, harg4.read_unread, harg8.read_unread, ld_row0 x5, ld_row1 x5, ld_row2 x5, ld_row3 x5, ld_row4 x5, ld_row5 x5]
  generalize rowTile x5 = v
  rfl

end Cert.KernelIdeal.Attn

end
-- ==== Proof.Attn.Tiles9c.lean ====
/- What the attention kernel's body leaves in its first output: per query tile, the normalised difference of the two attentions of that tile. -/
module

public import proofs.«01_k».proof.Proof.Attn.Tile9Defs

@[expose] public section

set_option maxRecDepth 16384

noncomputable section

namespace Cert.KernelIdeal.Attn

open Idealize.ShloMosaic Idealize.ShloMosaic.TcCoe Idealize.ShloMosaic.Tactic Idealize.SL.Sem
open Cert.KernelIdeal Cert.KernelIdeal.Gen Cert.KernelIdeal.Gen.kernelRun0_A

variable {sig' : RefSig} {κ' : Kind} {sp' : Space}

attribute [local irreducible] View.readCov in
set_option maxHeartbeats 0 in
/-- The rows of query tile 6. -/
theorem tile9_6 (c : Dev nD) (arg3 : Memref sig .tc .vmem S4x64 .f32) (harg3 : arg3.IsWhole) (arg4 : Memref sig .tc .vmem S1x128 .f32) (harg4 : arg4.IsWhole) (arg5 : Memref sig .tc .vmem S1x3x512 .f32) (harg5 : arg5.IsWhole) (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole) (arg14 : Memref sig .tc .vmem S2x256x2048 .f32) (arg15 : Memref sig .tc .vmem S2x256x2048 .f32) (arg16 : Memref sig .tc .vmem S3x256x256 .f32)
    (x0 : Vec Ideal S4x64 .f32) (x1 : Vec Ideal S1x128 .f32) (x2 : Vec Ideal S1x3x512 .f32) (x3 : Vec Ideal S1x2048x128 .bf16) (x4 : Vec Ideal S1x2048x128 .bf16) (x5 : Vec Ideal S1x2048x128 .bf16) :
    sl.v2210 (F := Ideal) c arg3 harg3 arg4 harg4 arg5 harg5 arg6 harg6 arg7 harg7 arg8 harg8 arg14 arg15 arg16 x0 x1 x2 x3 x4 x5
      = daOut (lamK x0) (rowTile x3 6) (rowTile x4) (rowTile x5) (fun j => biasTile x2 (6 - j)) (gK x1) 6 := by
  obtain ⟨s0, e0⟩ : ∃ s : ℕ → FVec Ideal S256x256 .f32, s = fun j => daS (daQ1 (rowTile x3 6)) (rowTile x4 j) (biasTile x2 (6 - j)) := ⟨_, rfl⟩
  obtain ⟨s1, e1⟩ : ∃ s : ℕ → FVec Ideal S256x256 .f32, s = fun j => daS (daQ2 (rowTile x3 6)) (rowTile x4 j) (biasTile x2 (6 - j)) := ⟨_, rfl⟩
  have h0_0 : sl.v1727 (F := Ideal) c arg5 harg5 arg6 harg6 arg7 harg7 arg16 x2 x3 x4 = s0 0 := by
    rw [e0]
    sl_unfold_words
    repeat first
      | rw [bias_hit]
      | (rw [bias_skip]; case hne => decide)
    dsimp only [View.readAt_eq_ld]
    rw [harg5.read_unread, harg6.read_unread, harg7.read_unread, ld_row6 x3, ld_row0 x4]
    rfl
  have h0_1 : sl.v1741 (F := Ideal) c arg5 harg5 arg6 harg6 arg7 harg7 arg16 x2 x3 x4 = s0 1 := by
    rw [e0]
    sl_unfold_words
    repeat first
      | rw [bias_hit]
      | (rw [bias_skip]; case hne => decide)
    dsimp only [View.readAt_eq_ld]
    rw [harg5.read_unread, harg6.read_unread, harg7.read_unread, ld_row6 x3, ld_row1 x4]
    rfl
  have h0_2 : sl.v1756 (F := Ideal) c arg5 harg5 arg6 harg6 arg7 harg7 arg16 x2 x3 x4 = s0 2 := by
    rw [e0]
    sl_unfold_words
    repeat first
      | rw [bias_hit]
      | (rw [bias_skip]; case hne => decide)
    dsimp only [View.readAt_eq_ld]
    rw [harg5.read_unread, harg6.read_unread, harg7.read_unread, ld_row6 x3, ld_row2 x4]
    rfl
  have h0_3 : sl.v1771 (F := Ideal) c arg5 harg5 arg6 harg6 arg7 harg7 arg16 x2 x3 x4 = s0 3 := by
    rw [e0]
    sl_unfold_words
    repeat first
      | rw [bias_hit]
      | (rw [bias_skip]; case hne => decide)
    dsimp only [View.readAt_eq_ld]
    rw [harg5.read_unread, harg6.read_unread, harg7.read_unread, ld_row6 x3, ld_row3 x4]
    rfl
  have h0_4 : sl.v1786 (F := Ideal) c arg5 harg5 arg6 harg6 arg7 harg7 arg16 x2 x3 x4 = s0 4 := by
    rw [e0]
    sl_unfold_words
    repeat first
      | rw [bias_hit]
      | (rw [bias_skip]; case hne => decide)
    dsimp only [View.readAt_eq_ld]
    rw [harg5.read_unread, harg6.read_unread, harg7.read_unread, ld_row6 x3, ld_row4 x4]
    rfl
  have h0_5 : sl.v1801 (F := Ideal) c arg5 harg5 arg6 harg6 arg7 harg7 arg16 x2 x3 x4 = s0 5 := by
    rw [e0]
    sl_unfold_words
    repeat first
      | rw [bias_hit]
      | (rw [bias_skip]; case hne => decide)
    dsimp only [View.readAt_eq_ld]
    rw [harg5.read_unread, harg6.read_unread, harg7.read_unread, ld_row6 x3, ld_row5 x4]
    rfl
  have h0_6 : sl.v1816 (F := Ideal) c arg5 harg5 arg6 harg6 arg7 harg7 arg16 x2 x3 x4 = s0 6 := by
    rw [e0]
    sl_unfold_words
    repeat first
      | rw [bias_hit]
      | (rw [bias_skip]; case hne => decide)
    dsimp only [View.readAt_eq_ld]
    rw [harg5.read_unread, harg6.read_unread, harg7.read_unread, ld_row6 x3, ld_row6 x4]
    rfl
  have h1_0 : sl.v1835 (F := Ideal) c arg5 harg5 arg6 harg6 arg7 harg7 arg16 x2 x3 x4 = s1 0 := by
    rw [e1]
    sl_unfold_words
    repeat first
      | rw [bias_hit]
      | (rw [bias_skip]; case hne => decide)
    dsimp only [View.readAt_eq_ld]
    rw [harg5.read_unread, harg6.read_unread, harg7.read_unread, ld_row6 x3, ld_row0 x4]
    rfl
  have h1_1 : sl.v1849 (F := Ideal) c arg5 harg5 arg6 harg6 arg7 harg7 arg16 x2 x3 x4 = s1 1 := by
    rw [e1]
    sl_unfold_words
    repeat first
      | rw [bias_hit]
      | (rw [bias_skip]; case hne => decide)
    dsimp only [View.readAt_eq_ld]
    rw [harg5.read_unread, harg6.read_unread, harg7.read_unread, ld_row6 x3, ld_row1 x4]
    rfl
  have h1_2 : sl.v1864 (F := Ideal) c arg5 harg5 arg6 harg6 arg7 harg7 arg16 x2 x3 x4 = s1 2 := by
    rw [e1]
    sl_unfold_words
    repeat first
      | rw [bias_hit]
      | (rw [bias_skip]; case hne => decide)
    dsimp only [View.readAt_eq_ld]
    rw [harg5.read_unread, harg6.read_unread, harg7.read_unread, ld_row6 x3, ld_row2 x4]
    rfl
  have h1_3 : sl.v1879 (F := Ideal) c arg5 harg5 arg6 harg6 arg7 harg7 arg16 x2 x3 x4 = s1 3 := by
    rw [e1]
    sl_unfold_words
    repeat first
      | rw [bias_hit]
      | (rw [bias_skip]; case hne => decide)
    dsimp only [View.readAt_eq_ld]
    rw [harg5.read_unread, harg6.read_unread, harg7.read_unread, ld_row6 x3, ld_row3 x4]
    rfl
  have h1_4 : sl.v1894 (F := Ideal) c arg5 harg5 arg6 harg6 arg7 harg7 arg16 x2 x3 x4 = s1 4 := by
    rw [e1]
    sl_unfold_words
    repeat first
      | rw [bias_hit]
      | (rw [bias_skip]; case hne => decide)
    dsimp only [View.readAt_eq_ld]
    rw [harg5.read_unread, harg6.read_unread, harg7.read_unread, ld_row6 x3, ld_row4 x4]
    rfl
  have h1_5 : sl.v1909 (F := Ideal) c arg5 harg5 arg6 harg6 arg7 harg7 arg16 x2 x3 x4 = s1 5 := by
    rw [e1]
    sl_unfold_words
    repeat first
      | rw [bias_hit]
      | (rw [bias_skip]; case hne => decide)
    dsimp only [View.readAt_eq_ld]
    rw [harg5.read_unread, harg6.read_unread, harg7.read_unread, ld_row6 x3, ld_row5 x4]
    rfl
  have h1_6 : sl.v1924 (F := Ideal) c arg5 harg5 arg6 harg6 arg7 harg7 arg16 x2 x3 x4 = s1 6 := by
    rw [e1]
    sl_unfold_words
    repeat first
      | rw [bias_hit]
      | (rw [bias_skip]; case hne => decide)
    dsimp only [View.readAt_eq_ld]
    rw [harg5.read_unread, harg6.read_unread, harg7.read_unread, ld_row6 x3, ld_row6 x4]
    rfl
  have hM0 : sl.v1829 (F := Ideal) c arg5 harg5 arg6 harg6 arg7 harg7 arg16 x2 x3 x4 = daM s0 6 := by
    delta
      sl.v1829 sl.v1828 sl.v1827 sl.v1826 sl.v1825 sl.v1823 sl.v1824 sl.v1822 sl.v1810 sl.v1808 sl.v1809 sl.v1807 sl.v1795 sl.v1793 sl.v1794 sl.v1792 sl.v1780
      sl.v1778 sl.v1779 sl.v1777 sl.v1765 sl.v1763 sl.v1764 sl.v1762 sl.v1750 sl.v1748 sl.v1749 sl.v1747 sl.v1735 sl.v1734 sl.v1733
    rw [h0_0, h0_1, h0_2, h0_3, h0_4, h0_5, h0_6]
    rfl
  have hM1 : sl.v1937 (F := Ideal) c arg5 harg5 arg6 harg6 arg7 harg7 arg16 x2 x3 x4 = daM s1 6 := by
    delta
      sl.v1937 sl.v1936 sl.v1935 sl.v1934 sl.v1933 sl.v1931 sl.v1932 sl.v1930 sl.v1918 sl.v1916 sl.v1917 sl.v1915 sl.v1903 sl.v1901 sl.v1902 sl.v1900 sl.v1888
      sl.v1886 sl.v1887 sl.v1885 sl.v1873 sl.v1871 sl.v1872 sl.v1870 sl.v1858 sl.v1856 sl.v1857 sl.v1855 sl.v1843 sl.v1842 sl.v1841
    rw [h1_0, h1_1, h1_2, h1_3, h1_4, h1_5, h1_6]
    rfl
  rw [daOut_of _ _ _ _ _ _ _ s0 s1 e0 e1]
  unfold daPV
  delta
    sl.v2210 sl.v2207 sl.v2206 sl.v159 sl.cst_82 sl.v2204 sl.v157 sl.v156 sl.v2200 sl.v2199 sl.v2198 sl.v2197 sl.v150 sl.cst_79 sl.v2195 sl.v148 sl.cst_78
    sl.v2193 sl.v2192 sl.v2191 sl.v2190 sl.v2189 sl.v2187 sl.v2186 sl.v2185 sl.v2184 sl.v2177 sl.v2175 sl.v2174 sl.v2171 sl.v2169 sl.v2176 sl.v2173 sl.v2172
    sl.v2170 sl.v2160 sl.v2158 sl.v2157 sl.v2154 sl.v2152 sl.v2159 sl.v2156 sl.v2155 sl.v2153 sl.v2143 sl.v2141 sl.v2140 sl.v2137 sl.v2135 sl.v2142 sl.v2139
    sl.v2138 sl.v2136 sl.v2126 sl.v2124 sl.v2123 sl.v2120 sl.v2118 sl.v2125 sl.v2122 sl.v2121 sl.v2119 sl.v2109 sl.v2107 sl.v2106 sl.v2103 sl.v2101 sl.v2108
    sl.v2105 sl.v2104 sl.v2102 sl.v2092 sl.v2090 sl.v2089 sl.v2086 sl.v2084 sl.v2091 sl.v2088 sl.v2087 sl.v2085 sl.v2075 sl.v2073 sl.v2072 sl.v2069 sl.v2067
    sl.v2074 sl.v2071 sl.v2070 sl.v2068 sl.v96 sl.cst_53 sl.v2183 sl.v2182 sl.cst_63 sl.v2056 sl.v2179 sl.v2178 sl.v2166 sl.v2165 sl.v1572 sl.v2162 sl.v2161
    sl.v2149 sl.v2148 sl.v1152 sl.v2145 sl.v2144 sl.v2132 sl.v2131 sl.v796 sl.v2128 sl.v2127 sl.v2115 sl.v2114 sl.v504 sl.v2111 sl.v2110 sl.v2098 sl.v2097
    sl.v276 sl.v2094 sl.v2093 sl.v2081 sl.v2080 sl.v112 sl.v2077 sl.v2076 sl.v142 sl.v16 sl.v15 sl.cst_2 sl.v14 sl.v13 sl.v12 sl.v11 sl.v10 sl.v9 sl.v1
    sl.v8 sl.v7 sl.v6 sl.v5 sl.v4 sl.v3 sl.v2 sl.v2062 sl.v2061 sl.v2060 sl.v2059 sl.v2052 sl.v2050 sl.v2049 sl.v2046 sl.v2044 sl.v2051 sl.v2048 sl.v2047
    sl.v2045 sl.v2035 sl.v2033 sl.v2032 sl.v2029 sl.v2027 sl.v2034 sl.v2031 sl.v2030 sl.v2028 sl.v2018 sl.v2016 sl.v2015 sl.v2012 sl.v2010 sl.v2017 sl.v2014
    sl.v2013 sl.v2011 sl.v2001 sl.v1999 sl.v1998 sl.v1995 sl.v1993 sl.v2000 sl.v1997 sl.v1996 sl.v1994 sl.v1984 sl.v1982 sl.v1981 sl.v1978 sl.v1976 sl.v1983
    sl.v1980 sl.v1979 sl.v1977 sl.v1967 sl.v1965 sl.v1964 sl.v1961 sl.v1959 sl.v1966 sl.v1963 sl.v1962 sl.v1960 sl.v1950 sl.v1948 sl.v1947 sl.v1944 sl.v1942
    sl.v1949 sl.v1946 sl.v1945 sl.v1943 sl.v2058 sl.v2057 sl.v2054 sl.v2053 sl.v2041 sl.v2040 sl.v2037 sl.v2036 sl.v2024 sl.v2023 sl.v2020 sl.v2019 sl.v2007
    sl.v2006 sl.v2003 sl.v2002 sl.v1990 sl.v1989 sl.v1986 sl.v1985 sl.v1973 sl.v1972 sl.v1969 sl.v1968 sl.v1956 sl.v1955 sl.v1952 sl.v1951
  delta sl.HS0_28 sl.HS0_25 sl.HS0_24 sl.HS0_23 sl.HS0_22 sl.HS1_28 sl.HS1_25 sl.HS1_24 sl.HS1_23 sl.HS1_22
  rw [hM0, hM1]
  generalize daM s0 6 = M0
  generalize daM s1 6 = M1
  repeat first
    | rw [slot_hit]
    | (rw [slot_skip]; case hne => decide)
  delta sl.v1821 sl.v1806 sl.v1791 sl.v1776 sl.v1761 sl.v1746 sl.v1732 sl.v1929 sl.v1914 sl.v1899 sl.v1884 sl.v1869 sl.v1854 sl.v1840
  rw [h0_0, h0_1, h0_2, h0_3, h0_4, h0_5, h0_6, h1_0, h1_1, h1_2, h1_3, h1_4, h1_5, h1_6]
  dsimp only [View.readAt_eq_ld]
  rw [harg3.read_unread, harg4.read_unread, harg8.read_unread, ld_row0 x5, ld_row1 x5, ld_row2 x5, ld_row3 x5, ld_row4 x5, ld_row5 x5, ld_row6 x5]
  generalize rowTile x5 = v
  rfl

end Cert.KernelIdeal.Attn

end
-- ==== Proof.Attn.Tiles9d.lean ====
/- What the attention kernel's body leaves in its first output: per query tile, the normalised difference of the two attentions of that tile. -/
module

public import proofs.«01_k».proof.Proof.Attn.Tile9Defs

@[expose] public section

set_option maxRecDepth 16384

noncomputable section

namespace Cert.KernelIdeal.Attn

open Idealize.ShloMosaic Idealize.ShloMosaic.TcCoe Idealize.ShloMosaic.Tactic Idealize.SL.Sem
open Cert.KernelIdeal Cert.KernelIdeal.Gen Cert.KernelIdeal.Gen.kernelRun0_A

variable {sig' : RefSig} {κ' : Kind} {sp' : Space}

attribute [local irreducible] View.readCov in
set_option maxHeartbeats 0 in
/-- The rows of query tile 7. -/
theorem tile9_7 (c : Dev nD) (arg3 : Memref sig .tc .vmem S4x64 .f32) (harg3 : arg3.IsWhole) (arg4 : Memref sig .tc .vmem S1x128 .f32) (harg4 : arg4.IsWhole) (arg5 : Memref sig .tc .vmem S1x3x512 .f32) (harg5 : arg5.IsWhole) (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole) (arg14 : Memref sig .tc .vmem S2x256x2048 .f32) (arg15 : Memref sig .tc .vmem S2x256x2048 .f32) (arg16 : Memref sig .tc .vmem S3x256x256 .f32)
    (x0 : Vec Ideal S4x64 .f32) (x1 : Vec Ideal S1x128 .f32) (x2 : Vec Ideal S1x3x512 .f32) (x3 : Vec Ideal S1x2048x128 .bf16) (x4 : Vec Ideal S1x2048x128 .bf16) (x5 : Vec Ideal S1x2048x128 .bf16) :
    sl.v2775 (F := Ideal) c arg3 harg3 arg4 harg4 arg5 harg5 arg6 harg6 arg7 harg7 arg8 harg8 arg14 arg15 arg16 x0 x1 x2 x3 x4 x5
      = daOut (lamK x0) (rowTile x3 7) (rowTile x4) (rowTile x5) (fun j => biasTile x2 (7 - j)) (gK x1) 7 := by
  obtain ⟨s0, e0⟩ : ∃ s : ℕ → FVec Ideal S256x256 .f32, s = fun j => daS (daQ1 (rowTile x3 7)) (rowTile x4 j) (biasTile x2 (7 - j)) := ⟨_, rfl⟩
  obtain ⟨s1, e1⟩ : ∃ s : ℕ → FVec Ideal S256x256 .f32, s = fun j => daS (daQ2 (rowTile x3 7)) (rowTile x4 j) (biasTile x2 (7 - j)) := ⟨_, rfl⟩
  have h0_0 : sl.v2228 (F := Ideal) c arg5 harg5 arg6 harg6 arg7 harg7 arg16 x2 x3 x4 = s0 0 := by
    rw [e0]
    sl_unfold_words
    repeat first
      | rw [bias_hit]
      | (rw [bias_skip]; case hne => decide)
    dsimp only [View.readAt_eq_ld]
    rw [harg5.read_unread, harg6.read_unread, harg7.read_unread, ld_row7 x3, ld_row0 x4]
    rfl
  have h0_1 : sl.v2242 (F := Ideal) c arg5 harg5 arg6 harg6 arg7 harg7 arg16 x2 x3 x4 = s0 1 := by
    rw [e0]
    sl_unfold_words
    repeat first
      | rw [bias_hit]
      | (rw [bias_skip]; case hne => decide)
    dsimp only [View.readAt_eq_ld]
    rw [harg5.read_unread, harg6.read_unread, harg7.read_unread, ld_row7 x3, ld_row1 x4]
    rfl
  have h0_2 : sl.v2257 (F := Ideal) c arg5 harg5 arg6 harg6 arg7 harg7 arg16 x2 x3 x4 = s0 2 := by
    rw [e0]
    sl_unfold_words
    repeat first
      | rw [bias_hit]
      | (rw [bias_skip]; case hne => decide)
    dsimp only [View.readAt_eq_ld]
    rw [harg5.read_unread, harg6.read_unread, harg7.read_unread, ld_row7 x3, ld_row2 x4]
    rfl
  have h0_3 : sl.v2272 (F := Ideal) c arg5 harg5 arg6 harg6 arg7 harg7 arg16 x2 x3 x4 = s0 3 := by
    rw [e0]
    sl_unfold_words
    repeat first
      | rw [bias_hit]
      | (rw [bias_skip]; case hne => decide)
    dsimp only [View.readAt_eq_ld]
    rw [harg5.read_unread, harg6.read_unread, harg7.read_unread, ld_row7 x3, ld_row3 x4]
    rfl
  have h0_4 : sl.v2287 (F := Ideal) c arg5 harg5 arg6 harg6 arg7 harg7 arg16 x2 x3 x4 = s0 4 := by
    rw [e0]
    sl_unfold_words
    repeat first
      | rw [bias_hit]
      | (rw [bias_skip]; case hne => decide)
    dsimp only [View.readAt_eq_ld]
    rw [harg5.read_unread, harg6.read_unread, harg7.read_unread, ld_row7 x3, ld_row4 x4]
    rfl
  have h0_5 : sl.v2302 (F := Ideal) c arg5 harg5 arg6 harg6 arg7 harg7 arg16 x2 x3 x4 = s0 5 := by
    rw [e0]
    sl_unfold_words
    repeat first
      | rw [bias_hit]
      | (rw [bias_skip]; case hne => decide)
    dsimp only [View.readAt_eq_ld]
    rw [harg5.read_unread, harg6.read_unread, harg7.read_unread, ld_row7 x3, ld_row5 x4]
    rfl
  have h0_6 : sl.v2317 (F := Ideal) c arg5 harg5 arg6 harg6 arg7 harg7 arg16 x2 x3 x4 = s0 6 := by
    rw [e0]
    sl_unfold_words
    repeat first
      | rw [bias_hit]
      | (rw [bias_skip]; case hne => decide)
    dsimp only [View.readAt_eq_ld]
    rw [harg5.read_unread, harg6.read_unread, harg7.read_unread, ld_row7 x3, ld_row6 x4]
    rfl
  have h0_7 : sl.v2332 (F := Ideal) c arg5 harg5 arg6 harg6 arg7 harg7 arg16 x2 x3 x4 = s0 7 := by
    rw [e0]
    sl_unfold_words
    repeat first
      | rw [bias_hit]
      | (rw [bias_skip]; case hne => decide)
    dsimp only [View.readAt_eq_ld]
    rw [harg5.read_unread, harg6.read_unread, harg7.read_unread, ld_row7 x3, ld_row7 x4]
    rfl
  have h1_0 : sl.v2351 (F := Ideal) c arg5 harg5 arg6 harg6 arg7 harg7 arg16 x2 x3 x4 = s1 0 := by
    rw [e1]
    sl_unfold_words
    repeat first
      | rw [bias_hit]
      | (rw [bias_skip]; case hne => decide)
    dsimp only [View.readAt_eq_ld]
    rw [harg5.read_unread, harg6.read_unread, harg7.read_unread, ld_row7 x3, ld_row0 x4]
    rfl
  have h1_1 : sl.v2365 (F := Ideal) c arg5 harg5 arg6 harg6 arg7 harg7 arg16 x2 x3 x4 = s1 1 := by
    rw [e1]
    sl_unfold_words
    repeat first
      | rw [bias_hit]
      | (rw [bias_skip]; case hne => decide)
    dsimp only [View.readAt_eq_ld]
    rw [harg5.read_unread, harg6.read_unread, harg7.read_unread, ld_row7 x3, ld_row1 x4]
    rfl
  have h1_2 : sl.v2380 (F := Ideal) c arg5 harg5 arg6 harg6 arg7 harg7 arg16 x2 x3 x4 = s1 2 := by
    rw [e1]
    sl_unfold_words
    repeat first
      | rw [bias_hit]
      | (rw [bias_skip]; case hne => decide)
    dsimp only [View.readAt_eq_ld]
    rw [harg5.read_unread, harg6.read_unread, harg7.read_unread, ld_row7 x3, ld_row2 x4]
    rfl
  have h1_3 : sl.v2395 (F := Ideal) c arg5 harg5 arg6 harg6 arg7 harg7 arg16 x2 x3 x4 = s1 3 := by
    rw [e1]
    sl_unfold_words
    repeat first
      | rw [bias_hit]
      | (rw [bias_skip]; case hne => decide)
    dsimp only [View.readAt_eq_ld]
    rw [harg5.read_unread, harg6.read_unread, harg7.read_unread, ld_row7 x3, ld_row3 x4]
    rfl
  have h1_4 : sl.v2410 (F := Ideal) c arg5 harg5 arg6 harg6 arg7 harg7 arg16 x2 x3 x4 = s1 4 := by
    rw [e1]
    sl_unfold_words
    repeat first
      | rw [bias_hit]
      | (rw [bias_skip]; case hne => decide)
    dsimp only [View.readAt_eq_ld]
    rw [harg5.read_unread, harg6.read_unread, harg7.read_unread, ld_row7 x3, ld_row4 x4]
    rfl
  have h1_5 : sl.v2425 (F := Ideal) c arg5 harg5 arg6 harg6 arg7 harg7 arg16 x2 x3 x4 = s1 5 := by
    rw [e1]
    sl_unfold_words
    repeat first
      | rw [bias_hit]
      | (rw [bias_skip]; case hne => decide)
    dsimp only [View.readAt_eq_ld]
    rw [harg5.read_unread, harg6.read_unread, harg7.read_unread, ld_row7 x3, ld_row5 x4]
    rfl
  have h1_6 : sl.v2440 (F := Ideal) c arg5 harg5 arg6 harg6 arg7 harg7 arg16 x2 x3 x4 = s1 6 := by
    rw [e1]
    sl_unfold_words
    repeat first
      | rw [bias_hit]
      | (rw [bias_skip]; case hne => decide)
    dsimp only [View.readAt_eq_ld]
    rw [harg5.read_unread, harg6.read_unread, harg7.read_unread, ld_row7 x3, ld_row6 x4]
    rfl
  have h1_7 : sl.v2455 (F := Ideal) c arg5 harg5 arg6 harg6 arg7 harg7 arg16 x2 x3 x4 = s1 7 := by
    rw [e1]
    sl_unfold_words
    repeat first
      | rw [bias_hit]
      | (rw [bias_skip]; case hne => decide)
    dsimp only [View.readAt_eq_ld]
    rw [harg5.read_unread, harg6.read_unread, harg7.read_unread, ld_row7 x3, ld_row7 x4]
    rfl
  have hM0 : sl.v2345 (F := Ideal) c arg5 harg5 arg6 harg6 arg7 harg7 arg16 x2 x3 x4 = daM s0 7 := by
    delta
      sl.v2345 sl.v2344 sl.v2343 sl.v2342 sl.v2341 sl.v2339 sl.v2340 sl.v2338 sl.v2326 sl.v2324 sl.v2325 sl.v2323 sl.v2311 sl.v2309 sl.v2310 sl.v2308 sl.v2296
      sl.v2294 sl.v2295 sl.v2293 sl.v2281 sl.v2279 sl.v2280 sl.v2278 sl.v2266 sl.v2264 sl.v2265 sl.v2263 sl.v2251 sl.v2249 sl.v2250 sl.v2248 sl.v2236 sl.v2235
      sl.v2234
    rw [h0_0, h0_1, h0_2, h0_3, h0_4, h0_5, h0_6, h0_7]
    rfl
  have hM1 : sl.v2468 (F := Ideal) c arg5 harg5 arg6 harg6 arg7 harg7 arg16 x2 x3 x4 = daM s1 7 := by
    delta
      sl.v2468 sl.v2467 sl.v2466 sl.v2465 sl.v2464 sl.v2462 sl.v2463 sl.v2461 sl.v2449 sl.v2447 sl.v2448 sl.v2446 sl.v2434 sl.v2432 sl.v2433 sl.v2431 sl.v2419
      sl.v2417 sl.v2418 sl.v2416 sl.v2404 sl.v2402 sl.v2403 sl.v2401 sl.v2389 sl.v2387 sl.v2388 sl.v2386 sl.v2374 sl.v2372 sl.v2373 sl.v2371 sl.v2359 sl.v2358
      sl.v2357
    rw [h1_0, h1_1, h1_2, h1_3, h1_4, h1_5, h1_6, h1_7]
    rfl
  rw [daOut_of _ _ _ _ _ _ _ s0 s1 e0 e1]
  unfold daPV
  delta
    sl.v2775 sl.v2772 sl.v2771 sl.v159 sl.cst_82 sl.v2769 sl.v157 sl.v156 sl.v2765 sl.v2764 sl.v2763 sl.v2762 sl.v150 sl.cst_79 sl.v2760 sl.v148 sl.cst_78
    sl.v2758 sl.v2757 sl.v2756 sl.v2755 sl.v2754 sl.v2752 sl.v2751 sl.v2750 sl.v2749 sl.v2742 sl.v2740 sl.v2739 sl.v2736 sl.v2734 sl.v2741 sl.v2738 sl.v2737
    sl.v2735 sl.v2725 sl.v2723 sl.v2722 sl.v2719 sl.v2717 sl.v2724 sl.v2721 sl.v2720 sl.v2718 sl.v2708 sl.v2706 sl.v2705 sl.v2702 sl.v2700 sl.v2707 sl.v2704
    sl.v2703 sl.v2701 sl.v2691 sl.v2689 sl.v2688 sl.v2685 sl.v2683 sl.v2690 sl.v2687 sl.v2686 sl.v2684 sl.v2674 sl.v2672 sl.v2671 sl.v2668 sl.r_5 sl.v2666
    sl.v2673 sl.v2670 sl.v2669 sl.v2667 sl.v2657 sl.v2655 sl.v2654 sl.v2651 sl.v2649 sl.v2656 sl.v2653 sl.v2652 sl.v2650 sl.v2640 sl.v2638 sl.v2637 sl.v2634
    sl.v2632 sl.v2639 sl.v2636 sl.v2635 sl.v2633 sl.v2623 sl.v2621 sl.v2620 sl.v2617 sl.v2615 sl.v2622 sl.v2619 sl.v2618 sl.v2616 sl.v96 sl.cst_53 sl.v2748
    sl.v2747 sl.cst_63 sl.v2604 sl.v2744 sl.v2743 sl.v2731 sl.v2730 sl.v2056 sl.v2727 sl.v2726 sl.v2714 sl.v2713 sl.v1572 sl.v2710 sl.v2709 sl.v2697 sl.v2696
    sl.v1152 sl.v2693 sl.v2692 sl.v2680 sl.v2679 sl.v796 sl.v2676 sl.v2675 sl.v2663 sl.v2662 sl.v504 sl.v2659 sl.v2658 sl.v2646 sl.v2645 sl.v276 sl.v2642
    sl.v2641 sl.v2629 sl.v2628 sl.v112 sl.v2625 sl.v2624 sl.v142 sl.v16 sl.v15 sl.cst_2 sl.v14 sl.v13 sl.v12 sl.v11 sl.v10 sl.v9 sl.v1 sl.v8 sl.v7 sl.v6
    sl.v5 sl.v4 sl.v3 sl.v2 sl.v2610 sl.v2609 sl.v2608 sl.v2607 sl.v2600 sl.v2598 sl.v2597 sl.v2594 sl.v2592 sl.v2599 sl.v2596 sl.v2595 sl.v2593 sl.v2583
    sl.v2581 sl.v2580 sl.v2577 sl.v2575 sl.v2582 sl.v2579 sl.v2578 sl.v2576 sl.v2566 sl.v2564 sl.v2563 sl.v2560 sl.v2558 sl.v2565 sl.v2562 sl.v2561 sl.v2559
    sl.v2549 sl.v2547 sl.v2546 sl.v2543 sl.v2541 sl.v2548 sl.v2545 sl.v2544 sl.v2542 sl.v2532 sl.v2530 sl.v2529 sl.v2526 sl.v2524 sl.v2531 sl.v2528 sl.v2527
    sl.v2525 sl.v2515 sl.v2513 sl.v2512 sl.v2509 sl.v2507 sl.v2514 sl.v2511 sl.v2510 sl.v2508 sl.v2498 sl.v2496 sl.v2495 sl.v2492 sl.v2490 sl.v2497 sl.v2494
    sl.v2493 sl.v2491 sl.v2481 sl.v2479 sl.v2478 sl.v2475 sl.v2473 sl.v2480 sl.v2477 sl.v2476 sl.v2474 sl.v2606 sl.v2605 sl.v2602 sl.v2601 sl.v2589 sl.v2588
    sl.v2585 sl.v2584 sl.v2572 sl.v2571 sl.v2568 sl.v2567 sl.v2555 sl.v2554 sl.v2551 sl.v2550 sl.v2538 sl.v2537 sl.v2534 sl.v2533 sl.v2521 sl.v2520 sl.v2517
    sl.v2516 sl.v2504 sl.v2503 sl.v2500 sl.v2499 sl.v2487 sl.v2486 sl.v2483 sl.v2482
  delta sl.HS0_36 sl.HS0_33 sl.HS0_32 sl.HS0_31 sl.HS0_30 sl.HS0_29 sl.HS1_36 sl.HS1_33 sl.HS1_32 sl.HS1_31 sl.HS1_30 sl.HS1_29
  rw [hM0, hM1]
  generalize daM s0 7 = M0
  generalize daM s1 7 = M1
  repeat first
    | rw [slot_hit]
    | (rw [slot_skip]; case hne => decide)
  delta sl.v2337 sl.v2322 sl.v2307 sl.v2292 sl.v2277 sl.v2262 sl.v2247 sl.v2233 sl.v2460 sl.v2445 sl.v2430 sl.v2415 sl.v2400 sl.v2385 sl.v2370 sl.v2356
  rw [h0_0, h0_1, h0_2, h0_3, h0_4, h0_5, h0_6, h0_7, h1_0, h1_1, h1_2, h1_3, h1_4, h1_5, h1_6, h1_7]
  dsimp only [View.readAt_eq_ld]
  rw [harg3.read_unread, harg4.read_unread, harg8.read_unread, ld_row0 x5, ld_row1 x5, ld_row2 x5, ld_row3 x5, ld_row4 x5, ld_row5 x5, ld_row6 x5, ld_row7 x5]
  generalize rowTile x5 = v
  rfl

end Cert.KernelIdeal.Attn

end
-- ==== Proof.Attn.Run9.lean ====
/- What the attention kernel's body leaves in its first output: per query tile, the normalised difference of the two attentions of that tile. -/
module

public import proofs.«01_k».proof.Proof.Attn.Tiles9a
public import proofs.«01_k».proof.Proof.Attn.Tiles9b
public import proofs.«01_k».proof.Proof.Attn.Tiles9c
public import proofs.«01_k».proof.Proof.Attn.Tiles9d

@[expose] public section

set_option maxRecDepth 16384

noncomputable section

namespace Cert.KernelIdeal.Attn

open Idealize.ShloMosaic Idealize.ShloMosaic.TcCoe Idealize.ShloMosaic.Tactic Idealize.SL.Sem
open Cert.KernelIdeal Cert.KernelIdeal.Gen Cert.KernelIdeal.Gen.kernelRun0_A

variable {sig' : RefSig} {κ' : Kind} {sp' : Space}

/-- The body's stores into its first output are that output's tiles. -/
theorem pieces9 (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S1x3x512 .f32) (harg5 : arg5.IsWhole) (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S1x2048x128 .bf16) (harg9 : arg9.IsWhole) (arg10 : Memref sig .tc .vmem S1x2048x128 .bf16) (harg10 : arg10.IsWhole) (arg11 : Memref sig .tc .vmem S1x2048x128 .bf16) (harg11 : arg11.IsWhole) (arg12 : Memref sig .tc .vmem S1x2048x128 .bf16) (harg12 : arg12.IsWhole) (arg13 : Memref sig .tc .vmem S1x2048x128 .bf16) (harg13 : arg13.IsWhole) (arg14 : Memref sig .tc .vmem S2x256x2048 .f32) (harg14 : arg14.IsWhole) (arg15 : Memref sig .tc .vmem S2x256x2048 .f32) (harg15 : arg15.IsWhole) (arg16 : Memref sig .tc .vmem S3x256x256 .f32) (harg16 : arg16.IsWhole) (arg17 : Memref sig .tc .vmem S2x256x2048 .f32) (harg17 : arg17.IsWhole)
    (x0 : Vec Ideal S4x64 .f32) (x1 : Vec Ideal S1x128 .f32) (x2 : Vec Ideal S1x3x512 .f32) (x3 : Vec Ideal S1x2048x128 .bf16) (x4 : Vec Ideal S1x2048x128 .bf16) (x5 : Vec Ideal S1x2048x128 .bf16) (x6 : Vec Ideal S1x2048x128 .bf16) (x7 : Vec Ideal S1x2048x128 .bf16) (x8 : Vec Ideal S1x2048x128 .bf16) :
    View.PiecesOf (ofTiles fun n => daOut (lamK x0) (rowTile x3 n) (rowTile x4) (rowTile x5) (fun j => biasTile x2 (n - j)) (gK x1) n)
      (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8).1 := by
  unfold kernelRun0_A
  dsimp only
  refine ⟨fun x => ?_, fun x => ?_, fun x => ?_, fun x => ?_, fun x => ?_, fun x => ?_, fun x => ?_, fun x => ?_, trivial⟩
  · refine Eq.trans ?_ (ofTiles_emb _ 7 (by norm_num) (rows_inb _ (by norm_num)) x).symm
    exact congrFun (tile9_7 c arg3 harg3 arg4 harg4 arg5 harg5 arg6 harg6 arg7 harg7 arg8 harg8 arg14 arg15 arg16 x0 x1 x2 x3 x4 x5) x
  · refine Eq.trans ?_ (ofTiles_emb _ 6 (by norm_num) (rows_inb _ (by norm_num)) x).symm
    exact congrFun (tile9_6 c arg3 harg3 arg4 harg4 arg5 harg5 arg6 harg6 arg7 harg7 arg8 harg8 arg14 arg15 arg16 x0 x1 x2 x3 x4 x5) x
  · refine Eq.trans ?_ (ofTiles_emb _ 5 (by norm_num) (rows_inb _ (by norm_num)) x).symm
    exact congrFun (tile9_5 c arg3 harg3 arg4 harg4 arg5 harg5 arg6 harg6 arg7 harg7 arg8 harg8 arg14 arg15 arg16 x0 x1 x2 x3 x4 x5) x
  · refine Eq.trans ?_ (ofTiles_emb _ 4 (by norm_num) (rows_inb _ (by norm_num)) x).symm
    exact congrFun (tile9_4 c arg3 harg3 arg4 harg4 arg5 harg5 arg6 harg6 arg7 harg7 arg8 harg8 arg14 arg15 arg16 x0 x1 x2 x3 x4 x5) x
  · refine Eq.trans ?_ (ofTiles_emb _ 3 (by norm_num) (rows_inb _ (by norm_num)) x).symm
    exact congrFun (tile9_3 c arg3 harg3 arg4 harg4 arg5 harg5 arg6 harg6 arg7 harg7 arg8 harg8 arg14 arg15 arg16 x0 x1 x2 x3 x4 x5) x
  · refine Eq.trans ?_ (ofTiles_emb _ 2 (by norm_num) (rows_inb _ (by norm_num)) x).symm
    exact congrFun (tile9_2 c arg3 harg3 arg4 harg4 arg5 harg5 arg6 harg6 arg7 harg7 arg8 harg8 arg14 arg15 arg16 x0 x1 x2 x3 x4 x5) x
  · refine Eq.trans ?_ (ofTiles_emb _ 1 (by norm_num) (rows_inb _ (by norm_num)) x).symm
    exact congrFun (tile9_1 c arg3 harg3 arg4 harg4 arg5 harg5 arg6 harg6 arg7 harg7 arg8 harg8 arg14 arg15 arg16 x0 x1 x2 x3 x4 x5) x
  · refine Eq.trans ?_ (ofTiles_emb _ 0 (by norm_num) (rows_inb _ (by norm_num)) x).symm
    exact congrFun (tile9_0 c arg3 harg3 arg4 harg4 arg5 harg5 arg6 harg6 arg7 harg7 arg8 harg8 arg14 arg15 arg16 x0 x1 x2 x3 x4 x5) x

end Cert.KernelIdeal.Attn

end
-- ==== Proof.Attn.Out10.lean ====
/- The pipeline's second result array: the stick-breaking attention of every batch, head and query row. -/
module

public import proofs.«01_k».proof.Proof.Attn.Run10
public import proofs.«01_k».proof.Proof.Gen.KernelIdeal.Value
public import Idealize.ShloMosaic.Lib.Pipeline.ValueKit

@[expose] public section

set_option maxRecDepth 16384

noncomputable section

namespace Cert.KernelIdeal.Attn

open Idealize.ShloMosaic Idealize.ShloMosaic.TcCoe Idealize.ShloMosaic.Tactic Idealize.SL.Sem
open Cert.KernelIdeal Cert.KernelIdeal.Gen

theorem out10_eq (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S1x3x512 .f32) (harg5 : arg5.IsWhole) (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S1x2048x128 .bf16) (harg9 : arg9.IsWhole) (arg10 : Memref sig .tc .vmem S1x2048x128 .bf16) (harg10 : arg10.IsWhole) (arg11 : Memref sig .tc .vmem S1x2048x128 .bf16) (harg11 : arg11.IsWhole) (arg12 : Memref sig .tc .vmem S1x2048x128 .bf16) (harg12 : arg12.IsWhole) (arg13 : Memref sig .tc .vmem S1x2048x128 .bf16) (harg13 : arg13.IsWhole) (arg14 : Memref sig .tc .vmem S2x256x2048 .f32) (harg14 : arg14.IsWhole) (arg15 : Memref sig .tc .vmem S2x256x2048 .f32) (harg15 : arg15.IsWhole) (arg16 : Memref sig .tc .vmem S3x256x256 .f32) (harg16 : arg16.IsWhole) (arg17 : Memref sig .tc .vmem S2x256x2048 .f32) (harg17 : arg17.IsWhole)
    (x0 : Vec Ideal S4x64 .f32) (x1 : Vec Ideal S1x128 .f32) (x2 : Vec Ideal S1x3x512 .f32) (x3 : Vec Ideal S1x2048x128 .bf16) (x4 : Vec Ideal S1x2048x128 .bf16) (x5 : Vec Ideal S1x2048x128 .bf16) (x6 : Vec Ideal S1x2048x128 .bf16) (x7 : Vec Ideal S1x2048x128 .bf16) (x8 : Vec Ideal S1x2048x128 .bf16) :
    out0_A_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 = ofTiles (fun n => sbOut (rowTile x6 n) (rowTile x7) (rowTile x8) n) := by
  unfold out0_A_10
  rw [View.read_writes_eq_canon _ _ _ (cover0_A_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8)]
  funext y
  exact View.canon_apply_of_pieces _ _ (View.PiecesOf.mem (pieces10 c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8)) y (cover0_A_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 y)

/-- The 128 columns of head-column block `c` of batch `b`, as the pipeline stages them. -/
def colBlk (X : Vec Ideal S4x2048x6144 .bf16) (b : Fin 4) (c : Fin 48) : Vec Ideal S1x2048x128 .bf16 :=
  fun x => X (ValueIdx.ix3 b (⟨(x 1 : ℕ), (x 1).isLt⟩ : Fin 2048) (⟨(c : ℕ) * 128 + (x 2 : ℕ), by have h2 : (x 2 : ℕ) < 128 := (x 2).isLt; have := c.isLt; omega⟩ : Fin 6144))

theorem idx : ∀ t : Fin cfg0.N,
    win0_3.index t = ![t.val / 8, 0, t.val % 8] ∧ win0_4.index t = ![t.val / 8, 0, 8 + t.val % 8] ∧ win0_5.index t = ![t.val / 8, 0, 16 + t.val % 8]
    ∧ win0_6.index t = ![t.val / 8, 0, 24 + t.val % 8] ∧ win0_7.index t = ![t.val / 8, 0, 32 + t.val % 8] ∧ win0_8.index t = ![t.val / 8, 0, 40 + t.val % 8]
    ∧ win0_9.index t = ![t.val / 8, 0, t.val % 8] ∧ win0_10.index t = ![t.val / 8, 0, t.val % 8]
    ∧ win0_0.index t = ![0, 0] ∧ win0_1.index t = ![0, 0] ∧ win0_2.index t = ![t.val % 8, 0, 0] :=
  (by decide +kernel : ∀ t : Fin grid0.N, _)

theorem lt32 (t : Fin cfg0.N) : (t : ℕ) < 32 := t.isLt

/-- The head of a column of the merged result. -/
def hd (y : S4x2048x1024.Idx) (o : ℕ) (h : o ≤ 40) : Fin 48 := ⟨o + (y 2 : ℕ) / 128, by have h2 : (y 2 : ℕ) < 1024 := (y 2).isLt; omega⟩

theorem iblk6 (m : (ℓ : Loc nD τ sig) → Buf (Elt Ideal) ℓ) (c : Dev nD) (t : Fin cfg0.N) :
    iblk m c 6 t = colBlk (m ((c : Thread nD τ).loc main_arg0)) ⟨t.val / 8, by have := lt32 t; omega⟩ ⟨24 + t.val % 8, by omega⟩ := by
  funext x
  unfold colBlk
  blk_ext [iblk, V, idx t]

theorem iblk7 (m : (ℓ : Loc nD τ sig) → Buf (Elt Ideal) ℓ) (c : Dev nD) (t : Fin cfg0.N) :
    iblk m c 7 t = colBlk (m ((c : Thread nD τ).loc main_arg0)) ⟨t.val / 8, by have := lt32 t; omega⟩ ⟨32 + t.val % 8, by omega⟩ := by
  funext x
  unfold colBlk
  blk_ext [iblk, V, idx t]

theorem iblk8 (m : (ℓ : Loc nD τ sig) → Buf (Elt Ideal) ℓ) (c : Dev nD) (t : Fin cfg0.N) :
    iblk m c 8 t = colBlk (m ((c : Thread nD τ).loc main_arg0)) ⟨t.val / 8, by have := lt32 t; omega⟩ ⟨40 + t.val % 8, by omega⟩ := by
  funext x
  unfold colBlk
  blk_ext [iblk, V, idx t]

/-- The second result as one function of the queries, keys and values. -/
def obArr (X : Vec Ideal S4x2048x6144 .bf16) : Vec Ideal S4x2048x1024 .bf16 := fun y =>
  ofTiles (fun n => sbOut (rowTile (colBlk X (y 0) (hd y 24 (by norm_num))) n) (rowTile (colBlk X (y 0) (hd y 32 (by norm_num)))) (rowTile (colBlk X (y 0) (hd y 40 (by norm_num)))) n)
    (ValueIdx.ix3 (0 : Fin 1) (⟨(y 1 : ℕ), (y 1).isLt⟩ : Fin 2048) (⟨(y 2 : ℕ) % 128, Nat.mod_lt _ (by norm_num)⟩ : Fin 128))

/-- The coordinates of an array index inside the block of head `h` of batch `b`. -/
structure At (z : S4x2048x1024.Idx) (b : Fin 4) (h : ℕ) (y : S1x2048x128.Idx) : Prop where
  batch : (z 0 : ℕ) = b
  row : (z 1 : ℕ) = y 1
  col : (z 2 : ℕ) = h * 128 + y 2

theorem At.b {z : S4x2048x1024.Idx} {b : Fin 4} {h : ℕ} {y : S1x2048x128.Idx} (e : At z b h y) : z 0 = b := Fin.ext e.batch

theorem At.hd {z : S4x2048x1024.Idx} {b : Fin 4} {h : ℕ} {y : S1x2048x128.Idx} (e : At z b h y) (o : ℕ) (ho : o ≤ 40) (h') : hd z o ho = ⟨o + h, h'⟩ := by
  have h2 : (y 2 : ℕ) < 128 := (y 2).isLt
  have := e.col
  exact Fin.ext (by show o + (z 2 : ℕ) / 128 = o + h; omega)

theorem At.ix {z : S4x2048x1024.Idx} {b : Fin 4} {h : ℕ} {y : S1x2048x128.Idx} (e : At z b h y) :
    (ValueIdx.ix3 (0 : Fin 1) (⟨(z 1 : ℕ), (z 1).isLt⟩ : Fin 2048) (⟨(z 2 : ℕ) % 128, Nat.mod_lt _ (by norm_num)⟩ : Fin 128) : S1x2048x128.Idx) = y := by
  have h0 : (y 0 : ℕ) < 1 := (y 0).isLt
  have h2 : (y 2 : ℕ) < 128 := (y 2).isLt
  have := e.col
  funext a
  match a with
  | ⟨0, _⟩ => exact Fin.ext (by show 0 = (y 0 : ℕ); omega)
  | ⟨1, _⟩ => exact Fin.ext e.row
  | ⟨2, _⟩ => exact Fin.ext (by show (z 2 : ℕ) % 128 = (y 2 : ℕ); omega)

theorem obArr_at (X : Vec Ideal S4x2048x6144 .bf16) (z : S4x2048x1024.Idx) (b : Fin 4) (h : ℕ) (hh : h < 8) (y : S1x2048x128.Idx) (e : At z b h y) :
    obArr X z = ofTiles (fun n => sbOut (rowTile (colBlk X b ⟨24 + h, by omega⟩) n) (rowTile (colBlk X b ⟨32 + h, by omega⟩)) (rowTile (colBlk X b ⟨40 + h, by omega⟩)) n) y := by
  unfold obArr
  rw [e.ix, e.b, e.hd 24 _ (by omega), e.hd 32 _ (by omega), e.hd 40 _ (by omega)]

theorem at10 (t : Fin cfg0.N) (y : S1x2048x128.Idx) : At (((cfg0.win 10).blk t).view.emb y) ⟨t.val / 8, by have := lt32 t; omega⟩ (t.val % 8) y := by
  have h0 : (y 0 : ℕ) < 1 := (y 0).isLt
  constructor <;> blk_simp [idx t] <;> simp <;> omega

theorem final10 (m : (ℓ : Loc nD τ sig) → Buf (Elt Ideal) ℓ) (c : Dev nD) :
    (dats m 0 c).arrAt 10 cfg0.N = obArr (m ((c : Thread nD τ).loc main_arg0)) := by
  refine (dats m 0 c).arrAt_eq_of_covers 10 _ (by decide +kernel) fun t _ y => ?_
  refine Eq.trans ?_ (obArr_at _ _ _ _ (by omega) _ (at10 t y)).symm
  blk_simp
  rw [after0_10]
  unfold outsAt0
  dsimp only
  rw [out10_eq, iblk6, iblk7, iblk8]

end Cert.KernelIdeal.Attn

end
-- ==== Proof.Attn.OaArr.lean ====
/- The pipeline's first result array: the differential attention of every batch, head and query row. -/
module

public import proofs.«01_k».proof.Proof.Attn.Out10
public import proofs.«01_k».proof.Proof.Attn.Tile9Defs
public import proofs.«01_k».proof.Proof.Gen.KernelIdeal.Value
public import Idealize.ShloMosaic.Lib.Pipeline.ValueKit

@[expose] public section

set_option maxRecDepth 16384

noncomputable section

namespace Cert.KernelIdeal.Attn

open Idealize.ShloMosaic Idealize.ShloMosaic.TcCoe Idealize.ShloMosaic.Tactic Idealize.SL.Sem
open Cert.KernelIdeal Cert.KernelIdeal.Gen

theorem iblk3 (m : (ℓ : Loc nD τ sig) → Buf (Elt Ideal) ℓ) (c : Dev nD) (t : Fin cfg0.N) :
    iblk m c 3 t = colBlk (m ((c : Thread nD τ).loc main_arg0)) ⟨t.val / 8, by have := lt32 t; omega⟩ ⟨0 + t.val % 8, by omega⟩ := by
  funext x
  unfold colBlk
  blk_ext [iblk, V, idx t]

theorem iblk4 (m : (ℓ : Loc nD τ sig) → Buf (Elt Ideal) ℓ) (c : Dev nD) (t : Fin cfg0.N) :
    iblk m c 4 t = colBlk (m ((c : Thread nD τ).loc main_arg0)) ⟨t.val / 8, by have := lt32 t; omega⟩ ⟨8 + t.val % 8, by omega⟩ := by
  funext x
  unfold colBlk
  blk_ext [iblk, V, idx t]

theorem iblk5 (m : (ℓ : Loc nD τ sig) → Buf (Elt Ideal) ℓ) (c : Dev nD) (t : Fin cfg0.N) :
    iblk m c 5 t = colBlk (m ((c : Thread nD τ).loc main_arg0)) ⟨t.val / 8, by have := lt32 t; omega⟩ ⟨16 + t.val % 8, by omega⟩ := by
  funext x
  unfold colBlk
  blk_ext [iblk, V, idx t]

theorem iblk0 (m : (ℓ : Loc nD τ sig) → Buf (Elt Ideal) ℓ) (c : Dev nD) (t : Fin cfg0.N) : iblk m c 0 t = V m c main_v8 := by
  funext x
  blk_ext [iblk, idx t]

theorem iblk1 (m : (ℓ : Loc nD τ sig) → Buf (Elt Ideal) ℓ) (c : Dev nD) (t : Fin cfg0.N) : iblk m c 1 t = V m c main_v53 := by
  funext x
  blk_ext [iblk, idx t]

/-- The bias rows of head `h`. -/
def biasBlk (B : Vec Ideal S8x3x512 .f32) (h : Fin 8) : Vec Ideal S1x3x512 .f32 :=
  fun x => B (ValueIdx.ix3 h (⟨(x 1 : ℕ), (x 1).isLt⟩ : Fin 3) (⟨(x 2 : ℕ), (x 2).isLt⟩ : Fin 512))

theorem iblk2 (m : (ℓ : Loc nD τ sig) → Buf (Elt Ideal) ℓ) (c : Dev nD) (t : Fin cfg0.N) : iblk m c 2 t = biasBlk (V m c main_v51) ⟨t.val % 8, by omega⟩ := by
  funext x
  unfold biasBlk
  blk_ext [iblk, idx t]

/-- The head of a column of the merged result, among the bias rows. -/
def hb (y : S4x2048x1024.Idx) : Fin 8 := ⟨(y 2 : ℕ) / 128, by have h2 : (y 2 : ℕ) < 1024 := (y 2).isLt; omega⟩

theorem At.hb {z : S4x2048x1024.Idx} {b : Fin 4} {h : ℕ} {y : S1x2048x128.Idx} (e : At z b h y) (h') : hb z = ⟨h, h'⟩ := by
  have h2 : (y 2 : ℕ) < 128 := (y 2).isLt
  have := e.col
  exact Fin.ext (by show (z 2 : ℕ) / 128 = h; omega)

/-- The first result as one function of the parameter rows, the norm's weights, the bias rows, and the queries, keys and values. -/
def oaArr (par : Vec Ideal S4x64 .f32) (g : Vec Ideal S1x128 .f32) (B : Vec Ideal S8x3x512 .f32) (X : Vec Ideal S4x2048x6144 .bf16) : Vec Ideal S4x2048x1024 .bf16 := fun y =>
  ofTiles (fun n => daOut (lamK par) (rowTile (colBlk X (y 0) (hd y 0 (by norm_num))) n) (rowTile (colBlk X (y 0) (hd y 8 (by norm_num)))) (rowTile (colBlk X (y 0) (hd y 16 (by norm_num))))
      (fun j => biasTile (biasBlk B (hb y)) (n - j)) (gK g) n)
    (ValueIdx.ix3 (0 : Fin 1) (⟨(y 1 : ℕ), (y 1).isLt⟩ : Fin 2048) (⟨(y 2 : ℕ) % 128, Nat.mod_lt _ (by norm_num)⟩ : Fin 128))

theorem oaArr_at (par : Vec Ideal S4x64 .f32) (g : Vec Ideal S1x128 .f32) (B : Vec Ideal S8x3x512 .f32) (X : Vec Ideal S4x2048x6144 .bf16) (z : S4x2048x1024.Idx) (b : Fin 4) (h : ℕ) (hh : h < 8) (y : S1x2048x128.Idx) (e : At z b h y) :
    oaArr par g B X z = ofTiles (fun n => daOut (lamK par) (rowTile (colBlk X b ⟨0 + h, by omega⟩) n) (rowTile (colBlk X b ⟨8 + h, by omega⟩)) (rowTile (colBlk X b ⟨16 + h, by omega⟩))
      (fun j => biasTile (biasBlk B ⟨h, hh⟩) (n - j)) (gK g) n) y := by
  unfold oaArr
  rw [e.ix, e.b, e.hd 0 _ (by omega), e.hd 8 _ (by omega), e.hd 16 _ (by omega), e.hb hh]

theorem at9 (t : Fin cfg0.N) (y : S1x2048x128.Idx) : At (((cfg0.win 9).blk t).view.emb y) ⟨t.val / 8, by have := lt32 t; omega⟩ (t.val % 8) y := by
  have h0 : (y 0 : ℕ) < 1 := (y 0).isLt
  constructor <;> blk_simp [idx t] <;> simp <;> omega

end Cert.KernelIdeal.Attn

end
-- ==== Proof.Attn.Out9.lean ====
/- The pipeline's first result array: the differential attention of every batch, head and query row. -/
module

public import proofs.«01_k».proof.Proof.Attn.Run9
public import proofs.«01_k».proof.Proof.Attn.OaArr
public import proofs.«01_k».proof.Proof.Gen.KernelIdeal.Value
public import Idealize.ShloMosaic.Lib.Pipeline.ValueKit

@[expose] public section

set_option maxRecDepth 16384

noncomputable section

namespace Cert.KernelIdeal.Attn

open Idealize.ShloMosaic Idealize.ShloMosaic.TcCoe Idealize.ShloMosaic.Tactic Idealize.SL.Sem
open Cert.KernelIdeal Cert.KernelIdeal.Gen

/-- What a grid point leaves in the first output, as its tiles. -/
theorem out9_eq (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S1x3x512 .f32) (harg5 : arg5.IsWhole) (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S1x2048x128 .bf16) (harg9 : arg9.IsWhole) (arg10 : Memref sig .tc .vmem S1x2048x128 .bf16) (harg10 : arg10.IsWhole) (arg11 : Memref sig .tc .vmem S1x2048x128 .bf16) (harg11 : arg11.IsWhole) (arg12 : Memref sig .tc .vmem S1x2048x128 .bf16) (harg12 : arg12.IsWhole) (arg13 : Memref sig .tc .vmem S1x2048x128 .bf16) (harg13 : arg13.IsWhole) (arg14 : Memref sig .tc .vmem S2x256x2048 .f32) (harg14 : arg14.IsWhole) (arg15 : Memref sig .tc .vmem S2x256x2048 .f32) (harg15 : arg15.IsWhole) (arg16 : Memref sig .tc .vmem S3x256x256 .f32) (harg16 : arg16.IsWhole) (arg17 : Memref sig .tc .vmem S2x256x2048 .f32) (harg17 : arg17.IsWhole)
    (x0 : Vec Ideal S4x64 .f32) (x1 : Vec Ideal S1x128 .f32) (x2 : Vec Ideal S1x3x512 .f32) (x3 : Vec Ideal S1x2048x128 .bf16) (x4 : Vec Ideal S1x2048x128 .bf16) (x5 : Vec Ideal S1x2048x128 .bf16) (x6 : Vec Ideal S1x2048x128 .bf16) (x7 : Vec Ideal S1x2048x128 .bf16) (x8 : Vec Ideal S1x2048x128 .bf16) :
    out0_A_9 c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 = ofTiles (fun n => daOut (lamK x0) (rowTile x3 n) (rowTile x4) (rowTile x5) (fun j => biasTile x2 (n - j)) (gK x1) n) := by
  unfold out0_A_9
  rw [View.read_writes_eq_canon _ _ _ (cover0_A_9 c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8)]
  funext y
  exact View.canon_apply_of_pieces _ _ (View.PiecesOf.mem (pieces9 c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8)) y (cover0_A_9 c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 y)

theorem final9 (m : (ℓ : Loc nD τ sig) → Buf (Elt Ideal) ℓ) (c : Dev nD) :
    (dats m 0 c).arrAt 9 cfg0.N = oaArr (V m c main_v8) (V m c main_v53) (V m c main_v51) (m ((c : Thread nD τ).loc main_arg0)) := by
  refine (dats m 0 c).arrAt_eq_of_covers 9 _ (by decide +kernel) fun t _ y => ?_
  refine Eq.trans ?_ (oaArr_at _ _ _ _ _ _ _ (by omega) _ (at9 t y)).symm
  blk_simp
  rw [after0_9]
  unfold outsAt0
  dsimp only
  rw [out9_eq, iblk0, iblk1, iblk2, iblk3, iblk4, iblk5]
  simp only [Nat.zero_add]

end Cert.KernelIdeal.Attn

end
-- ==== Proof.Attn.KBias.lean ====
/- The kernel's three bias tiles, entry by entry: the bias of a query's distance to a key. -/
module

public import proofs.«01_k».proof.Proof.Attn.HostRows
public import proofs.«01_k».proof.Proof.Attn.Tile9Defs

@[expose] public section

set_option maxRecDepth 16384

noncomputable section

namespace Cert.KernelIdeal.Attn

open Idealize.ShloMosaic Idealize.ShloMosaic.TcCoe Idealize.ShloMosaic.Tactic Idealize.SL.Sem
open Cert.KernelIdeal Cert.KernelIdeal.Gen
open Cert.ReferenceIdeal.Attn (bk bias gather2_apply bk_far)

/-- Position `p` stands for the distance `p - 255`. -/
theorem far_eq (p : ℕ) (h1 : 255 ≤ p) (h2 : p < 1023) : far p = BitVec.ofNat 32 (p - 255) := by
  refine BitVec.eq_of_toNat_eq ?_
  unfold far IntOp.addi
  rw [BitVec.toNat_add, BitVec.toNat_ofNat, BitVec.toNat_ofNat, BitVec.toNat_ofNat]
  omega

theorem byPos_apply (T : Vec Ideal S32x8 .f32) (h : Fin 8) (p : Fin 1023) : byPos T (ValueIdx.ix2 h p) = bias T h (far p) := by
  unfold byPos
  refine (ValueIdx.transpose_ix2_apply _ _ h p).trans ?_
  exact gather2_apply T rowNo p h

theorem stretch_apply (x : Vec Ideal S8x511 .f32) (h : Fin 8) (q : Fin 512) (hq : (q : ℕ) < 511) :
    stretch x (ValueIdx.ix2 h q) = x (ValueIdx.ix2 h ⟨510 - q, by omega⟩) := by
  unfold stretch
  refine (pad_apply_of_inside _ _ _ _ _ _ _ (ValueIdx.ix2 h q) (ValueIdx.ix2 h (⟨q, hq⟩ : Fin 511)) (fun a => match a with
    | ⟨0, _⟩ => by show (h : ℕ) = 0 + (h : ℕ) * (0 + 1); omega
    | ⟨1, _⟩ => by show (q : ℕ) = 0 + (q : ℕ) * (0 + 1); omega)).trans ?_
  unfold Host.reverse
  refine congrArg x (funext fun a => ?_)
  match a with
  | ⟨0, _⟩ => rfl
  | ⟨1, _⟩ => exact Fin.ext (by show 511 - ((q : ℕ) + 1) = 510 - q; omega)

theorem rows_at (x : Vec Ideal S8x512 .f32) (h : Fin 8) (q : Fin 512) :
    broadcastInDim S8x1x512 ![0, 2] bcast_S8x512_S8x1x512_0_2 x (ValueIdx.ix3 h 0 q) = x (ValueIdx.ix2 h q) :=
  broadcastInDim_apply _ _ x _ _ fun a => match a with
    | ⟨0, _⟩ => rfl
    | ⟨1, _⟩ => rfl

/-- The three rows joined, read one by one. -/
theorem cat0 (y0 y1 y2 : Vec Ideal S8x1x512 .f32) (h : Fin 8) (q : Fin 512) :
    concatenate S8x3x512 1 [⟨S8x1x512, y0⟩, ⟨S8x1x512, y1⟩, ⟨S8x1x512, y2⟩] concatenates_S8x1x512_S8x1x512_S8x1x512_S8x3x512_d1 (ValueIdx.ix3 h 0 q) = y0 (ValueIdx.ix3 h 0 q) :=
  concatenate_apply_piece (t := S8x3x512) 1 [⟨S8x1x512, y0⟩, ⟨S8x1x512, y1⟩, ⟨S8x1x512, y2⟩] concatenates_S8x1x512_S8x1x512_S8x1x512_S8x3x512_d1 (ValueIdx.ix3 h 0 q) 0 (by show 0 < 3; norm_num) S8x1x512 y0 rfl rfl 0 rfl (ValueIdx.ix3 h 0 q) (fun b hb => match b with
    | ⟨0, _⟩ => rfl
    | ⟨1, _⟩ => absurd rfl hb
    | ⟨2, _⟩ => rfl) (by show 0 + 0 = 0; rfl)

theorem cat1 (y0 y1 y2 : Vec Ideal S8x1x512 .f32) (h : Fin 8) (q : Fin 512) :
    concatenate S8x3x512 1 [⟨S8x1x512, y0⟩, ⟨S8x1x512, y1⟩, ⟨S8x1x512, y2⟩] concatenates_S8x1x512_S8x1x512_S8x1x512_S8x3x512_d1 (ValueIdx.ix3 h 1 q) = y1 (ValueIdx.ix3 h 0 q) :=
  concatenate_apply_piece (t := S8x3x512) 1 [⟨S8x1x512, y0⟩, ⟨S8x1x512, y1⟩, ⟨S8x1x512, y2⟩] concatenates_S8x1x512_S8x1x512_S8x1x512_S8x3x512_d1 (ValueIdx.ix3 h 1 q) 1 (by show 1 < 3; norm_num) S8x1x512 y1 rfl rfl 1 rfl (ValueIdx.ix3 h 0 q) (fun b hb => match b with
    | ⟨0, _⟩ => rfl
    | ⟨1, _⟩ => absurd rfl hb
    | ⟨2, _⟩ => rfl) (by show 1 + 0 = 1; rfl)

theorem cat2 (y0 y1 y2 : Vec Ideal S8x1x512 .f32) (h : Fin 8) (q : Fin 512) :
    concatenate S8x3x512 1 [⟨S8x1x512, y0⟩, ⟨S8x1x512, y1⟩, ⟨S8x1x512, y2⟩] concatenates_S8x1x512_S8x1x512_S8x1x512_S8x3x512_d1 (ValueIdx.ix3 h 2 q) = y2 (ValueIdx.ix3 h 0 q) :=
  concatenate_apply_piece (t := S8x3x512) 1 [⟨S8x1x512, y0⟩, ⟨S8x1x512, y1⟩, ⟨S8x1x512, y2⟩] concatenates_S8x1x512_S8x1x512_S8x1x512_S8x3x512_d1 (ValueIdx.ix3 h 2 q) 2 (by show 2 < 3; norm_num) S8x1x512 y2 rfl rfl 2 rfl (ValueIdx.ix3 h 0 q) (fun b hb => match b with
    | ⟨0, _⟩ => rfl
    | ⟨1, _⟩ => absurd rfl hb
    | ⟨2, _⟩ => rfl) (by show 2 + 0 = 2; rfl)

theorem biasRows0 (T : Vec Ideal S32x8 .f32) (h : Fin 8) (q : Fin 512) (hq : (q : ℕ) < 511) : biasRows T (ValueIdx.ix3 h 0 q) = bias T h (far (510 - q)) := by
  unfold biasRows
  refine (cat0 _ _ _ h q).trans ?_
  refine (rows_at _ h q).trans ?_
  rw [stretch_apply _ h q hq]
  refine (extractStridedSlice_apply _ _ _ _ (ValueIdx.ix2 h (⟨510 - q, by omega⟩ : Fin 1023)) (fun a => match a with
    | ⟨0, _⟩ => by show (h : ℕ) = 0 + h; omega
    | ⟨1, _⟩ => by show 510 - (q : ℕ) = 0 + (510 - q); omega)).trans ?_
  exact byPos_apply T h _

theorem biasRows1 (T : Vec Ideal S32x8 .f32) (h : Fin 8) (q : Fin 512) (hq : (q : ℕ) < 511) : biasRows T (ValueIdx.ix3 h 1 q) = bias T h (far (256 + (510 - q))) := by
  unfold biasRows
  refine (cat1 _ _ _ h q).trans ?_
  refine (rows_at _ h q).trans ?_
  rw [stretch_apply _ h q hq]
  refine (extractStridedSlice_apply _ _ _ _ (ValueIdx.ix2 h (⟨256 + (510 - q), by omega⟩ : Fin 1023)) (fun a => match a with
    | ⟨0, _⟩ => by show (h : ℕ) = 0 + h; omega
    | ⟨1, _⟩ => rfl)).trans ?_
  exact byPos_apply T h _

theorem biasRows2 (T : Vec Ideal S32x8 .f32) (h : Fin 8) (q : Fin 512) : biasRows T (ValueIdx.ix3 h 2 q) = bias T h (far 1022) := by
  unfold biasRows
  refine (cat2 _ _ _ h q).trans ?_
  refine (rows_at _ h q).trans ?_
  refine (broadcastInDim_apply _ _ _ _ (ValueIdx.ix2 h (0 : Fin 1)) (fun a => match a with
    | ⟨0, _⟩ => rfl
    | ⟨1, _⟩ => rfl)).trans ?_
  refine (extractStridedSlice_apply _ _ _ _ (ValueIdx.ix2 h (⟨1022, by omega⟩ : Fin 1023)) (fun a => match a with
    | ⟨0, _⟩ => by show (h : ℕ) = 0 + h; omega
    | ⟨1, _⟩ => rfl)).trans ?_
  exact byPos_apply T h _

/-- A row of biases, turned so that row `r` of the tile starts at distance `r`. -/
theorem turn_apply (x : Vec Ideal S1x512 .f32) (r c : Fin 256) :
    extractStridedSlice S256x256 ![0, 0] (dynamicRotate 1 257#32 (some (1, 0)) (broadcastTo S256x512 x broadcasts_S1x512_S256x512) rotates_S256x512_d1s1a0) slices_S256x512_o0_0_S256x256 (ValueIdx.ix2 r c)
      = x (ValueIdx.ix2 0 (⟨255 + c - r, by omega⟩ : Fin 512)) := by
  refine (extractStridedSlice_apply _ _ _ _ (ValueIdx.ix2 r (⟨c, by omega⟩ : Fin 512)) (fun a => match a with
    | ⟨0, _⟩ => by show (r : ℕ) = 0 + r; omega
    | ⟨1, _⟩ => by show (c : ℕ) = 0 + c; omega)).trans ?_
  have e : ∀ j : S256x512.Idx, j = ValueIdx.ix2 r (⟨255 + c - r, by omega⟩ : Fin 512) →
      broadcastTo S256x512 x broadcasts_S1x512_S256x512 j = x (ValueIdx.ix2 0 (⟨255 + c - r, by omega⟩ : Fin 512)) := fun j hj => by
    rw [hj]
    exact ValueIdx.broadcastTo_1b_ab_apply x _ r _
  unfold dynamicRotate
  exact e _ (funext fun a => match a with
    | ⟨0, _⟩ => rfl
    | ⟨1, _⟩ => Fin.ext (by show ((c : ℕ) + 512 - (257 + 1 * (r : ℕ)) % 512) % 512 = 255 + c - r; omega))

theorem row_at (x : Vec Ideal S1x3x512 .f32) (a : Fin 3) (inb) (q : Fin 512) :
    shapeCast S1x512 (View.ld x (Rect.unit (s := S1x3x512) ![0, (a : ℕ), 0] S1x1x512.size inb)) shapeCasts_S1x1x512_S1x512 (ValueIdx.ix2 0 q) = x (ValueIdx.ix3 0 a q) := by
  refine (ValueIdx.shapeCast_1ab_ab_apply _ _ (0 : Fin 1) q).trans ?_
  exact View.ld_unit_apply_of x _ _ _ _ _ fun b => match b with
    | ⟨0, _⟩ => rfl
    | ⟨1, _⟩ => rfl
    | ⟨2, _⟩ => by show (q : ℕ) = 0 + q; omega

theorem sle_small {a b : ℕ} (ha : a < 2 ^ 31) (hb : b < 2 ^ 31) : (BitVec.ofNat 32 a).sle (BitVec.ofNat 32 b) = decide (a ≤ b) := by
  rw [BitVec.sle_eq_decide]
  refine decide_eq_decide.mpr ?_
  rw [Cert.ReferenceIdeal.Attn.toInt_small ha, Cert.ReferenceIdeal.Attn.toInt_small hb]
  omega

theorem tile0 (x : Vec Ideal S1x3x512 .f32) (r c : Fin 256) : biasTile x 0 (ValueIdx.ix3 0 r c) = if (c : ℕ) ≤ r then x (ValueIdx.ix3 0 0 (⟨255 + c - r, by omega⟩ : Fin 512)) else ⊥ := by
  unfold biasTile k0_pay3
  refine (ValueIdx.shapeCast_ab_1ab_apply _ _ (0 : Fin 1) r c).trans ?_
  show Scalar.select (BitVec.ofBool ((iota .tc S256x256 32 [1] iota_S256x256_d1_w32 (ValueIdx.ix2 r c)).sle (iota .tc S256x256 32 [0] iota_S256x256_d0_w32 (ValueIdx.ix2 r c)))) (extractStridedSlice S256x256 ![0, 0] (dynamicRotate 1 257#32 (some (1, 0)) (broadcastTo S256x512 (shapeCast S1x512 (shapeCast S1x512 _ _) _) broadcasts_S1x512_S256x512) rotates_S256x512_d1s1a0) slices_S256x512_o0_0_S256x256 (ValueIdx.ix2 r c)) (FloatOps.ofBits (F := Ideal) .f32 0xFF800000#32) = _
  rw [iota_row, iota_col, sle_small (by omega) (by omega), negInf, turn_apply, shapeCast_self]
  by_cases h : (c : ℕ) ≤ r
  · rw [if_pos h, decide_eq_true h]
    exact row_at x 0 _ _
  · rw [if_neg h, decide_eq_false h]
    rfl

theorem tile1 (x : Vec Ideal S1x3x512 .f32) (r c : Fin 256) : biasTile x 1 (ValueIdx.ix3 0 r c) = x (ValueIdx.ix3 0 1 (⟨255 + c - r, by omega⟩ : Fin 512)) := by
  unfold biasTile k0_pay5 k0_pay4
  refine (ValueIdx.shapeCast_ab_1ab_apply _ _ (0 : Fin 1) r c).trans ?_
  dsimp only
  rw [turn_apply, shapeCast_self]
  exact row_at x 1 _ _

theorem tile2 (x : Vec Ideal S1x3x512 .f32) (n : ℕ) (r c : Fin 256) : biasTile x (n + 2) (ValueIdx.ix3 0 r c) = x (ValueIdx.ix3 0 2 (⟨c, by omega⟩ : Fin 512)) := by
  unfold biasTile k0_pay6
  refine (ValueIdx.shapeCast_ab_1ab_apply _ _ (0 : Fin 1) r c).trans ?_
  dsimp only
  refine (ValueIdx.broadcastTo_1b_ab_apply _ _ r c).trans ?_
  rw [shapeCast_self]
  refine (ValueIdx.shapeCast_1ab_ab_apply _ _ (0 : Fin 1) c).trans ?_
  exact View.ld_unit_apply_of x _ _ _ _ _ fun b => match b with
    | ⟨0, _⟩ => rfl
    | ⟨1, _⟩ => rfl
    | ⟨2, _⟩ => by show (c : ℕ) = 0 + c; omega

/-- The bias tile `m` tiles below the diagonal holds the bias of its queries' distances to its keys, and nothing for a key past its query. -/
theorem biasTile_apply (T : Vec Ideal S32x8 .f32) (h : Fin 8) (x : Vec Ideal S1x3x512 .f32) (hx : ∀ (a : Fin 3) (q : Fin 512), x (ValueIdx.ix3 0 a q) = biasRows T (ValueIdx.ix3 h a q))
    (m : ℕ) (hm : m < 8) (r c : Fin 256) :
    biasTile x m (ValueIdx.ix3 0 r c) = if (c : ℕ) ≤ 256 * m + r then bias T h (BitVec.ofNat 32 (256 * m + r - c)) else ⊥ := by
  match m with
  | 0 =>
    rw [tile0]
    by_cases hc : (c : ℕ) ≤ r
    · rw [if_pos hc, if_pos (by omega), hx, biasRows0 T h _ (by show 255 + (c : ℕ) - r < 511; omega)]
      show bias T h (far (510 - (255 + (c : ℕ) - r))) = _
      rw [far_eq _ (by omega) (by omega)]
      exact congrArg (fun k => bias T h (BitVec.ofNat 32 k)) (by omega)
    · rw [if_neg hc, if_neg (by omega)]
  | 1 =>
    rw [tile1, if_pos (by omega), hx, biasRows1 T h _ (by show 255 + (c : ℕ) - r < 511; omega)]
    show bias T h (far (256 + (510 - (255 + (c : ℕ) - r)))) = _
    rw [far_eq _ (by omega) (by omega)]
    exact congrArg (fun k => bias T h (BitVec.ofNat 32 k)) (by omega)
  | n + 2 =>
    rw [tile2, if_pos (by omega), hx, biasRows2, far_eq _ (by norm_num) (by norm_num)]
    unfold bias
    exact congrArg T (congrArg (fun w : BitVec 32 => (ValueIdx.ix2 (⟨min w.toInt.toNat 31, by omega⟩ : Fin 32) h : S32x8.Idx))
      ((bk_far _ (by norm_num) (by norm_num)).trans (bk_far _ (by omega) (by omega)).symm))

end Cert.KernelIdeal.Attn

end
-- ==== Proof.Attn.RefStick.lean ====
/- The reference's stick-breaking attention read at an index, on finite queries, keys and values. -/
module

public import proofs.«01_k».proof.Proof.Attn.StickReal
public import proofs.«01_k».proof.Proof.Gen.ReferenceIdeal.Read

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen Cert.ReferenceIdeal.Read
open Cert.KernelIdeal.Attn (sp sc sc_eq coe_sum coe_max' slt_small)

/-- The array holds these reals. -/
def HoldsX (X : Vec Ideal S4x2048x6144 .bf16) (x : ℕ → ℕ → ℕ → ℝ) : Prop :=
  ∀ i : S4x2048x6144.Idx, X i = ((x (i 0) (i 1) (i 2) : ℝ) : EReal)

/-- Row `R` times row `k` of two column blocks of 128. -/
def dotR (x : ℕ → ℕ → ℕ → ℝ) (b oq ok R k : ℕ) : ℝ := ∑ d : Fin 128, x b R (oq + d) * x b k (ok + d)

/-- The scaled score. -/
def zR (x : ℕ → ℕ → ℕ → ℝ) (b h R k : ℕ) : ℝ := dotR x b (3072 + h * 128) (4096 + h * 128) R k * sc

/-- The softplus that counts: only of strictly past keys. -/
def yR (x : ℕ → ℕ → ℕ → ℝ) (b h R k : ℕ) : ℝ := if k < R then sp (zR x b h R k) else 0

/-- The weight of key `k` for query row `R`. -/
def wR (x : ℕ → ℕ → ℕ → ℝ) (b h R k : ℕ) : ℝ :=
  if k < R then Real.exp (zR x b h R k - sp (zR x b h R k) - ∑ k' ∈ Finset.range 2048, if k < k' then yR x b h R k' else 0) else 0

/-- The stick-breaking attention. -/
def oR (x : ℕ → ℕ → ℕ → ℝ) (b h R d : ℕ) : ℝ := ∑ k ∈ Finset.range 2048, wR x b h R k * x b k (5120 + h * 128 + d)

theorem coe3 (x : ℕ → ℕ → ℕ → ℝ) {a a' b b' c c' : ℕ} (ea : a = a') (eb : b = b') (ec : c = c') : ((x a b c : ℝ) : EReal) = ((x a' b' c' : ℝ) : EReal) := by
  rw [ea, eb, ec]

/-- The row-major number of a split head's element, read back. -/
theorem flat {a R h d : ℕ} (ha : a < 4) (hR : R < 2048) (hh : h < 8) (hd : d < 128) :
    (((a * 2048 + R) * 8 + h) * 128 + d) / 2097152 = a ∧ (((a * 2048 + R) * 8 + h) * 128 + d) / 1024 % 2048 = R
      ∧ (((a * 2048 + R) * 8 + h) * 128 + d) % 1024 = h * 128 + d := by
  refine ⟨?_, ?_, ?_⟩ <;> omega

/-- The row-major number of a merged head's element, read back. -/
theorem flat' {a R e : ℕ} (ha : a < 4) (hR : R < 2048) (he : e < 1024) :
    ((a * 2048 + R) * 1024 + e) / 2097152 = a ∧ ((a * 2048 + R) * 1024 + e) / 1024 % 2048 = R
      ∧ ((a * 2048 + R) * 1024 + e) / 128 % 8 = e / 128 ∧ ((a * 2048 + R) * 1024 + e) % 128 = e % 128 := by
  refine ⟨?_, ?_, ?_, ?_⟩ <;> omega

/-- The reference's softplus of a real. -/
theorem softplus_real (u : ℝ) :
    Scalar.select (Ideal.cmp .une ((u : EReal) - 0) ((u : EReal) - 0)) ((u : EReal) + 0)
      (max (u : EReal) 0 + Ideal.log1p (Ideal.exp (-(max ((u : EReal) - 0) (-((u : EReal) - 0)))))) = ((sp u : ℝ) : EReal) := by
  have hc : Ideal.cmp .une ((u : EReal) - 0) ((u : EReal) - 0) = 0#1 := by simp [Ideal.cmp]
  rw [hc, ValueIdx.select_zero, sub_zero]
  have h0 : max (u : EReal) (-(u : EReal)) = ((|u| : ℝ) : EReal) := by
    rw [← EReal.coe_neg, ← coe_max', ← abs_eq_max_neg]
  rw [h0, ← EReal.coe_neg]
  show max (u : EReal) 0 + Ideal.log (1 + ((Real.exp (-|u|) : ℝ) : EReal)) = _
  have hpos : ¬ (1 + Real.exp (-|u|) ≤ 0) := by have := Real.exp_pos (-|u|); linarith
  rw [← EReal.coe_one, ← EReal.coe_add]
  show max (u : EReal) 0 + (if 1 + Real.exp (-|u|) ≤ 0 then ⊥ else (Real.log (1 + Real.exp (-|u|)) : EReal)) = _
  rw [if_neg hpos, ← EReal.coe_zero, ← coe_max', ← EReal.coe_add]
  rfl

/-- The softplus of the negated number is the softplus less the number. -/
theorem sp_neg (u : ℝ) : sp (-u) = sp u - u := by
  unfold sp
  rw [abs_neg]
  have : max (-u) 0 = max u 0 - u := by
    rcases le_total u 0 with h | h
    · rw [max_eq_left (by linarith), max_eq_right h]; ring
    · rw [max_eq_right (by linarith), max_eq_left h]; ring
  rw [this]; ring

theorem v137_apply (i : S2048x2048.Idx) : val_main_v137 (F := Ideal) i = if (i 1 : ℕ) < i 0 then 1#1 else 0#1 := by
  have h0 : (i 0 : ℕ) < 2048 := (i 0).isLt
  have h1 : (i 1 : ℕ) < 2048 := (i 1).isLt
  rw [val_main_v137_apply, val_main_v135_apply, val_main_v136_apply, val_main_v133_apply, val_main_v134_apply, val_main_v132_apply, val_main_v132_apply]
  show BitVec.ofBool ((BitVec.ofNat 32 (i 1 : ℕ)).slt (BitVec.ofNat 32 (i 0 : ℕ))) = _
  rw [slt_small (by omega) (by omega)]
  split <;> rename_i h <;> simp [h]

/-- A sum over the keys from `k` on, written by distance. -/
theorem sum_shift (f : ℕ → ℝ) (k N : ℕ) (hk : k < N) :
    ∑ n ∈ Finset.range N, (if k + n < N then f (k + n) else 0) = ∑ k' ∈ Finset.range N, if k ≤ k' then f k' else 0 := by
  obtain ⟨m, rfl⟩ := Nat.exists_eq_add_of_lt hk
  have h1 : ∑ n ∈ Finset.range (k + m + 1), (if k + n < k + m + 1 then f (k + n) else 0) = ∑ n ∈ Finset.range (m + 1), f (k + n) := by
    rw [show k + m + 1 = (m + 1) + k from by omega, Finset.sum_range_add]
    rw [Finset.sum_eq_zero (s := Finset.range k) (fun n _ => if_neg (by omega)), add_zero]
    exact Finset.sum_congr rfl fun n hn => if_pos (by have := Finset.mem_range.mp hn; omega)
  have h2 : ∑ k' ∈ Finset.range (k + m + 1), (if k ≤ k' then f k' else 0) = ∑ n ∈ Finset.range (m + 1), f (k + n) := by
    rw [show k + m + 1 = k + (m + 1) from by omega, Finset.sum_range_add]
    rw [Finset.sum_eq_zero (s := Finset.range k) (fun n hn => if_neg (by have := Finset.mem_range.mp hn; omega)), zero_add]
    exact Finset.sum_congr rfl fun n hn => if_pos (by omega)
  rw [h1, h2]

/-- A fold of additions over a list is the start plus the sum. -/
theorem foldl_add {ι : Type} (l : List ι) (g : ι → EReal) (v : EReal) : l.foldl (fun r n => r + g n) v = v + (l.map g).sum := by
  induction l generalizing v with
  | nil => simp
  | cons a l ih => rw [List.foldl_cons, ih, List.map_cons, List.sum_cons, add_assoc]

section Stages

variable {X : Vec Ideal S4x2048x6144 .bf16} {x : ℕ → ℕ → ℕ → ℝ} (hX : HoldsX X x)
include hX

theorem v14_apply (i : S4x8x2048x128.Idx) : val_main_v14 (F := Ideal) X i = ((x (i 0) (i 2) (3072 + (i 1 : ℕ) * 128 + i 3) : ℝ) : EReal) := by
  obtain ⟨e0, e1, e2⟩ := flat (a := i 0) (R := i 2) (h := i 1) (d := i 3) (i 0).isLt (i 2).isLt (i 1).isLt (i 3).isLt
  rw [val_main_v14_apply, val_main_v13_apply, val_main_v4_apply]
  exact (hX _).trans (coe3 x e0 e1 ((congrArg (fun t => 3072 + t) e2).trans (Nat.add_assoc _ _ _).symm))

theorem v16_apply (i : S4x8x2048x128.Idx) : val_main_v16 (F := Ideal) X i = ((x (i 0) (i 2) (4096 + (i 1 : ℕ) * 128 + i 3) : ℝ) : EReal) := by
  obtain ⟨e0, e1, e2⟩ := flat (a := i 0) (R := i 2) (h := i 1) (d := i 3) (i 0).isLt (i 2).isLt (i 1).isLt (i 3).isLt
  rw [val_main_v16_apply, val_main_v15_apply, val_main_v5_apply]
  exact (hX _).trans (coe3 x e0 e1 ((congrArg (fun t => 4096 + t) e2).trans (Nat.add_assoc _ _ _).symm))

theorem v18_apply (i : S4x8x2048x128.Idx) : val_main_v18 (F := Ideal) X i = ((x (i 0) (i 2) (5120 + (i 1 : ℕ) * 128 + i 3) : ℝ) : EReal) := by
  obtain ⟨e0, e1, e2⟩ := flat (a := i 0) (R := i 2) (h := i 1) (d := i 3) (i 0).isLt (i 2).isLt (i 1).isLt (i 3).isLt
  rw [val_main_v18_apply, val_main_v17_apply, val_main_v6_apply]
  exact (hX _).trans (coe3 x e0 e1 ((congrArg (fun t => 5120 + t) e2).trans (Nat.add_assoc _ _ _).symm))

theorem v140_apply (i : S4x8x2048x2048.Idx) : val_main_v140 (F := Ideal) X i = ((zR x (i 0) (i 1) (i 2) (i 3) : ℝ) : EReal) := by
  rw [val_main_v140_apply, val_main_v138_apply, val_main_v139_apply]
  unfold zR dotR
  rw [EReal.coe_mul, ← coe_sum]
  refine congrArg₂ (· * ·) (Finset.sum_congr rfl fun d _ => ?_) sc_eq
  rw [v14_apply hX, v16_apply hX]
  exact (EReal.coe_mul _ _).symm

theorem v141_apply (i : S4x8x2048x2048.Idx) :
    val_main_v141 (F := Ideal) X i = ((zR x (i 0) (i 1) (i 2) (i 3) - sp (zR x (i 0) (i 1) (i 2) (i 3)) : ℝ) : EReal) := by
  have h : val_main_call3_v1 (F := Ideal) X i = ((sp (-(zR x (i 0) (i 1) (i 2) (i 3))) : ℝ) : EReal) := by
    rw [← softplus_real, EReal.coe_neg, ← v140_apply hX i, ← Ideal.ofBits_zero_f32]
    rw [val_main_call3_v1_apply, val_main_call3_call0_v4_apply, val_main_call3_call0_v6_apply, val_main_call3_call0_v11_apply, val_main_call3_call0_v10_apply,
      val_main_call3_call0_v9_apply, val_main_call3_call0_v8_apply, val_main_call3_call0_v7_apply, val_main_call3_call0_v1_apply, val_main_call3_call0_v3_apply,
      val_main_call3_call0_v0_apply, val_main_call3_call0_v2_apply, val_main_call3_call0_v5_apply, val_main_call3_v0_apply]
    rfl
  rw [val_main_v141_apply, h, sp_neg]
  show -((_ : ℝ) : EReal) = _
  rw [← EReal.coe_neg, neg_sub]

theorem v144_apply (i : S4x8x2048x2048.Idx) : val_main_v144 (F := Ideal) X i = ((-(yR x (i 0) (i 1) (i 2) (i 3)) : ℝ) : EReal) := by
  have h : val_main_call4_v1 (F := Ideal) X i = ((sp (zR x (i 0) (i 1) (i 2) (i 3)) : ℝ) : EReal) := by
    rw [← neg_neg (zR x (i 0) (i 1) (i 2) (i 3)), ← softplus_real, EReal.coe_neg, EReal.coe_neg, ← v140_apply hX i, ← Ideal.ofBits_zero_f32]
    rw [val_main_call4_v1_apply, val_main_call4_call0_v4_apply, val_main_call4_call0_v6_apply, val_main_call4_call0_v11_apply, val_main_call4_call0_v10_apply,
      val_main_call4_call0_v9_apply, val_main_call4_call0_v8_apply, val_main_call4_call0_v7_apply, val_main_call4_call0_v1_apply, val_main_call4_call0_v3_apply,
      val_main_call4_call0_v0_apply, val_main_call4_call0_v2_apply, val_main_call4_call0_v5_apply, val_main_call4_v0_apply, val_main_v142_apply]
    rfl
  rw [val_main_v144_apply, val_main_call5_v1_apply, v137_apply, val_main_v143_apply, h]
  unfold yR
  show Scalar.select (if (i 3 : ℕ) < (i 2 : ℕ) then 1#1 else 0#1) (-((_ : ℝ) : EReal)) _ = _
  by_cases hlt : (i 3 : ℕ) < (i 2 : ℕ)
  · rw [if_pos hlt, if_pos hlt, ValueIdx.select_one, EReal.coe_neg]
  · rw [if_neg hlt, if_neg hlt, ValueIdx.select_zero, neg_zero, EReal.coe_zero]
    exact Ideal.ofBits_zero_f32

/-- The window's positions are the distances. -/
theorem window_sum (g : (⟨4, ![1, 1, 1, 2048]⟩ : Shape).Idx → EReal) :
    ∑ w, g w = ∑ n : Fin 2048, g (ValueIdx.ix4 (0 : Fin 1) (0 : Fin 1) (0 : Fin 1) n) := by
  refine (Fintype.sum_bijective (fun n : Fin 2048 => (ValueIdx.ix4 (0 : Fin 1) (0 : Fin 1) (0 : Fin 1) n : (⟨4, ![1, 1, 1, 2048]⟩ : Shape).Idx)) ⟨?_, ?_⟩ _ _ fun _ => rfl).symm
  · intro a b h
    exact congrFun h 3
  · intro w
    refine ⟨w 3, ?_⟩
    have h0 : (w 0 : ℕ) < 1 := (w 0).isLt
    have h1 : (w 1 : ℕ) < 1 := (w 1).isLt
    have h2 : (w 2 : ℕ) < 1 := (w 2).isLt
    funext a
    match a with
    | ⟨0, _⟩ => exact Fin.ext (by show 0 = (w 0 : ℕ); omega)
    | ⟨1, _⟩ => exact Fin.ext (by show 0 = (w 1 : ℕ); omega)
    | ⟨2, _⟩ => exact Fin.ext (by show 0 = (w 2 : ℕ); omega)
    | ⟨3, _⟩ => rfl

theorem v145_apply (i : S4x8x2048x2048.Idx) :
    val_main_v145 (F := Ideal) X i = ((∑ k' ∈ Finset.range 2048, (if (i 3 : ℕ) ≤ k' then -(yR x (i 0) (i 1) (i 2) k') else 0) : ℝ) : EReal) := by
  have h0 : (i 0 : ℕ) < 4 := (i 0).isLt
  have h1 : (i 1 : ℕ) < 8 := (i 1).isLt
  have h2 : (i 2 : ℕ) < 2048 := (i 2).isLt
  have h3 : (i 3 : ℕ) < 2048 := (i 3).isLt
  rw [← sum_shift _ _ _ h3, Finset.sum_range, ← coe_sum]
  have hinit : ∀ u : S_.Idx, val_main_call6_v0 (F := Ideal) u = (0 : EReal) := fun u => by
    rw [val_main_call6_v0_apply]; exact Ideal.ofBits_zero_f32
  unfold val_main_v145 Host.reduceWindowAdd
  rw [hinit, Ideal.hostReduceWindowAdd_def]
  unfold Ideal.hostReduceWindowAdd Host.reduceWindow
  dsimp only
  rw [foldl_add, zero_add, ← Fin.sum_univ_def]
  let G : (⟨4, ![1, 1, 1, 2048]⟩ : Shape).Idx → EReal := fun w =>
    ((if (i 3 : ℕ) + (w 3 : ℕ) < 2048 then -(yR x (i 0) (i 1) (i 2) ((i 3 : ℕ) + (w 3 : ℕ))) else 0 : ℝ) : EReal)
  refine Eq.trans (Finset.sum_congr rfl fun n _ => ?_) ((Equiv.sum_comp (Shape.rowMajor ⟨4, ![1, 1, 1, 2048]⟩).symm G).trans (window_sum hX G))
  obtain ⟨w, hw⟩ : ∃ w, w = (Shape.rowMajor ⟨4, ![1, 1, 1, 2048]⟩).symm n := ⟨_, rfl⟩
  simp only [← hw]
  have w0 : (w 0 : ℕ) < 1 := (w 0).isLt
  have w1 : (w 1 : ℕ) < 1 := (w 1).isLt
  have w2 : (w 2 : ℕ) < 1 := (w 2).isLt
  show _ = ((if (i 3 : ℕ) + (w 3 : ℕ) < 2048 then -(yR x (i 0) (i 1) (i 2) ((i 3 : ℕ) + (w 3 : ℕ))) else 0 : ℝ) : EReal)
  by_cases hin : (i 3 : ℕ) + (w 3 : ℕ) < 2048
  · rw [dif_pos, if_pos hin, v144_apply hX]
    · have e0 : (i 0 : ℕ) * 1 + (w 0 : ℕ) - 0 = i 0 := by omega
      have e1 : (i 1 : ℕ) * 1 + (w 1 : ℕ) - 0 = i 1 := by omega
      have e2 : (i 2 : ℕ) * 1 + (w 2 : ℕ) - 0 = i 2 := by omega
      have e3 : (i 3 : ℕ) * 1 + (w 3 : ℕ) - 0 = i 3 + w 3 := by omega
      show ((-(yR x ((i 0 : ℕ) * 1 + (w 0 : ℕ) - 0) ((i 1 : ℕ) * 1 + (w 1 : ℕ) - 0) ((i 2 : ℕ) * 1 + (w 2 : ℕ) - 0) ((i 3 : ℕ) * 1 + (w 3 : ℕ) - 0)) : ℝ) : EReal) = _
      rw [e0, e1, e2, e3]
    · intro a
      match a with
      | ⟨0, _⟩ => show 0 ≤ (i 0 : ℕ) * 1 + (w 0 : ℕ) ∧ (i 0 : ℕ) * 1 + (w 0 : ℕ) - 0 < 4; omega
      | ⟨1, _⟩ => show 0 ≤ (i 1 : ℕ) * 1 + (w 1 : ℕ) ∧ (i 1 : ℕ) * 1 + (w 1 : ℕ) - 0 < 8; omega
      | ⟨2, _⟩ => show 0 ≤ (i 2 : ℕ) * 1 + (w 2 : ℕ) ∧ (i 2 : ℕ) * 1 + (w 2 : ℕ) - 0 < 2048; omega
      | ⟨3, _⟩ => show 0 ≤ (i 3 : ℕ) * 1 + (w 3 : ℕ) ∧ (i 3 : ℕ) * 1 + (w 3 : ℕ) - 0 < 2048; omega
  · rw [dif_neg, if_neg hin, EReal.coe_zero]
    intro h
    have h3' : (i 3 : ℕ) * 1 + (w 3 : ℕ) - 0 < 2048 := (h 3).2
    omega

theorem v146_apply (i : S4x8x2048x2048.Idx) :
    val_main_v146 (F := Ideal) X i = ((-∑ k' ∈ Finset.range 2048, (if (i 3 : ℕ) < k' then yR x (i 0) (i 1) (i 2) k' else 0) : ℝ) : EReal) := by
  have h3 : (i 3 : ℕ) < 2048 := (i 3).isLt
  rw [val_main_v146_apply, v145_apply hX, v144_apply hX]
  show ((_ : ℝ) : EReal) - ((_ : ℝ) : EReal) = _
  rw [← EReal.coe_sub]
  congr 1
  rw [sub_neg_eq_add, ← Finset.sum_neg_distrib]
  have hs : yR x (i 0) (i 1) (i 2) (i 3) = ∑ k' ∈ Finset.range 2048, if k' = (i 3 : ℕ) then yR x (i 0) (i 1) (i 2) k' else 0 := by
    rw [Finset.sum_ite_eq' (Finset.range 2048) (i 3 : ℕ) (fun k' => yR x (i 0) (i 1) (i 2) k'), if_pos (Finset.mem_range.mpr h3)]
  rw [hs, ← Finset.sum_add_distrib]
  refine Finset.sum_congr rfl fun k' _ => ?_
  rcases lt_trichotomy (i 3 : ℕ) k' with h | h | h
  · rw [if_pos h.le, if_neg h.ne', if_pos h, add_zero]
  · rw [if_pos h.le, if_pos h.symm, if_neg (by omega)]; ring
  · rw [if_neg (by omega), if_neg h.ne, if_neg (by omega)]; ring

theorem v149_apply (i : S4x8x2048x2048.Idx) : val_main_v149 (F := Ideal) X i = ((wR x (i 0) (i 1) (i 2) (i 3) : ℝ) : EReal) := by
  rw [val_main_v149_apply, val_main_call7_v1_apply, v137_apply, val_main_v148_apply, val_main_v147_apply, v141_apply hX, v146_apply hX]
  show Scalar.select (if (i 3 : ℕ) < (i 2 : ℕ) then 1#1 else 0#1) (Ideal.exp (((_ : ℝ) : EReal) + ((_ : ℝ) : EReal))) _ = _
  rw [← EReal.coe_add, ← sub_eq_add_neg]
  unfold wR
  by_cases hlt : (i 3 : ℕ) < (i 2 : ℕ)
  · rw [if_pos hlt, if_pos hlt, ValueIdx.select_one]; rfl
  · rw [if_neg hlt, if_neg hlt, ValueIdx.select_zero, EReal.coe_zero]
    exact Ideal.ofBits_zero_f32

theorem v154_apply (i : S4x2048x1024.Idx) : val_main_v154 (F := Ideal) X i = ((oR x (i 0) ((i 2 : ℕ) / 128) (i 1) ((i 2 : ℕ) % 128) : ℝ) : EReal) := by
  obtain ⟨e0, e1, e2, e3⟩ := flat' (a := i 0) (R := i 1) (e := i 2) (i 0).isLt (i 1).isLt (i 2).isLt
  rw [val_main_v154_apply, val_main_v152_apply, val_main_v151_apply]
  refine (val_main_v150_apply X _).trans ?_
  unfold oR
  rw [Finset.sum_range, ← coe_sum]
  refine Finset.sum_congr rfl fun k _ => ?_
  rw [v149_apply hX, v18_apply hX, ← EReal.coe_mul]
  show ((wR x ((((i 0 : ℕ) * 2048 + (i 1 : ℕ)) * 1024 + (i 2 : ℕ)) / 2097152) ((((i 0 : ℕ) * 2048 + (i 1 : ℕ)) * 1024 + (i 2 : ℕ)) / 128 % 8)
      ((((i 0 : ℕ) * 2048 + (i 1 : ℕ)) * 1024 + (i 2 : ℕ)) / 1024 % 2048) k
    * x ((((i 0 : ℕ) * 2048 + (i 1 : ℕ)) * 1024 + (i 2 : ℕ)) / 2097152) k
      (5120 + ((((i 0 : ℕ) * 2048 + (i 1 : ℕ)) * 1024 + (i 2 : ℕ)) / 128 % 8) * 128 + (((i 0 : ℕ) * 2048 + (i 1 : ℕ)) * 1024 + (i 2 : ℕ)) % 128) : ℝ) : EReal) = _
  rw [e0, e1, e2, e3]

end Stages

end Cert.ReferenceIdeal.Attn

end
-- ==== Proof.Attn.MatchStick.lean ====
/- The kernel's stick-breaking attention, tile by tile, is the reference's over the whole row. -/
module

public import proofs.«01_k».proof.Proof.Attn.RefStick
public import proofs.«01_k».proof.Proof.Attn.Out10

@[expose] public section

set_option maxRecDepth 16384

noncomputable section

namespace Cert.KernelIdeal.Attn

open Idealize.ShloMosaic Idealize.ShloMosaic.TcCoe Idealize.SL.Sem
open Cert.KernelIdeal Cert.KernelIdeal.Gen
open Cert.ReferenceIdeal.Attn (HoldsX zR yR wR oR dotR v154_apply)

/-- A sum over `N` tiles of 256. -/
theorem sum_tiles (f : ℕ → ℝ) (N : ℕ) : ∑ k ∈ Finset.range (256 * N), f k = ∑ j ∈ Finset.range N, ∑ c : Fin 256, f (256 * j + c) := by
  induction N with
  | zero => rfl
  | succ N ih =>
    rw [show 256 * (N + 1) = 256 * N + 256 from by ring, Finset.sum_range_add, ih, Finset.sum_range_succ (fun j => ∑ c : Fin 256, f (256 * j + c)) N]
    exact congrArg _ (Finset.sum_range fun c => f (256 * N + c))

/-- A row's sum whose keys past the row's own tile give nothing, from the row's tile backwards. -/
theorem sum_back (f : ℕ → ℝ) (n : ℕ) (hn : n < 8) (h0 : ∀ k, 256 * (n + 1) ≤ k → f k = 0) :
    ∑ k ∈ Finset.range 2048, f k = ∑ m ∈ Finset.range (n + 1), ∑ c : Fin 256, f (256 * (n - m) + c) := by
  have e : ∑ k ∈ Finset.range 2048, f k = ∑ k ∈ Finset.range (256 * (n + 1)), f k := by
    refine (Finset.sum_subset (Finset.range_mono (by omega)) fun k _ hk => h0 k ?_).symm
    rw [Finset.mem_range] at hk
    omega
  rw [e, sum_tiles, ← Finset.sum_range_reflect]
  refine Finset.sum_congr rfl fun m _ => ?_
  rw [show n + 1 - 1 - m = n - m from by omega]

/-- A head's columns of a row tile. -/
def rT (x : ℕ → ℕ → ℕ → ℝ) (b c j : ℕ) : Fin 256 → Fin 128 → ℝ := fun r d => if j < 8 then x b (256 * j + r) (c * 128 + d) else 0

theorem holds_rowTile {X : Vec Ideal S4x2048x6144 .bf16} {x : ℕ → ℕ → ℕ → ℝ} (hX : HoldsX X x) (b : Fin 4) (c : Fin 48) (j : ℕ) :
    Holds (rowTile (colBlk X b c) j) (rT x b c j) := by
  intro r d
  unfold rT rowTile
  by_cases h : j < 8
  · rw [dif_pos h, if_pos h]
    refine (hX _).trans ?_
    have e1 : 256 * j + 1 * (r : ℕ) = 256 * j + r := by omega
    have e2 : (c : ℕ) * 128 + (0 + 1 * (d : ℕ)) = c * 128 + d := by omega
    show ((x b (256 * j + 1 * (r : ℕ)) ((c : ℕ) * 128 + (0 + 1 * (d : ℕ))) : ℝ) : EReal) = _
    rw [e1, e2]
  · rw [dif_neg h, if_neg h]
    exact EReal.coe_zero.symm

section Match

variable (x : ℕ → ℕ → ℕ → ℝ) (b h n : ℕ) (hn : n < 8) (r : Fin 256)

include hn

theorem rZ_eq (j : ℕ) (hj : j < 8) (c : Fin 256) :
    rZ (rT x b (24 + h) n) (rT x b (32 + h) j) r c = zR x b h (256 * n + r) (256 * j + c) := by
  unfold rZ zR dotR rT
  refine congrArg (· * sc) (Finset.sum_congr rfl fun d _ => ?_)
  rw [if_pos hn, if_pos hj, show (24 + h) * 128 = 3072 + h * 128 from by ring, show (32 + h) * 128 = 4096 + h * 128 from by ring]

theorem rY_eq (m : ℕ) (hm : m ≤ n) (c : Fin 256) :
    rY (Nat.beq m 0) (rZ (rT x b (24 + h) n) (rT x b (32 + h) (n - m))) r c = yR x b h (256 * n + r) (256 * (n - m) + c) := by
  have hr := r.isLt
  have hc := c.isLt
  unfold rY yR
  rw [rZ_eq x b h n hn r (n - m) (by omega) c]
  by_cases hlt : 256 * (n - m) + (c : ℕ) < 256 * n + r
  · rw [if_pos hlt, if_neg]
    rintro ⟨h1, h2⟩
    have := Nat.eq_of_beq_eq_true h1
    omega
  · rw [if_neg hlt, if_pos]
    have m0 : m = 0 := by omega
    subst m0
    exact ⟨rfl, by omega⟩

/-- The softplus sum over the later keys, split at the key's own tile. -/
theorem tail_eq (m : ℕ) (hm : m ≤ n) (c : Fin 256) :
    ∑ k' ∈ Finset.range 2048, (if 256 * (n - m) + (c : ℕ) < k' then yR x b h (256 * n + r) k' else 0)
      = (∑ c' : Fin 256, (if (c : ℕ) < c' then yR x b h (256 * n + r) (256 * (n - m) + c') else 0))
        + ∑ m' ∈ Finset.range m, ∑ c' : Fin 256, yR x b h (256 * n + r) (256 * (n - m') + c') := by
  have hr := r.isLt
  have hc := c.isLt
  rw [sum_back _ n hn fun k hk => by
    split
    · exact if_neg (by omega)
    · rfl]
  have split : n + 1 = (m + 1) + (n - m) := by omega
  rw [split, Finset.sum_range_add, Finset.sum_range_succ]
  have z : ∑ i ∈ Finset.range (n - m), ∑ c' : Fin 256,
      (if 256 * (n - m) + (c : ℕ) < 256 * (n - (m + 1 + i)) + (c' : ℕ) then yR x b h (256 * n + r) (256 * (n - (m + 1 + i)) + c') else 0) = 0 := by
    refine Finset.sum_eq_zero fun i hi => Finset.sum_eq_zero fun c' _ => if_neg ?_
    have := Finset.mem_range.mp hi
    have := c'.isLt
    omega
  rw [z, add_zero, add_comm]
  congr 1
  · refine Finset.sum_congr rfl fun c' _ => ?_
    by_cases hcc : (c : ℕ) < c'
    · rw [if_pos hcc, if_pos (by omega)]
    · rw [if_neg hcc, if_neg (by omega)]
  · refine Finset.sum_congr rfl fun m' hm' => Finset.sum_congr rfl fun c' _ => if_pos ?_
    have := Finset.mem_range.mp hm'
    omega

theorem rW_eq (m : ℕ) (hm : m ≤ n) (c : Fin 256) :
    rW (rT x b (24 + h) n) (rT x b (32 + h)) n m r c = wR x b h (256 * n + r) (256 * (n - m) + c) := by
  have hr := r.isLt
  have hc := c.isLt
  unfold rW wR
  by_cases hlt : 256 * (n - m) + (c : ℕ) < 256 * n + r
  · rw [if_pos hlt, if_neg (by omega), rZ_eq x b h n hn r (n - m) (by omega) c, tail_eq x b h n hn r m hm c, ← sub_sub]
    congr 1
    congr 1
    · congr 1
      refine Finset.sum_congr rfl fun c' _ => ?_
      rw [rY_eq x b h n hn r m hm c']
    · refine Finset.sum_congr rfl fun m' hm' => Finset.sum_congr rfl fun c' _ => ?_
      have := Finset.mem_range.mp hm'
      exact rY_eq x b h n hn r m' (by omega) c'
  · rw [if_neg hlt, if_pos]
    exact ⟨by omega, by omega⟩

theorem stick_eq (d : Fin 128) :
    ∑ m ∈ Finset.range (n + 1), ∑ c, rW (rT x b (24 + h) n) (rT x b (32 + h)) n m r c * rT x b (40 + h) (n - m) c d = oR x b h (256 * n + r) d := by
  have hr := r.isLt
  unfold oR
  rw [sum_back _ n hn fun k hk => by
    unfold wR
    rw [if_neg (by omega), zero_mul]]
  refine Finset.sum_congr rfl fun m hm => Finset.sum_congr rfl fun c _ => ?_
  have hm' := Finset.mem_range.mp hm
  rw [rW_eq x b h n hn r m (by omega) c]
  unfold rT
  rw [if_pos (by omega), show (40 + h) * 128 = 5120 + h * 128 from by ring]

end Match

/-- The kernel's second result is the reference's stick-breaking attention. -/
theorem obArr_eq {X : Vec Ideal S4x2048x6144 .bf16} {x : ℕ → ℕ → ℕ → ℝ} (hX : HoldsX X x) : obArr X = Cert.ReferenceIdeal.Read.val_main_v154 (F := Ideal) X := by
  funext y
  have h1 : (y 1 : ℕ) < 2048 := (y 1).isLt
  have h2 : (y 2 : ℕ) < 1024 := (y 2).isLt
  rw [v154_apply hX]
  refine (sbOut_apply (holds_rowTile hX (y 0) (hd y 24 (by norm_num)) ((y 1 : ℕ) / 256)) (holds_rowTile hX (y 0) (hd y 32 (by norm_num))) (holds_rowTile hX (y 0) (hd y 40 (by norm_num))) ((y 1 : ℕ) / 256) _ _).trans ?_
  refine congrArg _ ?_
  refine (stick_eq x (y 0) ((y 2 : ℕ) / 128) ((y 1 : ℕ) / 256) (by omega) ⟨(y 1 : ℕ) % 256, Nat.mod_lt _ (by norm_num)⟩ ⟨(y 2 : ℕ) % 128, Nat.mod_lt _ (by norm_num)⟩).trans ?_
  show oR x (y 0) ((y 2 : ℕ) / 128) (256 * ((y 1 : ℕ) / 256) + (y 1 : ℕ) % 256) ((y 2 : ℕ) % 128) = _
  rw [Nat.div_add_mod]

end Cert.KernelIdeal.Attn

end
-- ==== Proof.Attn.RefDiff.lean ====
/- The reference's differential attention read at an index, on finite queries, keys, values and table. -/
module

public import proofs.«01_k».proof.Proof.Attn.RefStick
public import proofs.«01_k».proof.Proof.Attn.Bias
public import Idealize.ShloMosaic.Lib.KernelVsHost

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen Cert.ReferenceIdeal.Read
open Cert.KernelIdeal.Attn (coe_sum slt_small div_coe we we_nonneg we_pos exp_shift negInf max_real)

/-- The table holds numbers. -/
def FiniteT (T : Vec Ideal S32x8 .f32) : Prop := ∀ i, T i ≠ (⊤ : EReal) ∧ T i ≠ (⊥ : EReal)

/-- Half a query row times half a key row, scaled by one eighth. -/
def zD (x : ℕ → ℕ → ℕ → ℝ) (o b h R k : ℕ) : ℝ := (∑ d : Fin 64, x b R (h * 128 + (o + d)) * x b k (1024 + h * 128 + (o + d))) * (1 / 8)

/-- The score of key `k` for query row `R`: minus infinity for later keys. -/
def sD (x : ℕ → ℕ → ℕ → ℝ) (T : Vec Ideal S32x8 .f32) (o b : ℕ) (h : Fin 8) (R k : ℕ) : EReal :=
  if k ≤ R then ((zD x o b h R k : ℝ) : EReal) + bias T h (IntOp.subi (BitVec.ofNat 32 R) (BitVec.ofNat 32 k)) else ⊥

/-- The sum of the weights. -/
def denD (x : ℕ → ℕ → ℕ → ℝ) (T : Vec Ideal S32x8 .f32) (o b : ℕ) (h : Fin 8) (R : ℕ) : ℝ := ∑ k ∈ Finset.range 2048, we (sD x T o b h R k)

/-- One softmax times the values. -/
def pvD (x : ℕ → ℕ → ℕ → ℝ) (T : Vec Ideal S32x8 .f32) (o b : ℕ) (h : Fin 8) (R d : ℕ) : ℝ :=
  (∑ k ∈ Finset.range 2048, we (sD x T o b h R k) * x b k (2048 + h * 128 + d)) / denD x T o b h R

/-- The difference of the two attentions. -/
def oD (x : ℕ → ℕ → ℕ → ℝ) (T : Vec Ideal S32x8 .f32) (L : ℝ) (b : ℕ) (h : Fin 8) (R d : ℕ) : ℝ := pvD x T 0 b h R d - L * pvD x T 64 b h R d

/-- The normalised difference. -/
def nD (x : ℕ → ℕ → ℕ → ℝ) (T : Vec Ideal S32x8 .f32) (L : ℝ) (G : Vec Ideal S1x128 .f32) (b : ℕ) (h : Fin 8) (R : ℕ) (d : Fin 128) : EReal :=
  ((((oD x T L b h R d : ℝ) : EReal) * Ideal.rsqrt (Ideal.div (∑ l : Fin 128, ((oD x T L b h R l : ℝ) : EReal) * ((oD x T L b h R l : ℝ) : EReal))
    (Ideal.ofBits .f32 0x43000000#32) + Ideal.ofBits .f32 0x358637BD#32)) * G (ValueIdx.ix2 (0 : Fin 1) d)) * Ideal.ofBits .f32 0x3F4CCCCD#32

theorem sD_lt {T : Vec Ideal S32x8 .f32} (hT : FiniteT T) (x : ℕ → ℕ → ℕ → ℝ) (o b : ℕ) (h : Fin 8) (R k : ℕ) : sD x T o b h R k ≠ ⊤ := by
  unfold sD
  split
  · exact (EReal.add_lt_top (EReal.coe_ne_top _) (hT _).1).ne
  · exact bot_ne_top

theorem sD_gt {T : Vec Ideal S32x8 .f32} (hT : FiniteT T) (x : ℕ → ℕ → ℕ → ℝ) (o b : ℕ) (h : Fin 8) (R : ℕ) {k : ℕ} (hk : k ≤ R) : sD x T o b h R k ≠ ⊥ := by
  unfold sD
  rw [if_pos hk]
  intro e
  rcases EReal.add_eq_bot_iff.mp e with e | e
  · exact EReal.coe_ne_bot _ e
  · exact (hT _).2 e

theorem denD_pos {T : Vec Ideal S32x8 .f32} (hT : FiniteT T) (x : ℕ → ℕ → ℕ → ℝ) (o b : ℕ) (h : Fin 8) (R : ℕ) : 0 < denD x T o b h R := by
  refine lt_of_lt_of_le (we_pos (sD_lt hT x o b h R 0) (sD_gt hT x o b h R (Nat.zero_le R))) ?_
  exact Finset.single_le_sum (f := fun k => we (sD x T o b h R k)) (fun k _ => we_nonneg _) (Finset.mem_range.mpr (by norm_num))

/-- The softmax of a row of scores, one of them a number. -/
theorem softmax_real {N : ℕ} (f : Fin N → EReal) (h1 : ∀ k, f k ≠ ⊤) (k0 : Fin N) (h2 : f k0 ≠ ⊥) (M : EReal) (hM : M = Finset.univ.fold max ⊥ f) (k : Fin N) :
    Ideal.div (Ideal.exp (f k - max ⊥ M)) (0 + ∑ k', Ideal.exp (f k' - max ⊥ M)) = ((we (f k) / ∑ k', we (f k') : ℝ) : EReal) := by
  obtain ⟨μ, hμ⟩ := max_real f h1 k0 h2
  have hm : max ⊥ M = (μ : EReal) := by rw [hM, hμ]; exact max_eq_right bot_le
  have hD : 0 < ∑ k', we (f k') :=
    lt_of_lt_of_le (we_pos (h1 k0) h2) (Finset.single_le_sum (f := fun k => we (f k)) (fun k _ => we_nonneg _) (Finset.mem_univ k0))
  rw [hm, exp_shift (h1 k) μ, zero_add, Finset.sum_congr rfl fun k' _ => exp_shift (h1 k') μ, coe_sum, ← Finset.sum_mul,
    div_coe _ _ (mul_pos hD (Real.exp_pos _)).ne', mul_div_mul_right _ _ (Real.exp_pos (-μ)).ne']

theorem v73_apply (i : S2048x2048.Idx) : val_main_v73 (F := Ideal) i = if (i 1 : ℕ) ≤ i 0 then 1#1 else 0#1 := by
  have h0 : (i 0 : ℕ) < 2048 := (i 0).isLt
  have h1 : (i 1 : ℕ) < 2048 := (i 1).isLt
  rw [val_main_v73_apply, val_main_v71_apply, val_main_v72_apply, val_main_v69_apply, val_main_v70_apply, val_main_v35_apply, val_main_v35_apply]
  show BitVec.ofBool ((BitVec.ofNat 32 (i 1 : ℕ)).sle (BitVec.ofNat 32 (i 0 : ℕ))) = _
  rw [BitVec.sle_eq_not_slt, slt_small (by omega) (by omega)]
  by_cases h : (i 1 : ℕ) ≤ i 0
  · rw [if_pos h, decide_eq_false (by omega)]; rfl
  · rw [if_neg h, decide_eq_true (by omega)]; rfl

theorem oneEighth : Ideal.ofBits .f32 0x3E000000#32 = (((1 : ℝ) / 8 : ℝ) : EReal) := by
  simp only [Ideal.ofBits, Ideal.ieee]
  simp [← EReal.coe_mul]
  norm_num

/-- The row maximum, as a fold over the row. -/
theorem rowMax (y : FVec Ideal S4x8x2048x2048 .f32) (i : S4x8x2048.Idx) :
    Host.reduce (FloatOps.maximumf (F := Ideal) (φ := .f32)) y (constant (F := Ideal) S_ .f32 0xFF800000#32) reducesTo_S4x8x2048x2048_S4x8x2048_d3 h_S_ i
      = Finset.univ.fold max ⊥ (fun k : Fin 2048 => y (idx_main_v88 i k)) := by
  have hr : S4x8x2048x2048.Reduces [3] S4x8x2048 := by decide
  refine (congrFun (hostReduce_maximumf_eq_multiReduction y 0xFF800000#32 reducesTo_S4x8x2048x2048_S4x8x2048_d3 h_S_ hr (.inl rfl) rfl) i).trans ?_
  refine (Ideal.multiReduction_maximumf_single y _ _ _ _ _).trans ?_
  rw [negInf]
  refine congrArg (Finset.fold max ⊥ · Finset.univ) (funext fun k => congrArg y (funext fun a => Fin.ext ?_))
  match a with
  | ⟨0, _⟩ => rfl
  | ⟨1, _⟩ => rfl
  | ⟨2, _⟩ => rfl
  | ⟨3, _⟩ => rfl

section Stages

variable {X : Vec Ideal S4x2048x6144 .bf16} {x : ℕ → ℕ → ℕ → ℝ} (hX : HoldsX X x)
include hX

theorem v8_apply (i : S4x8x2048x128.Idx) : val_main_v8 (F := Ideal) X i = ((x (i 0) (i 2) ((i 1 : ℕ) * 128 + i 3) : ℝ) : EReal) := by
  obtain ⟨e0, e1, e2⟩ := flat (a := i 0) (R := i 2) (h := i 1) (d := i 3) (i 0).isLt (i 2).isLt (i 1).isLt (i 3).isLt
  rw [val_main_v8_apply, val_main_v7_apply, val_main_v1_apply]
  exact (hX _).trans (coe3 x e0 e1 e2)

theorem v10_apply (i : S4x8x2048x128.Idx) : val_main_v10 (F := Ideal) X i = ((x (i 0) (i 2) (1024 + (i 1 : ℕ) * 128 + i 3) : ℝ) : EReal) := by
  obtain ⟨e0, e1, e2⟩ := flat (a := i 0) (R := i 2) (h := i 1) (d := i 3) (i 0).isLt (i 2).isLt (i 1).isLt (i 3).isLt
  rw [val_main_v10_apply, val_main_v9_apply, val_main_v2_apply]
  exact (hX _).trans (coe3 x e0 e1 ((congrArg (fun t => 1024 + t) e2).trans (Nat.add_assoc _ _ _).symm))

theorem v12_apply (i : S4x8x2048x128.Idx) : val_main_v12 (F := Ideal) X i = ((x (i 0) (i 2) (2048 + (i 1 : ℕ) * 128 + i 3) : ℝ) : EReal) := by
  obtain ⟨e0, e1, e2⟩ := flat (a := i 0) (R := i 2) (h := i 1) (d := i 3) (i 0).isLt (i 2).isLt (i 1).isLt (i 3).isLt
  rw [val_main_v12_apply, val_main_v11_apply, val_main_v3_apply]
  exact (hX _).trans (coe3 x e0 e1 ((congrArg (fun t => 2048 + t) e2).trans (Nat.add_assoc _ _ _).symm))

theorem v76_apply (i : S4x8x2048x2048.Idx) : val_main_v76 (F := Ideal) X i = ((zD x 0 (i 0) (i 1) (i 2) (i 3) : ℝ) : EReal) := by
  rw [val_main_v76_apply, val_main_v74_apply, val_main_v75_apply]
  unfold zD
  rw [EReal.coe_mul, ← coe_sum]
  refine congrArg₂ (· * ·) (Finset.sum_congr rfl fun d _ => ?_) oneEighth
  rw [val_main_v31_apply, val_main_v33_apply, v8_apply hX, v10_apply hX]
  refine Eq.trans (congrArg₂ (· * ·) (coe3 x rfl rfl ?_) (coe3 x rfl rfl ?_)) (EReal.coe_mul _ _).symm
  · exact congrArg ((i 1 : ℕ) * 128 + ·) (Nat.zero_add _).symm
  · exact congrArg (1024 + (i 1 : ℕ) * 128 + ·) (Nat.zero_add _).symm

theorem v94_apply (i : S4x8x2048x2048.Idx) : val_main_v94 (F := Ideal) X i = ((zD x 64 (i 0) (i 1) (i 2) (i 3) : ℝ) : EReal) := by
  rw [val_main_v94_apply, val_main_v92_apply, val_main_v93_apply]
  unfold zD
  rw [EReal.coe_mul, ← coe_sum]
  refine congrArg₂ (· * ·) (Finset.sum_congr rfl fun d _ => ?_) oneEighth
  rw [val_main_v32_apply, val_main_v34_apply, v8_apply hX, v10_apply hX]
  exact (EReal.coe_mul _ _).symm

variable (T : Vec Ideal S32x8 .f32)

theorem v80_apply (i : S4x8x2048x2048.Idx) : val_main_v80 (F := Ideal) X T i = sD x T 0 (i 0) (i 1) (i 2) (i 3) := by
  rw [val_main_v80_apply, val_main_call1_v1_apply, v73_apply, val_main_v79_apply, v76_apply hX, val_main_v78_apply, val_main_v77_apply, v68_apply]
  unfold sD
  show Scalar.select (if (i 3 : ℕ) ≤ (i 2 : ℕ) then 1#1 else 0#1) _ _ = _
  by_cases hle : (i 3 : ℕ) ≤ (i 2 : ℕ)
  · rw [if_pos hle, if_pos hle, ValueIdx.select_one]; rfl
  · rw [if_neg hle, if_neg hle, ValueIdx.select_zero]
    exact negInf

theorem v98_apply (i : S4x8x2048x2048.Idx) : val_main_v98 (F := Ideal) X T i = sD x T 64 (i 0) (i 1) (i 2) (i 3) := by
  rw [val_main_v98_apply, val_main_call2_v1_apply, v73_apply, val_main_v97_apply, v94_apply hX, val_main_v96_apply, val_main_v95_apply, v68_apply]
  unfold sD
  show Scalar.select (if (i 3 : ℕ) ≤ (i 2 : ℕ) then 1#1 else 0#1) _ _ = _
  by_cases hle : (i 3 : ℕ) ≤ (i 2 : ℕ)
  · rw [if_pos hle, if_pos hle, ValueIdx.select_one]; rfl
  · rw [if_neg hle, if_neg hle, ValueIdx.select_zero]
    exact negInf

variable (hT : FiniteT T)
include hT

theorem v91_apply (i : S4x8x2048x2048.Idx) :
    val_main_v91 (F := Ideal) X T i = ((we (sD x T 0 (i 0) (i 1) (i 2) (i 3)) / denD x T 0 (i 0) (i 1) (i 2) : ℝ) : EReal) := by
  have hM : val_main_v81 (F := Ideal) X T (idx_main_v89 (idx_main_v90 i)) = Finset.univ.fold max ⊥ (fun k : Fin 2048 => sD x T 0 (i 0) (i 1) (i 2) k) := by
    unfold val_main_v81 val_main_cst_13
    rw [rowMax]
    exact congrArg (Finset.fold max ⊥ · Finset.univ) (funext fun k => v80_apply hX T _)
  have h87 : ∀ k : Fin 2048, val_main_v87 (F := Ideal) X T (idx_main_v88 (idx_main_v89 (idx_main_v90 i)) k)
      = Ideal.exp (sD x T 0 (i 0) (i 1) (i 2) k - max ⊥ (val_main_v81 (F := Ideal) X T (idx_main_v89 (idx_main_v90 i)))) := fun k => by
    rw [val_main_v87_apply, val_main_v86_apply, v80_apply hX, val_main_v85_apply, val_main_v84_apply, val_main_v83_apply, val_main_v82_apply, ← negInf]
    rfl
  have hi : idx_main_v88 (idx_main_v89 (idx_main_v90 i)) ⟨(i 3 : ℕ), (i 3).isLt⟩ = i := funext fun a => match a with
    | ⟨0, _⟩ => rfl
    | ⟨1, _⟩ => rfl
    | ⟨2, _⟩ => rfl
    | ⟨3, _⟩ => rfl
  have h3 := h87 ⟨(i 3 : ℕ), (i 3).isLt⟩
  rw [hi] at h3
  rw [val_main_v91_apply, val_main_v90_apply, val_main_v89_apply, val_main_v88_apply, Finset.sum_congr rfl fun k _ => h87 k]
  refine (congrArg₂ Ideal.div h3 (congrArg (· + _) Ideal.ofBits_zero_f32)).trans ?_
  refine (softmax_real (fun k : Fin 2048 => sD x T 0 (i 0) (i 1) (i 2) k) (fun k => sD_lt hT x _ _ _ _ _) 0 (sD_gt hT x _ _ _ _ (Nat.zero_le _)) _ hM
    ⟨(i 3 : ℕ), (i 3).isLt⟩).trans ?_
  unfold denD
  rw [Finset.sum_range]

theorem v109_apply (i : S4x8x2048x2048.Idx) :
    val_main_v109 (F := Ideal) X T i = ((we (sD x T 64 (i 0) (i 1) (i 2) (i 3)) / denD x T 64 (i 0) (i 1) (i 2) : ℝ) : EReal) := by
  have hM : val_main_v99 (F := Ideal) X T (idx_main_v107 (idx_main_v108 i)) = Finset.univ.fold max ⊥ (fun k : Fin 2048 => sD x T 64 (i 0) (i 1) (i 2) k) := by
    unfold val_main_v99 val_main_cst_18
    rw [rowMax]
    exact congrArg (Finset.fold max ⊥ · Finset.univ) (funext fun k => v98_apply hX T _)
  have h105 : ∀ k : Fin 2048, val_main_v105 (F := Ideal) X T (idx_main_v106 (idx_main_v107 (idx_main_v108 i)) k)
      = Ideal.exp (sD x T 64 (i 0) (i 1) (i 2) k - max ⊥ (val_main_v99 (F := Ideal) X T (idx_main_v107 (idx_main_v108 i)))) := fun k => by
    rw [val_main_v105_apply, val_main_v104_apply, v98_apply hX, val_main_v103_apply, val_main_v102_apply, val_main_v101_apply, val_main_v100_apply, ← negInf]
    rfl
  have hi : idx_main_v106 (idx_main_v107 (idx_main_v108 i)) ⟨(i 3 : ℕ), (i 3).isLt⟩ = i := funext fun a => match a with
    | ⟨0, _⟩ => rfl
    | ⟨1, _⟩ => rfl
    | ⟨2, _⟩ => rfl
    | ⟨3, _⟩ => rfl
  have h3 := h105 ⟨(i 3 : ℕ), (i 3).isLt⟩
  rw [hi] at h3
  rw [val_main_v109_apply, val_main_v108_apply, val_main_v107_apply, val_main_v106_apply, Finset.sum_congr rfl fun k _ => h105 k]
  refine (congrArg₂ Ideal.div h3 (congrArg (· + _) Ideal.ofBits_zero_f32)).trans ?_
  refine (softmax_real (fun k : Fin 2048 => sD x T 64 (i 0) (i 1) (i 2) k) (fun k => sD_lt hT x _ _ _ _ _) 0 (sD_gt hT x _ _ _ _ (Nat.zero_le _)) _ hM
    ⟨(i 3 : ℕ), (i 3).isLt⟩).trans ?_
  unfold denD
  rw [Finset.sum_range]

variable (a1 a2 a3 a4 : Vec Ideal S1x64 .f32) (L : ℝ) (hL : ∀ i, val_main_v30 (F := Ideal) a1 a2 a3 a4 i = (L : EReal))
include hL

theorem v113_apply (i : S4x8x2048x128.Idx) : val_main_v113 (F := Ideal) X a1 a2 a3 a4 T i = ((oD x T L (i 0) (i 1) (i 2) (i 3) : ℝ) : EReal) := by
  have e : oD x T L (i 0) (i 1) (i 2) (i 3) = ∑ k : Fin 2048, (we (sD x T 0 (i 0) (i 1) (i 2) k) / denD x T 0 (i 0) (i 1) (i 2)
      - L * (we (sD x T 64 (i 0) (i 1) (i 2) k) / denD x T 64 (i 0) (i 1) (i 2))) * x (i 0) k (2048 + (i 1 : ℕ) * 128 + i 3) := by
    unfold oD pvD
    rw [Finset.sum_range, Finset.sum_range, Finset.sum_div, Finset.sum_div, Finset.mul_sum, ← Finset.sum_sub_distrib]
    refine Finset.sum_congr rfl fun k _ => ?_
    ring
  rw [val_main_v113_apply, e, ← coe_sum]
  refine Finset.sum_congr rfl fun k _ => ?_
  rw [val_main_v112_apply, v91_apply hX T hT, val_main_v111_apply, val_main_v110_apply, hL, v109_apply hX T hT, v12_apply hX, EReal.coe_mul, EReal.coe_sub, EReal.coe_mul]
  rfl

theorem v153_apply (G : Vec Ideal S1x128 .f32) (i : S4x2048x1024.Idx) :
    val_main_v153 (F := Ideal) X a1 a2 a3 a4 G T i
      = nD x T L G (i 0) ⟨(i 2 : ℕ) / 128, by have h2 : (i 2 : ℕ) < 1024 := (i 2).isLt; omega⟩ (i 1) ⟨(i 2 : ℕ) % 128, Nat.mod_lt _ (by norm_num)⟩ := by
  obtain ⟨e0, e1, e2, e3⟩ := flat' (a := i 0) (R := i 1) (e := i 2) (i 0).isLt (i 1).isLt (i 2).isLt
  have key : ∀ j : S4x8x2048x128.Idx, val_main_v129 (F := Ideal) X a1 a2 a3 a4 G T j = nD x T L G (j 0) (j 1) (j 2) (j 3) := fun j => by
    rw [val_main_v129_apply, val_main_v127_apply, val_main_v124_apply, v113_apply hX T hT a1 a2 a3 a4 L hL, val_main_v123_apply, val_main_v122_apply,
      val_main_v121_apply, val_main_v119_apply, val_main_v117_apply, val_main_v116_apply, val_main_v126_apply, val_main_v125_apply, val_main_v114_apply]
    unfold nD
    refine congrArg (· * Ideal.ofBits .f32 0x3F4CCCCD#32) (congrArg₂ (· * ·) (congrArg (_ * ·) (congrArg Ideal.rsqrt (congrArg (· + _) (congrArg (Ideal.div · _) ?_)))) (congrArg G ?_))
    · refine (congrArg (· + _) Ideal.ofBits_zero_f32).trans ((zero_add _).trans (Finset.sum_congr rfl fun l _ => ?_))
      rw [val_main_v115_apply, v113_apply hX T hT a1 a2 a3 a4 L hL]
      rfl
    · funext a
      match a with
      | ⟨0, _⟩ => rfl
      | ⟨1, _⟩ => exact Fin.ext (Nat.mod_eq_of_lt (j 3).isLt)
  rw [val_main_v153_apply, val_main_v131_apply, val_main_v130_apply]
  refine (key _).trans ?_
  have f1 : ∀ {b b' R R' : ℕ} {h h' : Fin 8} {d d' : Fin 128}, b = b' → h = h' → R = R' → d = d' → nD x T L G b h R d = nD x T L G b' h' R' d' := by
    rintro _ _ _ _ _ _ _ _ rfl rfl rfl rfl; rfl
  exact f1 e0 (Fin.ext e2) e1 (Fin.ext e3)

end Stages

end Cert.ReferenceIdeal.Attn

end
-- ==== Proof.Attn.MatchDiff.lean ====
/- The kernel's differential attention is the reference's. -/
module

public import proofs.«01_k».proof.Proof.Attn.OaArr
public import proofs.«01_k».proof.Proof.Attn.KBias
public import proofs.«01_k».proof.Proof.Attn.MatchStick
public import proofs.«01_k».proof.Proof.Attn.RefDiff

@[expose] public section

set_option maxRecDepth 16384

noncomputable section

namespace Cert.KernelIdeal.Attn

open Idealize.ShloMosaic Idealize.ShloMosaic.TcCoe Idealize.SL.Sem
open Cert.KernelIdeal Cert.KernelIdeal.Gen
open Cert.ReferenceIdeal.Attn (HoldsX FiniteT bias zD sD denD pvD oD sD_lt sD_gt v153_apply)

/-- A head's columns of a row tile, by column number. -/
def rN (x : ℕ → ℕ → ℕ → ℝ) (b c j : ℕ) : Fin 256 → ℕ → ℝ := fun r d => if j < 8 then x b (256 * j + r) (c * 128 + d) else 0

theorem bias_ne_top {T : Vec Ideal S32x8 .f32} (hT : FiniteT T) (h : Fin 8) (e : BitVec 32) : bias T h e ≠ ⊤ := (hT _).1

theorem biasBlk_rows (T : Vec Ideal S32x8 .f32) (h : Fin 8) (a : Fin 3) (q : Fin 512) : biasBlk (biasRows T) h (ValueIdx.ix3 0 a q) = biasRows T (ValueIdx.ix3 h a q) := rfl

/-- The bias tiles hold the biases of the distances, minus infinity for later keys. -/
theorem biasTile_row (T : Vec Ideal S32x8 .f32) (h : Fin 8) (n : ℕ) (hn : n < 8) (j : ℕ) (hj : j ≤ n) (r c : Fin 256) :
    biasTile (biasBlk (biasRows T) h) (n - j) (ValueIdx.ix3 0 r c)
      = if 256 * j + (c : ℕ) ≤ 256 * n + r then bias T h (IntOp.subi (BitVec.ofNat 32 (256 * n + r)) (BitVec.ofNat 32 (256 * j + c))) else ⊥ := by
  rw [biasTile_apply T h _ (biasBlk_rows T h) (n - j) (by omega) r c]
  by_cases hc : 256 * j + (c : ℕ) ≤ 256 * n + r
  · rw [if_pos hc, if_pos (by omega)]
    refine congrArg (bias T h) (BitVec.eq_of_toNat_eq ?_)
    unfold IntOp.subi
    rw [BitVec.toNat_sub, BitVec.toNat_ofNat, BitVec.toNat_ofNat, BitVec.toNat_ofNat]
    omega
  · rw [if_neg hc, if_neg (by omega)]

theorem biasTile_ne_top {T : Vec Ideal S32x8 .f32} (hT : FiniteT T) (h : Fin 8) (m : ℕ) (hm : m < 8) (r c : Fin 256) :
    biasTile (biasBlk (biasRows T) h) m (ValueIdx.ix3 0 r c) ≠ (⊤ : EReal) := by
  rw [biasTile_apply T h _ (biasBlk_rows T h) m hm r c]
  split
  · exact bias_ne_top hT h _
  · exact bot_ne_top

/-- The first half's scores. -/
abbrev sc1 (X : Vec Ideal S4x2048x6144 .bf16) (T : Vec Ideal S32x8 .f32) (b : Fin 4) (h : Fin 8) (n : ℕ) : ℕ → FVec Ideal S256x256 .f32 := fun j =>
  daS (daQ1 (rowTile (colBlk X b ⟨0 + h, by omega⟩) n)) (rowTile (colBlk X b ⟨8 + h, by omega⟩) j) (biasTile (biasBlk (biasRows T) h) (n - j))

/-- The second half's scores. -/
abbrev sc2 (X : Vec Ideal S4x2048x6144 .bf16) (T : Vec Ideal S32x8 .f32) (b : Fin 4) (h : Fin 8) (n : ℕ) : ℕ → FVec Ideal S256x256 .f32 := fun j =>
  daS (daQ2 (rowTile (colBlk X b ⟨0 + h, by omega⟩) n)) (rowTile (colBlk X b ⟨8 + h, by omega⟩) j) (biasTile (biasBlk (biasRows T) h) (n - j))

section Scores

variable {X : Vec Ideal S4x2048x6144 .bf16} {x : ℕ → ℕ → ℕ → ℝ} (hX : HoldsX X x) (T : Vec Ideal S32x8 .f32) (hT : FiniteT T)
  (b : Fin 4) (h : Fin 8) (n : ℕ) (hn : n < 8)

include hX

theorem sc1_apply (j : ℕ) (r c : Fin 256) :
    sc1 X T b h n j (ValueIdx.ix2 r c) = (((∑ d : Fin 64, rN x b (0 + h) n r d * rN x b (8 + h) j c d) * (1 / 8) : ℝ) : EReal) + biasTile (biasBlk (biasRows T) h) (n - j) (ValueIdx.ix3 0 r c) :=
  daS1_apply (Q := rN x b (0 + h) n) (fun r d => holds_rowTile hX b ⟨0 + h, by omega⟩ n r d) (K := rN x b (8 + h) j) (fun c d => holds_rowTile hX b ⟨8 + h, by omega⟩ j c d) _ r c

theorem sc2_apply (j : ℕ) (r c : Fin 256) :
    sc2 X T b h n j (ValueIdx.ix2 r c) = (((∑ d : Fin 64, rN x b (0 + h) n r (64 + d) * rN x b (8 + h) j c (64 + d)) * (1 / 8) : ℝ) : EReal) + biasTile (biasBlk (biasRows T) h) (n - j) (ValueIdx.ix3 0 r c) :=
  daS2_apply (Q := rN x b (0 + h) n) (fun r d => holds_rowTile hX b ⟨0 + h, by omega⟩ n r d) (K := rN x b (8 + h) j) (fun c d => holds_rowTile hX b ⟨8 + h, by omega⟩ j c d) _ r c

include hn

theorem dot_eq (o j : ℕ) (hj : j < 8) (r c : Fin 256) :
    (∑ d : Fin 64, rN x b (0 + h) n r (o + d) * rN x b (8 + h) j c (o + d)) * (1 / 8) = zD x o b h (256 * n + r) (256 * j + c) := by
  unfold zD rN
  refine congrArg (· * (1 / 8 : ℝ)) (Finset.sum_congr rfl fun d _ => ?_)
  rw [if_pos hn, if_pos hj, zero_add, show (8 + (h : ℕ)) * 128 = 1024 + h * 128 from by ring]

theorem sc1_eq (j : ℕ) (hj : j ≤ n) (r c : Fin 256) : sc1 X T b h n j (ValueIdx.ix2 r c) = sD x T 0 b h (256 * n + r) (256 * j + c) := by
  have e := dot_eq hX b h n hn 0 j (by omega) r c
  simp only [zero_add] at e
  rw [sc1_apply hX, biasTile_row T h n hn j hj r c]
  unfold sD
  by_cases hc : 256 * j + (c : ℕ) ≤ 256 * n + r
  · rw [if_pos hc, if_pos hc, ← e]
    simp only [zero_add]
  · rw [if_neg hc, if_neg hc, EReal.add_bot]

theorem sc2_eq (j : ℕ) (hj : j ≤ n) (r c : Fin 256) : sc2 X T b h n j (ValueIdx.ix2 r c) = sD x T 64 b h (256 * n + r) (256 * j + c) := by
  rw [sc2_apply hX, biasTile_row T h n hn j hj r c, dot_eq hX b h n hn 64 j (by omega) r c]
  unfold sD
  by_cases hc : 256 * j + (c : ℕ) ≤ 256 * n + r
  · rw [if_pos hc, if_pos hc]
  · rw [if_neg hc, if_neg hc, EReal.add_bot]

include hT

theorem sc1_ne_top (j : ℕ) (r c : Fin 256) : sc1 X T b h n j (ValueIdx.ix2 r c) ≠ (⊤ : EReal) := by
  rw [sc1_apply hX]
  exact (EReal.add_lt_top (EReal.coe_ne_top _) (biasTile_ne_top hT h _ (by omega) r c)).ne

theorem sc2_ne_top (j : ℕ) (r c : Fin 256) : sc2 X T b h n j (ValueIdx.ix2 r c) ≠ (⊤ : EReal) := by
  rw [sc2_apply hX]
  exact (EReal.add_lt_top (EReal.coe_ne_top _) (biasTile_ne_top hT h _ (by omega) r c)).ne

/-- A softmax over the tiles up to the row's own is the softmax over the whole row: later keys weigh nothing. -/
theorem softmax_row (o : ℕ) (s : ℕ → FVec Ideal S256x256 .f32) (hs : ∀ j, j ≤ n → ∀ r c : Fin 256, s j (ValueIdx.ix2 r c) = sD x T o b h (256 * n + r) (256 * j + c))
    (h1 : ∀ j (r c : Fin 256), s j (ValueIdx.ix2 r c) ≠ (⊤ : EReal)) (r : Fin 256) (d : Fin 128) :
    daPV s (rowTile (colBlk X b ⟨16 + h, by omega⟩)) n (ValueIdx.ix2 r d) = ((pvD x T o b h (256 * n + r) d : ℝ) : EReal) := by
  have h2 : ∀ r : Fin 256, s 0 (ValueIdx.ix2 r 0) ≠ (⊥ : EReal) := fun r => by
    rw [hs 0 (Nat.zero_le n) r 0]
    exact sD_gt hT x o b h _ (by show 256 * 0 + 0 ≤ _; omega)
  refine (daPV_apply s h1 h2 _ _ (fun j => holds_rowTile hX b ⟨16 + h, by omega⟩ j) n r d).trans ?_
  refine congrArg _ ?_
  have tail : ∀ g : ℕ → ℝ, (∀ k, 256 * (n + 1) ≤ k → g k = 0) → ∑ k ∈ Finset.range 2048, g k = ∑ j ∈ Finset.range (n + 1), ∑ c : Fin 256, g (256 * j + c) := fun g hg => by
    rw [← sum_tiles]
    refine (Finset.sum_subset (Finset.range_mono (by omega)) fun k _ hk => hg k ?_).symm
    rw [Finset.mem_range] at hk
    omega
  have later : ∀ k, 256 * (n + 1) ≤ k → we (sD x T o b h (256 * n + r) k) = 0 := fun k hk => by
    unfold sD
    rw [if_neg (by omega)]
    rfl
  unfold pvD denD
  rw [tail _ later, tail _ fun k hk => by rw [later k hk, zero_mul]]
  refine congrArg₂ (· / ·) (Finset.sum_congr rfl fun j hj => Finset.sum_congr rfl fun c _ => ?_) (Finset.sum_congr rfl fun j hj => Finset.sum_congr rfl fun c _ => ?_)
  · have hj' := Finset.mem_range.mp hj
    rw [hs j (by omega) r c]
    unfold rT
    rw [if_pos (by omega)]
    show _ * x b _ ((16 + (h : ℕ)) * 128 + d) = _
    rw [show (16 + (h : ℕ)) * 128 = 2048 + h * 128 from by ring]
  · rw [hs j (by have := Finset.mem_range.mp hj; omega) r c]

variable (lam : FVec Ideal S1x1 .f32) (L : ℝ) (hlam : lam (ValueIdx.ix2 (0 : Fin 1) (0 : Fin 1)) = (L : EReal))
include hlam

theorem daO_eq (r : Fin 256) (d : Fin 128) :
    daO lam (rowTile (colBlk X b ⟨0 + h, by omega⟩) n) (rowTile (colBlk X b ⟨8 + h, by omega⟩)) (rowTile (colBlk X b ⟨16 + h, by omega⟩)) (fun j => biasTile (biasBlk (biasRows T) h) (n - j)) n (ValueIdx.ix2 r d)
      = ((oD x T L b h (256 * n + r) d : ℝ) : EReal) := by
  have e1 := softmax_row hX T hT b h n hn 0 (sc1 X T b h n) (sc1_eq hX T b h n hn) (sc1_ne_top hX T hT b h n hn) r d
  have e2 := softmax_row hX T hT b h n hn 64 (sc2 X T b h n) (sc2_eq hX T b h n hn) (sc2_ne_top hX T hT b h n hn) r d
  rw [daO_apply, hlam]
  refine (congrArg₂ (fun p q : EReal => p - (L : EReal) * q) e1 e2).trans ?_
  unfold oD
  rw [EReal.coe_sub, EReal.coe_mul]

/-- A tile's entries are the reference's. -/
theorem daOut_eq (g : Vec Ideal S1x128 .f32) (r : Fin 256) (d : Fin 128) :
    daOut lam (rowTile (colBlk X b ⟨0 + h, by omega⟩) n) (rowTile (colBlk X b ⟨8 + h, by omega⟩)) (rowTile (colBlk X b ⟨16 + h, by omega⟩)) (fun j => biasTile (biasBlk (biasRows T) h) (n - j)) g n (ValueIdx.ix3 0 r d)
      = Cert.ReferenceIdeal.Attn.nD x T L g b h (256 * n + r) d := by
  unfold daOut Cert.ReferenceIdeal.Attn.nD
  refine (daNorm_apply _ g r d).trans ?_
  rw [daO_eq hX T hT b h n hn lam L hlam r d, Finset.sum_congr rfl fun l _ => congrArg₂ (· * ·) (daO_eq hX T hT b h n hn lam L hlam r l) (daO_eq hX T hT b h n hn lam L hlam r l)]

end Scores

/-- The kernel's first result is the reference's differential attention. -/
theorem oaArr_eq {X : Vec Ideal S4x2048x6144 .bf16} {x : ℕ → ℕ → ℕ → ℝ} (hX : HoldsX X x) (T : Vec Ideal S32x8 .f32) (hT : FiniteT T)
    (par : Vec Ideal S4x64 .f32) (g G : Vec Ideal S1x128 .f32) (hg : gK g = G) (a1 a2 a3 a4 : Vec Ideal S1x64 .f32) (L : ℝ)
    (hL : ∀ i, Cert.ReferenceIdeal.Read.val_main_v30 (F := Ideal) a1 a2 a3 a4 i = (L : EReal))
    (hK : lamK par (ValueIdx.ix2 (0 : Fin 1) (0 : Fin 1)) = (L : EReal)) :
    oaArr par g (biasRows T) X = Cert.ReferenceIdeal.Read.val_main_v153 (F := Ideal) X a1 a2 a3 a4 G T := by
  funext y
  have h1 : (y 1 : ℕ) < 2048 := (y 1).isLt
  have h2 : (y 2 : ℕ) < 1024 := (y 2).isLt
  rw [v153_apply hX T hT a1 a2 a3 a4 L hL]
  refine (daOut_eq hX T hT (y 0) (hb y) ((y 1 : ℕ) / 256) (by omega) (lamK par) L hK (gK g) ⟨(y 1 : ℕ) % 256, Nat.mod_lt _ (by norm_num)⟩ ⟨(y 2 : ℕ) % 128, Nat.mod_lt _ (by norm_num)⟩).trans ?_
  rw [hg]
  show Cert.ReferenceIdeal.Attn.nD x T L G (y 0) (hb y) (256 * ((y 1 : ℕ) / 256) + (y 1 : ℕ) % 256) _ = _
  rw [Nat.div_add_mod]
  rfl

end Cert.KernelIdeal.Attn

end
-- ==== Proof.Attn.Claims.lean ====
/- The claims about the attention: the frames, the named constant, and the equality of the two programs' results. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Attn.Finite
public import proofs.«01_k».proof.Proof.Attn.Lam
public import proofs.«01_k».proof.Proof.Attn.Out9
public import proofs.«01_k».proof.Proof.Attn.MatchDiff
public import Idealize.ShloMosaic.Lib.Claim
public import Idealize.ShloMosaic.Lib.IdealHost

@[expose] public section

set_option maxRecDepth 16384

noncomputable section

namespace Cert.Proof.AttnClaims

open Idealize.ShloMosaic Idealize.ShloMosaic.TcCoe Idealize.SL.Sem

theorem kernel_runs : Cert.quiescent_Kernel := fun m ρ _ => Cert.Kernel.Gen.frame m ρ

theorem ideal_runs : Cert.quiescent_KernelIdeal := fun m ρ _ => Cert.KernelIdeal.Gen.frame m ρ

theorem ideal_runs_pre : Cert.quiescent_KernelIdeal_pre_finite := fun m ρ _ => Cert.KernelIdeal.Gen.frame m ρ

theorem reference_runs : Cert.quiescent_ReferenceIdeal := fun m ρ _ =>
  (θ_run Cert.ReferenceIdeal.defs _ _).mono (fun r h => ⟨fun c => (h c).2.2, sem_eq_zero_of_no_sems (by decide) r.2⟩) (Cert.ReferenceIdeal.Value.run (F := Ideal) m ρ)

theorem reference_runs_pre : Cert.quiescent_ReferenceIdeal_pre_finite := fun m ρ _ => reference_runs m ρ trivial

theorem constant_kept : Cert.preserves_Kernel_KernelIdeal :=
  IdealRules.named_const.statement Cert.KernelIdeal.κ "neg_log2e" .f32 0xBFB8AA3B#32 ((-((Real.log 2)⁻¹) : ℝ) : EReal) rfl

section Arrays

open Cert.KernelIdeal Cert.KernelIdeal.Gen Cert.KernelIdeal.Attn

/-- The entries of an array of real numbers, by coordinates. -/
def entry (X : Vec Ideal S4x2048x6144 .bf16) (a b c : ℕ) : ℝ :=
  if h : a < 4 ∧ b < 2048 ∧ c < 6144 then EReal.toReal (X (ValueIdx.ix3 (⟨a, h.1⟩ : Fin 4) (⟨b, h.2.1⟩ : Fin 2048) (⟨c, h.2.2⟩ : Fin 6144))) else 0

theorem holds_entry {X : Vec Ideal S4x2048x6144 .bf16} (h : ∀ i, X i ≠ (⊤ : EReal) ∧ X i ≠ (⊥ : EReal)) : Cert.ReferenceIdeal.Attn.HoldsX X (entry X) := fun i => by
  unfold entry
  rw [dif_pos ⟨(i 0).isLt, (i 1).isLt, (i 2).isLt⟩]
  have e : ValueIdx.ix3 (⟨(i 0 : ℕ), (i 0).isLt⟩ : Fin 4) (⟨(i 1 : ℕ), (i 1).isLt⟩ : Fin 2048) (⟨(i 2 : ℕ), (i 2).isLt⟩ : Fin 6144) = i := funext fun a => match a with
    | ⟨0, _⟩ => rfl
    | ⟨1, _⟩ => rfl
    | ⟨2, _⟩ => rfl
  exact (EReal.coe_toReal (h i).1 (h i).2).symm.trans (congrArg (fun z => ((EReal.toReal (X z) : ℝ) : EReal)) e.symm)

variable (m : (ℓ : Loc nD τ sig) → Buf (Elt Ideal) ℓ) (hm : Cert.Pre_KernelIdeal_finite m) (c : Dev nD)
include hm

/-- The kernel's first result. -/
theorem first_result : (dats m 0 c).arrAt 9 cfg0.N
    = Cert.ReferenceIdeal.Read.val_main_v153 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) := by
  obtain ⟨h0, h1, h2, h3, h4, h6⟩ := Cert.Pre_finite.Attn.fin_args (hm c)
  obtain ⟨L, hL⟩ := lamOf_real h1 h2 h3 h4
  rw [final9, V_rows, V_par, V_norm]
  exact oaArr_eq (holds_entry h0) _ h6 _ _ _ (gK_norm _) _ _ _ _ L (fun i => (lamR _ _ _ _ i).trans hL) ((lamK_par _ _ _ _).trans hL)

/-- The kernel's second result. -/
theorem second_result : (dats m 0 c).arrAt 10 cfg0.N = Cert.ReferenceIdeal.Read.val_main_v154 (F := Ideal) (m ((c : Thread nD τ).loc main_arg0)) := by
  obtain ⟨h0, _⟩ := Cert.Pre_finite.Attn.fin_args (hm c)
  rw [final10]
  exact obArr_eq (holds_entry h0)

end Arrays

/-- The reference's run, its results named. -/
theorem reference_results (m : (ℓ : Loc Cert.ReferenceIdeal.nD Cert.ReferenceIdeal.τ Cert.ReferenceIdeal.sig) → Buf (Elt Ideal) ℓ) (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v153) = Cert.ReferenceIdeal.Read.val_main_v153 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))
      ∧ r.2.mem ((c.tc : Thread Cert.ReferenceIdeal.nD Cert.ReferenceIdeal.τ).loc Cert.ReferenceIdeal.main_v154) = Cert.ReferenceIdeal.Read.val_main_v154 (F := Ideal) (m ((c.tc : Thread Cert.ReferenceIdeal.nD Cert.ReferenceIdeal.τ).loc Cert.ReferenceIdeal.main_arg0))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6) :=
  (θ_run Cert.ReferenceIdeal.defs _ _).mono
    (fun r h c => ⟨(h c).1.trans (Cert.ReferenceIdeal.Read.val_main_v153_eq (StableHlo.launchContents m c)), (h c).2.1.trans (Cert.ReferenceIdeal.Read.val_main_v154_eq (StableHlo.launchContents m c)), (h c).2.2⟩)
    (Cert.ReferenceIdeal.Value.run (F := Ideal) m ρ)

/-- From equal arguments the two programs end with equal results. -/
theorem same_results : Cert.algebraic_KernelIdeal_ReferenceIdeal_pre_finite := by
  pair_intro
  · run_from Cert.KernelIdeal.Value.run_blocks m g
  · run_from reference_results m' g'
    · exact (first_result m hpre c).symm
    · exact (second_result m hpre c).symm

end Cert.Proof.AttnClaims

end
-- ==== Proof.Proj.Qkv.lean ====
/- The projection call of the queries, keys and values: every block of its result is the product of a block of rows with a block of weight columns. -/
module

public import proofs.«01_k».proof.Proof.Gen.KernelQkvIdeal.Value
public import proofs.«01_k».proof.Proof.Gen.ReferenceQkvIdeal.Read
public import Idealize.ShloMosaic.Lib.Pipeline.ValueKit
public import Idealize.ShloMosaic.Lib.MatmulPlain
public import Idealize.ShloMosaic.Lib.ValueLayout

@[expose] public section

set_option maxRecDepth 16384

noncomputable section

namespace Cert.KernelQkvIdeal.Proj

open Idealize.ShloMosaic Idealize.ShloMosaic.TcCoe Idealize.ShloMosaic.Tactic Idealize.SL.Sem

open Cert.KernelQkvIdeal Cert.KernelQkvIdeal.Gen

/-- The rows of block `i`. -/
def rowsBlk (X : Vec Ideal S8192x2048 .bf16) (i : Fin 4) : Vec Ideal S2048x2048 .bf16 :=
  fun x => X (ValueIdx.ix2 (⟨(i : ℕ) * 2048 + (x 0 : ℕ), by have h : (x 0 : ℕ) < 2048 := (x 0).isLt; have := i.isLt; omega⟩ : Fin 8192) (⟨(x 1 : ℕ), (x 1).isLt⟩ : Fin 2048))

/-- The weight columns of block `j`. -/
def colsBlk (W : Vec Ideal S1x2048x10240 .f32) (j : Fin 6) : Vec Ideal S1x2048x1024 .f32 :=
  fun x => W (ValueIdx.ix3 (0 : Fin 1) (⟨(x 1 : ℕ), (x 1).isLt⟩ : Fin 2048) (⟨(j : ℕ) * 1024 + (x 2 : ℕ), by have h : (x 2 : ℕ) < 1024 := (x 2).isLt; have := j.isLt; omega⟩ : Fin 10240))

theorem idx : ∀ t : Fin cfg0.N, win0_0.index t = ![t.val % 4, 0] ∧ win0_1.index t = ![0, 0, t.val / 4] ∧ win0_2.index t = ![t.val % 4, t.val / 4] :=
  (by decide +kernel : ∀ t : Fin grid0.N, _)

theorem lt24 (t : Fin cfg0.N) : (t : ℕ) < 24 := t.isLt

variable (m : (ℓ : Loc nD τ sig) → Buf (Elt Ideal) ℓ) (c : Dev nD)

theorem iblk0 (t : Fin cfg0.N) : iblk m c 0 t = rowsBlk (m ((c : Thread nD τ).loc main_arg0)) ⟨t.val % 4, by omega⟩ := by
  funext x
  unfold rowsBlk
  blk_ext [iblk, V, idx t]

theorem iblk1 (t : Fin cfg0.N) : iblk m c 1 t = colsBlk (m ((c : Thread nD τ).loc main_arg1)) ⟨t.val / 4, by have := lt24 t; omega⟩ := by
  funext x
  unfold colsBlk
  blk_ext [iblk, V, idx t]

/-- The weight block that the scratch holds after point `n` is the one of the point's columns: the first point of a column block stores it, the
    later ones keep it. -/
theorem scratch : ∀ (n : ℕ) (hn : n < cfg0.N), (outsAt0 m c n hn).2
    = k0_pay1 (colsBlk (m ((c : Thread nD τ).loc main_arg1)) ⟨n / 4, by have := lt24 ⟨n, hn⟩; dsimp only at this; omega⟩) := by
  intro n
  induction n with
  | zero =>
    intro hn
    rw [outsAt0_A m c ⟨0, hn⟩ (Nat.zero_mod _)]
    frame_out
    rw [iblk1]
  | succ n ih =>
    intro hn
    by_cases h0 : (n + 1) % 4 = 0
    · rw [outsAt0_A m c ⟨n + 1, hn⟩ h0]
      frame_out
      rw [iblk1]
    · rw [outsAt0_B m c ⟨n + 1, hn⟩ h0]
      refine (ih (Nat.lt_of_succ_lt hn)).trans ?_
      refine congrArg (fun j => k0_pay1 (colsBlk (m ((c : Thread nD τ).loc main_arg1)) j)) (Fin.ext ?_)
      show n / 4 = (n + 1) / 4
      omega

theorem block (t : Fin cfg0.N) : (outsAt0 m c t.val t.isLt).1
    = k0_pay2 (rowsBlk (m ((c : Thread nD τ).loc main_arg0)) ⟨t.val % 4, by omega⟩) (k0_pay1 (colsBlk (m ((c : Thread nD τ).loc main_arg1)) ⟨t.val / 4, by have := lt24 t; omega⟩)) := by
  by_cases h0 : t.val % 4 = 0
  · rw [outsAt0_A m c t h0]
    frame_out
    rw [iblk0, iblk1]
  · rw [outsAt0_B m c t h0]
    frame_out
    rw [iblk0, scratch]
    refine (congrArg (k0_pay2 _) (Memref.IsWhole.read_unread _ _)).trans ?_
    refine congrArg (fun j => k0_pay2 (rowsBlk (m ((c : Thread nD τ).loc main_arg0)) ⟨t.val % 4, by omega⟩) (k0_pay1 (colsBlk (m ((c : Thread nD τ).loc main_arg1)) j))) (Fin.ext ?_)
    show (t.val - 1) / 4 = t.val / 4
    omega

/-- One element of the rounded weight block. -/
theorem w_apply (w : Vec Ideal S1x2048x1024 .f32) (k : Fin 2048) (j : Fin 1024) : k0_pay1 w (ValueIdx.ix2 k j) = w (ValueIdx.ix3 (0 : Fin 1) k j) := by
  unfold k0_pay1
  rw [shapeCast_self]
  show shapeCast S2048x1024 w shapeCasts_S1x2048x1024_S2048x1024 (ValueIdx.ix2 k j) = _
  exact ValueIdx.shapeCast_1ab_ab_apply w shapeCasts_S1x2048x1024_S2048x1024 k j

/-- One element of a block of the result. -/
theorem pay_apply (x : Vec Ideal S2048x2048 .bf16) (w : Vec Ideal S1x2048x1024 .f32) (y : S2048x1024.Idx) :
    k0_pay2 x (k0_pay1 w) y = ∑ k : Fin 2048, x (ValueIdx.ix2 (⟨(y 0 : ℕ), (y 0).isLt⟩ : Fin 2048) k) * w (ValueIdx.ix3 (0 : Fin 1) k (⟨(y 1 : ℕ), (y 1).isLt⟩ : Fin 1024)) := by
  have e : (ValueIdx.ix2 (⟨(y 0 : ℕ), (y 0).isLt⟩ : Fin 2048) (⟨(y 1 : ℕ), (y 1).isLt⟩ : Fin 1024) : S2048x1024.Idx) = y := funext fun a => match a with
    | ⟨0, _⟩ => rfl
    | ⟨1, _⟩ => rfl
  conv_lhs => rw [← e]
  refine (Ideal.matmul_plain_apply (M := 2048) (K := 2048) (N := 1024) (φ₁ := .bf16) (φ₂ := .bf16) none x (k0_pay1 w) _ _ _).trans ?_
  rw [show constant (F := Ideal) S2048x1024 .f32 0x00000000#32 _ = (0 : EReal) from Ideal.ofBits_zero_f32, zero_add]
  exact Finset.sum_congr rfl fun k _ => by rw [w_apply]

/-- One element of the reference's result. -/
theorem ref_apply (X : Vec Ideal S8192x2048 .bf16) (W : Vec Ideal S1x2048x10240 .f32) (i : S8192x6144.Idx) :
    Cert.ReferenceQkvIdeal.Read.val_main_v4 (F := Ideal) X W i
      = ∑ k : Fin 2048, X (ValueIdx.ix2 (⟨(i 0 : ℕ), (i 0).isLt⟩ : Fin 8192) k) * W (ValueIdx.ix3 (0 : Fin 1) k (⟨(i 1 : ℕ), by have h : (i 1 : ℕ) < 6144 := (i 1).isLt; omega⟩ : Fin 10240)) := by
  rw [Cert.ReferenceQkvIdeal.Read.val_main_v4_apply, Cert.ReferenceQkvIdeal.Read.val_main_v3_apply]
  refine (Cert.ReferenceQkvIdeal.Read.val_main_v2_apply X W _).trans ?_
  refine Finset.sum_congr rfl fun k _ => ?_
  rw [Cert.ReferenceQkvIdeal.Read.val_main_v0_apply, Cert.ReferenceQkvIdeal.Read.val_main_v1_apply]
  have h : (i 1 : ℕ) < 6144 := (i 1).isLt
  have hk := k.isLt
  refine congrArg₂ (· * ·) (congrArg X (funext fun a => ?_)) (congrArg W (funext fun a => ?_))
  · match a with
    | ⟨0, _⟩ => rfl
    | ⟨1, _⟩ => rfl
  · match a with
    | ⟨0, _⟩ => rfl
    | ⟨1, _⟩ => exact Fin.ext (by show ((k : ℕ) * 10240 + (i 1 : ℕ)) / 10240 % 2048 = k; omega)
    | ⟨2, _⟩ => exact Fin.ext (by show ((k : ℕ) * 10240 + (i 1 : ℕ)) % 10240 = (i 1 : ℕ); omega)

/-- An element of a block of the kernel's result is the reference's element at the block's place. -/
theorem block_eq (X : Vec Ideal S8192x2048 .bf16) (W : Vec Ideal S1x2048x10240 .f32) (i : Fin 4) (j : Fin 6) (y : S2048x1024.Idx) (z : S8192x6144.Idx)
    (e0 : (z 0 : ℕ) = (i : ℕ) * 2048 + (y 0 : ℕ)) (e1 : (z 1 : ℕ) = (j : ℕ) * 1024 + (y 1 : ℕ)) :
    k0_pay2 (rowsBlk X i) (k0_pay1 (colsBlk W j)) y = Cert.ReferenceQkvIdeal.Read.val_main_v4 (F := Ideal) X W z := by
  rw [pay_apply, ref_apply]
  refine Finset.sum_congr rfl fun k _ => ?_
  have a0 : rowsBlk X i (ValueIdx.ix2 (⟨(y 0 : ℕ), (y 0).isLt⟩ : Fin 2048) k) = X (ValueIdx.ix2 (⟨(z 0 : ℕ), (z 0).isLt⟩ : Fin 8192) k) := by
    refine congrArg X (funext fun a => ?_)
    match a with
    | ⟨0, _⟩ => exact Fin.ext e0.symm
    | ⟨1, _⟩ => rfl
  have a1 : colsBlk W j (ValueIdx.ix3 (0 : Fin 1) k (⟨(y 1 : ℕ), (y 1).isLt⟩ : Fin 1024))
      = W (ValueIdx.ix3 (0 : Fin 1) k (⟨(z 1 : ℕ), by have h : (z 1 : ℕ) < 6144 := (z 1).isLt; omega⟩ : Fin 10240)) := by
    refine congrArg W (funext fun a => ?_)
    match a with
    | ⟨0, _⟩ => rfl
    | ⟨1, _⟩ => rfl
    | ⟨2, _⟩ => exact Fin.ext e1.symm
  rw [a0, a1]

theorem at2 (t : Fin cfg0.N) (y : S2048x1024.Idx) :
    ((((cfg0.win 2).blk t).view.emb y : S8192x6144.Idx) 0 : ℕ) = t.val % 4 * 2048 + (y 0 : ℕ) ∧ ((((cfg0.win 2).blk t).view.emb y : S8192x6144.Idx) 1 : ℕ) = t.val / 4 * 1024 + (y 1 : ℕ) := by
  constructor <;> blk_simp [idx t] <;> simp <;> omega

/-- The kernel's result is the reference's. -/
theorem result : (dats m 0 c).arrAt 2 cfg0.N
    = Cert.ReferenceQkvIdeal.Read.val_main_v4 (F := Ideal) (m ((c : Thread nD τ).loc main_arg0)) (m ((c : Thread nD τ).loc main_arg1)) := by
  refine (dats m 0 c).arrAt_eq_of_covers 2 _ (by decide +kernel) fun t _ y => ?_
  obtain ⟨e0, e1⟩ := at2 t y
  rw [after0_2, block]
  exact (cast_eq _ _).trans (block_eq _ _ _ _ _ _ e0 e1)

end Cert.KernelQkvIdeal.Proj

end
-- ==== Proof.Proj.Gates.lean ====
/- The projection call of the gates: every block of its result is the sigmoid of the product of a block of rows with a block of weight columns. -/
module

public import proofs.«01_k».proof.Proof.Gen.KernelGatesIdeal.Value
public import proofs.«01_k».proof.Proof.Gen.ReferenceGatesIdeal.Read
public import Idealize.ShloMosaic.Lib.Pipeline.ValueKit
public import Idealize.ShloMosaic.Lib.MatmulPlain
public import Idealize.ShloMosaic.Lib.ValueLayout

@[expose] public section

set_option maxRecDepth 16384

noncomputable section

namespace Cert.KernelGatesIdeal.Proj

open Idealize.ShloMosaic Idealize.ShloMosaic.TcCoe Idealize.ShloMosaic.Tactic Idealize.SL.Sem

open Cert.KernelGatesIdeal Cert.KernelGatesIdeal.Gen

/-- The rows of block `i`. -/
def rowsBlk (X : Vec Ideal S8192x2048 .bf16) (i : Fin 8) : Vec Ideal S1024x2048 .bf16 :=
  fun x => X (ValueIdx.ix2 (⟨(i : ℕ) * 1024 + (x 0 : ℕ), by have h : (x 0 : ℕ) < 1024 := (x 0).isLt; have := i.isLt; omega⟩ : Fin 8192) (⟨(x 1 : ℕ), (x 1).isLt⟩ : Fin 2048))

/-- The weight columns of block `j`. -/
def colsBlk (W : Vec Ideal S1x2048x10240 .f32) (j : Fin 4) : Vec Ideal S1x2048x1024 .f32 :=
  fun x => W (ValueIdx.ix3 (0 : Fin 1) (⟨(x 1 : ℕ), (x 1).isLt⟩ : Fin 2048) (⟨((j : ℕ) + 6) * 1024 + (x 2 : ℕ), by have h : (x 2 : ℕ) < 1024 := (x 2).isLt; have := j.isLt; omega⟩ : Fin 10240))

theorem idx : ∀ t : Fin cfg0.N, win0_0.index t = ![t.val % 8, 0] ∧ win0_1.index t = ![0, 0, t.val / 8 + 6] ∧ win0_2.index t = ![t.val % 8, t.val / 8] :=
  (by decide +kernel : ∀ t : Fin grid0.N, _)

theorem lt32 (t : Fin cfg0.N) : (t : ℕ) < 32 := t.isLt

variable (m : (ℓ : Loc nD τ sig) → Buf (Elt Ideal) ℓ) (c : Dev nD)

theorem iblk0 (t : Fin cfg0.N) : iblk m c 0 t = rowsBlk (m ((c : Thread nD τ).loc main_arg0)) ⟨t.val % 8, by omega⟩ := by
  funext x
  unfold rowsBlk
  blk_ext [iblk, V, idx t]

theorem iblk1 (t : Fin cfg0.N) : iblk m c 1 t = colsBlk (m ((c : Thread nD τ).loc main_arg1)) ⟨t.val / 8, by have := lt32 t; omega⟩ := by
  funext x
  unfold colsBlk
  blk_ext [iblk, V, idx t]

/-- The weight block that the scratch holds after point `n` is the one of the point's columns: the first point of a column block stores it, the
    later ones keep it. -/
theorem scratch : ∀ (n : ℕ) (hn : n < cfg0.N), (outsAt0 m c n hn).2
    = k0_pay1 (colsBlk (m ((c : Thread nD τ).loc main_arg1)) ⟨n / 8, by have := lt32 ⟨n, hn⟩; dsimp only at this; omega⟩) := by
  intro n
  induction n with
  | zero =>
    intro hn
    rw [outsAt0_A m c ⟨0, hn⟩ (Nat.zero_mod _)]
    frame_out
    rw [iblk1]
  | succ n ih =>
    intro hn
    by_cases h0 : (n + 1) % 8 = 0
    · rw [outsAt0_A m c ⟨n + 1, hn⟩ h0]
      frame_out
      rw [iblk1]
    · rw [outsAt0_B m c ⟨n + 1, hn⟩ h0]
      refine (ih (Nat.lt_of_succ_lt hn)).trans ?_
      refine congrArg (fun j => k0_pay1 (colsBlk (m ((c : Thread nD τ).loc main_arg1)) j)) (Fin.ext ?_)
      show n / 8 = (n + 1) / 8
      omega

theorem block (t : Fin cfg0.N) : (outsAt0 m c t.val t.isLt).1
    = k0_pay2 (rowsBlk (m ((c : Thread nD τ).loc main_arg0)) ⟨t.val % 8, by omega⟩) (k0_pay1 (colsBlk (m ((c : Thread nD τ).loc main_arg1)) ⟨t.val / 8, by have := lt32 t; omega⟩)) := by
  by_cases h0 : t.val % 8 = 0
  · rw [outsAt0_A m c t h0]
    frame_out
    rw [iblk0, iblk1]
  · rw [outsAt0_B m c t h0]
    frame_out
    rw [iblk0, scratch]
    refine (congrArg (k0_pay2 _) (Memref.IsWhole.read_unread _ _)).trans ?_
    refine congrArg (fun j => k0_pay2 (rowsBlk (m ((c : Thread nD τ).loc main_arg0)) ⟨t.val % 8, by omega⟩) (k0_pay1 (colsBlk (m ((c : Thread nD τ).loc main_arg1)) j))) (Fin.ext ?_)
    show (t.val - 1) / 8 = t.val / 8
    omega

/-- One element of the rounded weight block. -/
theorem w_apply (w : Vec Ideal S1x2048x1024 .f32) (k : Fin 2048) (j : Fin 1024) : k0_pay1 w (ValueIdx.ix2 k j) = w (ValueIdx.ix3 (0 : Fin 1) k j) := by
  unfold k0_pay1
  rw [shapeCast_self]
  show shapeCast S2048x1024 w shapeCasts_S1x2048x1024_S2048x1024 (ValueIdx.ix2 k j) = _
  exact ValueIdx.shapeCast_1ab_ab_apply w shapeCasts_S1x2048x1024_S2048x1024 k j

/-- The sigmoid, as both sides write it. -/
def sgm (v : EReal) : EReal := Ideal.div 1 (1 + Ideal.exp (0 - v))

/-- One element of a block of the result. -/
theorem pay_apply (x : Vec Ideal S1024x2048 .bf16) (w : Vec Ideal S1x2048x1024 .f32) (y : S1024x1024.Idx) :
    k0_pay2 x (k0_pay1 w) y = sgm (∑ k : Fin 2048, x (ValueIdx.ix2 (⟨(y 0 : ℕ), (y 0).isLt⟩ : Fin 1024) k) * w (ValueIdx.ix3 (0 : Fin 1) k (⟨(y 1 : ℕ), (y 1).isLt⟩ : Fin 1024))) := by
  have e : (ValueIdx.ix2 (⟨(y 0 : ℕ), (y 0).isLt⟩ : Fin 1024) (⟨(y 1 : ℕ), (y 1).isLt⟩ : Fin 1024) : S1024x1024.Idx) = y := funext fun a => match a with
    | ⟨0, _⟩ => rfl
    | ⟨1, _⟩ => rfl
  have hm : matmul (F := Ideal) (φ₁ := .bf16) (φ₂ := .bf16) dot_S1024x2048_S2048x1024_S1024x1024_1_0_0_1_n_n none x (k0_pay1 w) (constant S1024x1024 .f32 0x00000000#32) y
      = ∑ k : Fin 2048, x (ValueIdx.ix2 (⟨(y 0 : ℕ), (y 0).isLt⟩ : Fin 1024) k) * w (ValueIdx.ix3 (0 : Fin 1) k (⟨(y 1 : ℕ), (y 1).isLt⟩ : Fin 1024)) := by
    conv_lhs => rw [← e]
    refine (Ideal.matmul_plain_apply (M := 1024) (K := 2048) (N := 1024) (φ₁ := .bf16) (φ₂ := .bf16) none x (k0_pay1 w) _ _ _).trans ?_
    rw [show constant (F := Ideal) S1024x1024 .f32 0x00000000#32 _ = (0 : EReal) from Ideal.ofBits_zero_f32, zero_add]
    exact Finset.sum_congr rfl fun k _ => by rw [w_apply]
  rw [← hm]
  show Ideal.div (Ideal.ofBits .f32 0x3F800000#32) (Ideal.ofBits .f32 0x3F800000#32 + Ideal.exp (Ideal.ofBits .f32 0x00000000#32 - _)) = _
  rw [Ideal.ofBits_one_f32, Ideal.ofBits_zero_f32]
  rfl

/-- One element of the reference's product. -/
theorem ref_prod (X : Vec Ideal S8192x2048 .bf16) (W : Vec Ideal S1x2048x10240 .f32) (i : S8192x4096.Idx) :
    Cert.ReferenceGatesIdeal.Read.val_main_v3 (F := Ideal) X W i
      = ∑ k : Fin 2048, X (ValueIdx.ix2 (⟨(i 0 : ℕ), (i 0).isLt⟩ : Fin 8192) k) * W (ValueIdx.ix3 (0 : Fin 1) k (⟨6144 + (i 1 : ℕ), by have h : (i 1 : ℕ) < 4096 := (i 1).isLt; omega⟩ : Fin 10240)) := by
  rw [Cert.ReferenceGatesIdeal.Read.val_main_v3_apply]
  refine (Cert.ReferenceGatesIdeal.Read.val_main_v2_apply X W _).trans ?_
  refine Finset.sum_congr rfl fun k _ => ?_
  rw [Cert.ReferenceGatesIdeal.Read.val_main_v0_apply, Cert.ReferenceGatesIdeal.Read.val_main_v1_apply]
  have h : (i 1 : ℕ) < 4096 := (i 1).isLt
  have hk := k.isLt
  refine congrArg₂ (· * ·) (congrArg X (funext fun a => ?_)) (congrArg W (funext fun a => ?_))
  · match a with
    | ⟨0, _⟩ => rfl
    | ⟨1, _⟩ => rfl
  · match a with
    | ⟨0, _⟩ => rfl
    | ⟨1, _⟩ => exact Fin.ext (by show ((k : ℕ) * 10240 + (6144 + (i 1 : ℕ))) / 10240 % 2048 = k; omega)
    | ⟨2, _⟩ => exact Fin.ext (by show ((k : ℕ) * 10240 + (6144 + (i 1 : ℕ))) % 10240 = 6144 + (i 1 : ℕ); omega)

/-- One element of the reference's result. -/
theorem ref_apply (X : Vec Ideal S8192x2048 .bf16) (W : Vec Ideal S1x2048x10240 .f32) (i : S8192x4096.Idx) :
    Cert.ReferenceGatesIdeal.Read.val_main_v9 (F := Ideal) X W i
      = sgm (∑ k : Fin 2048, X (ValueIdx.ix2 (⟨(i 0 : ℕ), (i 0).isLt⟩ : Fin 8192) k) * W (ValueIdx.ix3 (0 : Fin 1) k (⟨6144 + (i 1 : ℕ), by have h : (i 1 : ℕ) < 4096 := (i 1).isLt; omega⟩ : Fin 10240))) := by
  rw [← ref_prod, Cert.ReferenceGatesIdeal.Read.val_main_v9_apply, Cert.ReferenceGatesIdeal.Read.val_main_v8_apply, Cert.ReferenceGatesIdeal.Read.val_main_cst_0_apply,
    Cert.ReferenceGatesIdeal.Read.val_main_v7_apply, Cert.ReferenceGatesIdeal.Read.val_main_v6_apply, Cert.ReferenceGatesIdeal.Read.val_main_cst_apply,
    Cert.ReferenceGatesIdeal.Read.val_main_v5_apply, Cert.ReferenceGatesIdeal.Read.val_main_v4_apply]
  generalize Cert.ReferenceGatesIdeal.Read.val_main_v3 (F := Ideal) X W i = v
  show Ideal.div (Ideal.ofBits .f32 0x3F800000#32) (Ideal.ofBits .f32 0x3F800000#32 + Ideal.exp (-v)) = _
  rw [Ideal.ofBits_one_f32]
  unfold sgm
  rw [zero_sub]

/-- An element of a block of the kernel's result is the reference's element at the block's place. -/
theorem block_eq (X : Vec Ideal S8192x2048 .bf16) (W : Vec Ideal S1x2048x10240 .f32) (i : Fin 8) (j : Fin 4) (y : S1024x1024.Idx) (z : S8192x4096.Idx)
    (e0 : (z 0 : ℕ) = (i : ℕ) * 1024 + (y 0 : ℕ)) (e1 : (z 1 : ℕ) = (j : ℕ) * 1024 + (y 1 : ℕ)) :
    k0_pay2 (rowsBlk X i) (k0_pay1 (colsBlk W j)) y = Cert.ReferenceGatesIdeal.Read.val_main_v9 (F := Ideal) X W z := by
  rw [pay_apply, ref_apply]
  refine congrArg sgm ?_
  refine Finset.sum_congr rfl fun k _ => ?_
  have a0 : rowsBlk X i (ValueIdx.ix2 (⟨(y 0 : ℕ), (y 0).isLt⟩ : Fin 1024) k) = X (ValueIdx.ix2 (⟨(z 0 : ℕ), (z 0).isLt⟩ : Fin 8192) k) := by
    refine congrArg X (funext fun a => ?_)
    match a with
    | ⟨0, _⟩ => exact Fin.ext e0.symm
    | ⟨1, _⟩ => rfl
  have a1 : colsBlk W j (ValueIdx.ix3 (0 : Fin 1) k (⟨(y 1 : ℕ), (y 1).isLt⟩ : Fin 1024))
      = W (ValueIdx.ix3 (0 : Fin 1) k (⟨6144 + (z 1 : ℕ), by have h : (z 1 : ℕ) < 4096 := (z 1).isLt; omega⟩ : Fin 10240)) := by
    refine congrArg W (funext fun a => ?_)
    match a with
    | ⟨0, _⟩ => rfl
    | ⟨1, _⟩ => rfl
    | ⟨2, _⟩ => exact Fin.ext (by show ((j : ℕ) + 6) * 1024 + (y 1 : ℕ) = 6144 + (z 1 : ℕ); omega)
  rw [a0, a1]

theorem at2 (t : Fin cfg0.N) (y : S1024x1024.Idx) :
    ((((cfg0.win 2).blk t).view.emb y : S8192x4096.Idx) 0 : ℕ) = t.val % 8 * 1024 + (y 0 : ℕ) ∧ ((((cfg0.win 2).blk t).view.emb y : S8192x4096.Idx) 1 : ℕ) = t.val / 8 * 1024 + (y 1 : ℕ) := by
  constructor <;> blk_simp [idx t] <;> simp <;> omega

/-- The kernel's result is the reference's. -/
theorem result : (dats m 0 c).arrAt 2 cfg0.N
    = Cert.ReferenceGatesIdeal.Read.val_main_v9 (F := Ideal) (m ((c : Thread nD τ).loc main_arg0)) (m ((c : Thread nD τ).loc main_arg1)) := by
  refine (dats m 0 c).arrAt_eq_of_covers 2 _ (by decide +kernel) fun t _ y => ?_
  obtain ⟨e0, e1⟩ := at2 t y
  rw [after0_2, block]
  exact (cast_eq _ _).trans (block_eq _ _ _ _ _ _ e0 e1)

end Cert.KernelGatesIdeal.Proj

end
-- ==== Proof.Proj.Claims.lean ====
/- The claims about the two projection calls: the frames, and the equality of each call's result with its reference's. -/
module

public import proofs.«01_k».proof.Defs
public import proofs.«01_k».proof.Proof.Gen.KernelQkv.Frame
public import proofs.«01_k».proof.Proof.Gen.KernelQkvIdeal.Frame
public import proofs.«01_k».proof.Proof.Gen.ReferenceQkvIdeal.Run
public import proofs.«01_k».proof.Proof.Gen.KernelGates.Frame
public import proofs.«01_k».proof.Proof.Gen.KernelGatesIdeal.Frame
public import proofs.«01_k».proof.Proof.Gen.ReferenceGatesIdeal.Run
public import proofs.«01_k».proof.Proof.Proj.Qkv
public import proofs.«01_k».proof.Proof.Proj.Gates
public import Idealize.ShloMosaic.Lib.Claim
public import Idealize.ShloMosaic.Lib.IdealHost

@[expose] public section

set_option maxRecDepth 16384

noncomputable section

namespace Cert.Proof.ProjClaims

open Idealize.ShloMosaic Idealize.ShloMosaic.TcCoe Idealize.SL.Sem

theorem qkv_kernel_runs : Cert.quiescent_KernelQkv := fun m ρ _ => Cert.KernelQkv.Gen.frame m ρ

theorem qkv_ideal_runs : Cert.quiescent_KernelQkvIdeal := fun m ρ _ => Cert.KernelQkvIdeal.Gen.frame m ρ

theorem qkv_reference_runs : Cert.quiescent_ReferenceQkvIdeal := fun m ρ _ =>
  (θ_run Cert.ReferenceQkvIdeal.defs _ _).mono (fun r h => ⟨fun c => (h c).2, sem_eq_zero_of_no_sems (by decide) r.2⟩) (Cert.ReferenceQkvIdeal.Value.run (F := Ideal) m ρ)

/-- The reference's run, its result named. -/
theorem qkv_reference_result (m : (ℓ : Loc Cert.ReferenceQkvIdeal.nD Cert.ReferenceQkvIdeal.τ Cert.ReferenceQkvIdeal.sig) → Buf (Elt Ideal) ℓ) (ρ : Dev Cert.ReferenceQkvIdeal.nD → PrngReg) :
    θ_run Cert.ReferenceQkvIdeal.defs (onTc (τ := Cert.ReferenceQkvIdeal.τ) (Cert.ReferenceQkvIdeal.main (F := Ideal))) ⟨m, fun _ => 0, ρ⟩ fun r => ∀ c : Dev Cert.ReferenceQkvIdeal.nD,
      r.2.mem ((c.tc : Thread Cert.ReferenceQkvIdeal.nD Cert.ReferenceQkvIdeal.τ).loc Cert.ReferenceQkvIdeal.main_v4)
        = Cert.ReferenceQkvIdeal.Read.val_main_v4 (F := Ideal) (m ((c.tc : Thread Cert.ReferenceQkvIdeal.nD Cert.ReferenceQkvIdeal.τ).loc Cert.ReferenceQkvIdeal.main_arg0)) (m ((c.tc : Thread Cert.ReferenceQkvIdeal.nD Cert.ReferenceQkvIdeal.τ).loc Cert.ReferenceQkvIdeal.main_arg1))
      ∧ r.2.mem ((c.tc : Thread Cert.ReferenceQkvIdeal.nD Cert.ReferenceQkvIdeal.τ).loc Cert.ReferenceQkvIdeal.main_arg0) = m ((c.tc : Thread Cert.ReferenceQkvIdeal.nD Cert.ReferenceQkvIdeal.τ).loc Cert.ReferenceQkvIdeal.main_arg0)
      ∧ r.2.mem ((c.tc : Thread Cert.ReferenceQkvIdeal.nD Cert.ReferenceQkvIdeal.τ).loc Cert.ReferenceQkvIdeal.main_arg1) = m ((c.tc : Thread Cert.ReferenceQkvIdeal.nD Cert.ReferenceQkvIdeal.τ).loc Cert.ReferenceQkvIdeal.main_arg1) :=
  (θ_run Cert.ReferenceQkvIdeal.defs _ _).mono (fun r h c => ⟨(h c).1.trans (Cert.ReferenceQkvIdeal.Read.val_main_v4_eq _ _), (h c).2⟩)
    (Cert.ReferenceQkvIdeal.Value.run (F := Ideal) m ρ)

/-- From equal arguments the two programs end with equal results. -/
theorem qkv_same_results : Cert.algebraic_KernelQkvIdeal_ReferenceQkvIdeal := by
  pair_intro
  · run_from Cert.KernelQkvIdeal.Value.run_blocks m g
  · run_from qkv_reference_result m' g'
    exact (Cert.KernelQkvIdeal.Proj.result m c).symm

theorem gates_kernel_runs : Cert.quiescent_KernelGates := fun m ρ _ => Cert.KernelGates.Gen.frame m ρ

theorem gates_ideal_runs : Cert.quiescent_KernelGatesIdeal := fun m ρ _ => Cert.KernelGatesIdeal.Gen.frame m ρ

theorem gates_reference_runs : Cert.quiescent_ReferenceGatesIdeal := fun m ρ _ =>
  (θ_run Cert.ReferenceGatesIdeal.defs _ _).mono (fun r h => ⟨fun c => (h c).2, sem_eq_zero_of_no_sems (by decide) r.2⟩) (Cert.ReferenceGatesIdeal.Value.run (F := Ideal) m ρ)

/-- The reference's run, its result named. -/
theorem gates_reference_result (m : (ℓ : Loc Cert.ReferenceGatesIdeal.nD Cert.ReferenceGatesIdeal.τ Cert.ReferenceGatesIdeal.sig) → Buf (Elt Ideal) ℓ) (ρ : Dev Cert.ReferenceGatesIdeal.nD → PrngReg) :
    θ_run Cert.ReferenceGatesIdeal.defs (onTc (τ := Cert.ReferenceGatesIdeal.τ) (Cert.ReferenceGatesIdeal.main (F := Ideal))) ⟨m, fun _ => 0, ρ⟩ fun r => ∀ c : Dev Cert.ReferenceGatesIdeal.nD,
      r.2.mem ((c.tc : Thread Cert.ReferenceGatesIdeal.nD Cert.ReferenceGatesIdeal.τ).loc Cert.ReferenceGatesIdeal.main_v9)
        = Cert.ReferenceGatesIdeal.Read.val_main_v9 (F := Ideal) (m ((c.tc : Thread Cert.ReferenceGatesIdeal.nD Cert.ReferenceGatesIdeal.τ).loc Cert.ReferenceGatesIdeal.main_arg0)) (m ((c.tc : Thread Cert.ReferenceGatesIdeal.nD Cert.ReferenceGatesIdeal.τ).loc Cert.ReferenceGatesIdeal.main_arg1))
      ∧ r.2.mem ((c.tc : Thread Cert.ReferenceGatesIdeal.nD Cert.ReferenceGatesIdeal.τ).loc Cert.ReferenceGatesIdeal.main_arg0) = m ((c.tc : Thread Cert.ReferenceGatesIdeal.nD Cert.ReferenceGatesIdeal.τ).loc Cert.ReferenceGatesIdeal.main_arg0)
      ∧ r.2.mem ((c.tc : Thread Cert.ReferenceGatesIdeal.nD Cert.ReferenceGatesIdeal.τ).loc Cert.ReferenceGatesIdeal.main_arg1) = m ((c.tc : Thread Cert.ReferenceGatesIdeal.nD Cert.ReferenceGatesIdeal.τ).loc Cert.ReferenceGatesIdeal.main_arg1) :=
  (θ_run Cert.ReferenceGatesIdeal.defs _ _).mono (fun r h c => ⟨(h c).1.trans (Cert.ReferenceGatesIdeal.Read.val_main_v9_eq _ _), (h c).2⟩)
    (Cert.ReferenceGatesIdeal.Value.run (F := Ideal) m ρ)

/-- From equal arguments the two programs end with equal results. -/
theorem gates_same_results : Cert.algebraic_KernelGatesIdeal_ReferenceGatesIdeal := by
  pair_intro
  · run_from Cert.KernelGatesIdeal.Value.run_blocks m g
  · run_from gates_reference_result m' g'
    exact (Cert.KernelGatesIdeal.Proj.result m c).symm

end Cert.Proof.ProjClaims

end
-- ==== Proof.lean ====
/- The claims about the attention call and the two projection calls: every run of the kernel, of its ideal form and of the
   reference ends well, the ideal form keeps the kernel's meaning, and the ideal kernel and the reference compute the same
   arrays (the attention for finite inputs, the projections for all). The parts are in `Proof/Attn` and `Proof/Proj`; the
   `Claims` of each puts them together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_finite
public import proofs.«01_k».proof.Proof.Gen.KernelQkv
public import proofs.«01_k».proof.Proof.Gen.KernelQkv.Skeleton
public import proofs.«01_k».proof.Proof.Gen.KernelQkv.Launch
public import proofs.«01_k».proof.Proof.Gen.KernelQkv.Points
public import proofs.«01_k».proof.Proof.Gen.KernelQkv.Frame
public import proofs.«01_k».proof.Proof.Gen.KernelQkvIdeal
public import proofs.«01_k».proof.Proof.Gen.KernelQkvIdeal.Skeleton
public import proofs.«01_k».proof.Proof.Gen.KernelQkvIdeal.Launch
public import proofs.«01_k».proof.Proof.Gen.KernelQkvIdeal.Points
public import proofs.«01_k».proof.Proof.Gen.KernelQkvIdeal.Frame
public import proofs.«01_k».proof.Proof.Gen.ReferenceQkvIdeal
public import proofs.«01_k».proof.Proof.Gen.KernelGates
public import proofs.«01_k».proof.Proof.Gen.KernelGates.Skeleton
public import proofs.«01_k».proof.Proof.Gen.KernelGates.Launch
public import proofs.«01_k».proof.Proof.Gen.KernelGates.Points
public import proofs.«01_k».proof.Proof.Gen.KernelGates.Frame
public import proofs.«01_k».proof.Proof.Gen.KernelGatesIdeal
public import proofs.«01_k».proof.Proof.Gen.KernelGatesIdeal.Skeleton
public import proofs.«01_k».proof.Proof.Gen.KernelGatesIdeal.Launch
public import proofs.«01_k».proof.Proof.Gen.KernelGatesIdeal.Points
public import proofs.«01_k».proof.Proof.Gen.KernelGatesIdeal.Frame
public import proofs.«01_k».proof.Proof.Gen.ReferenceGatesIdeal
public import proofs.«01_k».proof.Proof.Gen.KernelQkvIdeal.Value
public import proofs.«01_k».proof.Proof.Gen.ReferenceQkvIdeal.Run
public import proofs.«01_k».proof.Proof.Gen.ReferenceQkvIdeal.Read
public import proofs.«01_k».proof.Proof.Gen.KernelGatesIdeal.Value
public import proofs.«01_k».proof.Proof.Gen.ReferenceGatesIdeal.Run
public import proofs.«01_k».proof.Proof.Gen.ReferenceGatesIdeal.Read
public import Idealize.ShloMosaic.Adequacy
public import Idealize.ShloMosaic.Init
public import proofs.«01_k».proof.Proof.Attn.Claims
public import proofs.«01_k».proof.Proof.Proj.Claims

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KernelQkv.Gen.facts, Cert.KernelQkvIdeal.Gen.facts, Cert.ReferenceQkvIdeal.Gen.facts,
  Cert.KernelGates.Gen.facts, Cert.KernelGatesIdeal.Gen.facts, Cert.ReferenceGatesIdeal.Gen.facts, Cert.Pre_finite.Gen.facts,
  AttnClaims.kernel_runs, AttnClaims.ideal_runs, AttnClaims.ideal_runs_pre, AttnClaims.reference_runs, AttnClaims.reference_runs_pre,
  ProjClaims.qkv_kernel_runs, ProjClaims.qkv_ideal_runs, ProjClaims.qkv_reference_runs,
  ProjClaims.gates_kernel_runs, ProjClaims.gates_ideal_runs, ProjClaims.gates_reference_runs,
  AttnClaims.constant_kept, AttnClaims.same_results, trivial, ProjClaims.qkv_same_results, trivial, ProjClaims.gates_same_results⟩

end Cert.Proof

end
